-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x768 : Shape := ⟨3, ![2, 2048, 768]⟩
abbrev S768x8 : Shape := ⟨2, ![768, 8]⟩
abbrev S8x768x2048 : Shape := ⟨3, ![8, 768, 2048]⟩
abbrev S8x2048x768 : Shape := ⟨3, ![8, 2048, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_

variable [Facts]

def fn {F : FTy → Type} [FloatOps F] (main_arg0 : FVec F S2x2048x768 .f32) (main_arg1 : FVec F S768x8 .f32) (main_arg2 : FVec F S8x768x2048 .f32) (main_arg3 : FVec F S8x2048x768 .f32) (main_arg4 : FVec F S8x768x2048 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  main_v8
-- ==== Kernel.lean ====
abbrev S2x2048x768 : Shape := ⟨3, ![2, 2048, 768]⟩
abbrev S768x8 : Shape := ⟨2, ![768, 8]⟩
abbrev S8x768x2048 : Shape := ⟨3, ![8, 768, 2048]⟩
abbrev S8x2048x768 : Shape := ⟨3, ![8, 2048, 768]⟩
abbrev S2x8 : Shape := ⟨2, ![2, 8]⟩
abbrev S2x768 : Shape := ⟨2, ![2, 768]⟩
abbrev S2x2x512x768 : Shape := ⟨4, ![2, 2, 512, 768]⟩
abbrev S2 : Shape := ⟨1, ![2]⟩
abbrev S1 : Shape := ⟨1, ![1]⟩
abbrev S_ : Shape := ⟨0, ![]⟩
abbrev S1x2x512x768 : Shape := ⟨4, ![1, 2, 512, 768]⟩
abbrev S2x512x768 : Shape := ⟨3, ![2, 512, 768]⟩
abbrev S2x1 : Shape := ⟨2, ![2, 1]⟩
abbrev S2x1x512x768 : Shape := ⟨4, ![2, 1, 512, 768]⟩
abbrev S2x1x768x2048 : Shape := ⟨4, ![2, 1, 768, 2048]⟩
abbrev S2x1x2048x768 : Shape := ⟨4, ![2, 1, 2048, 768]⟩
abbrev S1x1x512x768 : Shape := ⟨4, ![1, 1, 512, 768]⟩
abbrev S1x512x768 : Shape := ⟨3, ![1, 512, 768]⟩
abbrev S1x1x768x2048 : Shape := ⟨4, ![1, 1, 768, 2048]⟩
abbrev S1x768x2048 : Shape := ⟨3, ![1, 768, 2048]⟩
abbrev S1x1x2048x768 : Shape := ⟨4, ![1, 1, 2048, 768]⟩
abbrev S1x2048x768 : Shape := ⟨3, ![1, 2048, 768]⟩
abbrev S512x768 : Shape := ⟨2, ![512, 768]⟩
abbrev S768x2048 : Shape := ⟨2, ![768, 2048]⟩
abbrev S512x2048 : Shape := ⟨2, ![512, 2048]⟩
abbrev S2048x768 : Shape := ⟨2, ![2048, 768]⟩

abbrev nBuf : Space → Nat
  | .hbm => 7
  | .vmem => 9
  | .smem => 0
  | _ => 0

abbrev bufTy : (tb : Table) → Fin (tcTables nBuf tb) → BufTy
  | .hbm, ⟨0, _⟩ => ⟨S2x2048x768, .f32⟩
  | .hbm, ⟨1, _⟩ => ⟨S768x8, .f32⟩
  | .hbm, ⟨2, _⟩ => ⟨S8x768x2048, .f32⟩
  | .hbm, ⟨3, _⟩ => ⟨S8x2048x768, .f32⟩
  | .hbm, ⟨4, _⟩ => ⟨S8x768x2048, .f32⟩
  | .hbm, ⟨5, _⟩ => ⟨S2x8, .f32⟩
  | .hbm, ⟨6, _⟩ => ⟨S2x2048x768, .f32⟩
  | .local _ .vmem, ⟨0, _⟩ => ⟨S768x8, .f32⟩
  | .local _ .vmem, ⟨1, _⟩ => ⟨S2x8, .f32⟩
  | .local _ .vmem, ⟨2, _⟩ => ⟨S2x768, .f32⟩
  | .local _ .vmem, ⟨3, _⟩ => ⟨S2x2x512x768, .f32⟩
  | .local _ .vmem, ⟨4, _⟩ => ⟨S2x1x512x768, .f32⟩
  | .local _ .vmem, ⟨5, _⟩ => ⟨S2x1x768x2048, .f32⟩
  | .local _ .vmem, ⟨6, _⟩ => ⟨S2x1x768x2048, .f32⟩
  | .local _ .vmem, ⟨7, _⟩ => ⟨S2x1x2048x768, .f32⟩
  | .local _ .vmem, ⟨8, _⟩ => ⟨S2x1x2048x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_scoped6 : Ref sig .tc := ⟨.vmem, 6, rfl⟩
abbrev cc0_scoped8 : Ref sig .tc := ⟨.vmem, 7, rfl⟩
abbrev cc0_scoped10 : Ref sig .tc := ⟨.vmem, 8, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_26_r0 : BitVec 32 := 0#32
  let c2_i32_r0 : BitVec 32 := 2#32
  let v51_r0 : BitVec 32 := Scalar.remui c0_i32_26_r0 c2_i32_r0
  ![v51_r0.toNat]
def k0_off2 : Fin 4 → Nat :=
  let c0_i32_26_r0 : BitVec 32 := 0#32
  let c2_i32_r0 : BitVec 32 := 2#32
  let v51_r0 : BitVec 32 := Scalar.remui c0_i32_26_r0 c2_i32_r0
  let c0_i32_27_r0 : BitVec 32 := 0#32
  let c0_i32_28_r0 : BitVec 32 := 0#32
  let c0_i32_29_r0 : BitVec 32 := 0#32
  ![v51_r0.toNat, 0, 0, 0]
@[reducible] def k0_t1_loop : Scf.Loop 32 :=
  let c0_i32_37_r0 : BitVec 32 := 0#32
  let c4_i32_38_r0 : BitVec 32 := 4#32
  let v58_r0 : BitVec 32 := Scalar.addi c0_i32_37_r0 c4_i32_38_r0
  let c1_i32_39_r0 : BitVec 32 := 1#32
  ⟨c0_i32_37_r0, v58_r0, c1_i32_39_r0⟩
def k0_off3 (arg9_r0 : BitVec 32) : Fin 1 → Nat :=
  let c2_i32_105_r0 : BitVec 32 := 2#32
  let v144_r0 : BitVec 32 := Scalar.remui arg9_r0 c2_i32_105_r0
  ![v144_r0.toNat]
def k0_cond1 (k0_t1 : Fin k0_t1_loop.trips) (arg11_r0 : BitVec 32) : BitVec 1 :=
  let c0_i32_63_r0 : BitVec 32 := 0#32
  let v82_r0 : BitVec 32 := Scalar.addi arg11_r0 c0_i32_63_r0
  let true_70_r0 : BitVec 1 := 1#1
  let c1_i32_69_r0 : BitVec 32 := 1#32
  let v88_r0 : BitVec 32 := Scalar.addi arg11_r0 c1_i32_69_r0
  let v89_r0 : BitVec 32 := Scalar.select true_70_r0 v88_r0 arg11_r0
  let c4_i32_71_r0 : BitVec 32 := 4#32
  let v90_r0 : BitVec 1 := Scalar.cmpi .eq v89_r0 c4_i32_71_r0
  let c0_i32_72_r0 : BitVec 32 := 0#32
  let v91_r0 : BitVec 32 := Scalar.select v90_r0 c0_i32_72_r0 v89_r0
  let c0_i32_73_r0 : BitVec 32 := 0#32
  let v92_r0 : BitVec 32 := Scalar.addi v91_r0 c0_i32_73_r0
  let v98_r0 : BitVec 1 := Scalar.cmpi .ne v82_r0 v92_r0
  let c0_i32_37_r0 : BitVec 32 := 0#32
  let c1_i32_39_r0 : BitVec 32 := 1#32
  let arg8_r0 : BitVec 32 := Scf.iv c0_i32_37_r0 c1_i32_39_r0 k0_t1
  let c3_i32_79_r0 : BitVec 32 := 3#32
  let v99_r0 : BitVec 1 := Scalar.cmpi .sge arg8_r0 c3_i32_79_r0
  let true_80_r0 : BitVec 1 := 1#1
  let v100_r0 : BitVec 1 := Scalar.xori v99_r0 true_80_r0
  let v101_r0 : BitVec 1 := Scalar.andi v98_r0 v100_r0
  let true_81_r0 : BitVec 1 := 1#1
  let v102_r0 : BitVec 1 := Scalar.andi v101_r0 true_81_r0
  let v103_r0 : BitVec 32 := Scalar.extui v102_r0
  let c0_i32_82_r0 : BitVec 32 := 0#32
  let v104_r0 : BitVec 1 := Scalar.cmpi .ne v103_r0 c0_i32_82_r0
  v104_r0

def k0_off4 (arg9_r0 : BitVec 32) : Fin 4 → Nat :=
  let c2_i32_105_r0 : BitVec 32 := 2#32
  let v144_r0 : BitVec 32 := Scalar.remui arg9_r0 c2_i32_105_r0
  let c0_i32_106_r0 : BitVec 32 := 0#32
  let c0_i32_107_r0 : BitVec 32 := 0#32
  let c0_i32_108_r0 : BitVec 32 := 0#32
  ![v144_r0.toNat, 0, 0, 0]
def k0_off5 (arg11_r0 : BitVec 32) : Fin 3 → Nat :=
  let c0_i32_109_r0 : BitVec 32 := 0#32
  let c512_i32_r0 : BitVec 32 := 512#32
  let true_70_r0 : BitVec 1 := 1#1
  let c1_i32_69_r0 : BitVec 32 := 1#32
  let v88_r0 : BitVec 32 := Scalar.addi arg11_r0 c1_i32_69_r0
  let v89_r0 : BitVec 32 := Scalar.select true_70_r0 v88_r0 arg11_r0
  let c4_i32_71_r0 : BitVec 32 := 4#32
  let v90_r0 : BitVec 1 := Scalar.cmpi .eq v89_r0 c4_i32_71_r0
  let c0_i32_72_r0 : BitVec 32 := 0#32
  let v91_r0 : BitVec 32 := Scalar.select v90_r0 c0_i32_72_r0 v89_r0
  let c0_i32_73_r0 : BitVec 32 := 0#32
  let v92_r0 : BitVec 32 := Scalar.addi v91_r0 c0_i32_73_r0
  let v145_r0 : BitVec 32 := Scalar.muli c512_i32_r0 v92_r0
  let c0_i32_110_r0 : BitVec 32 := 0#32
  ![0, v145_r0.toNat, 0]
def k0_off6 (arg10_r0 : BitVec 32) : Fin 1 → Nat :=
  let c2_i32_105_r0 : BitVec 32 := 2#32
  let v145_r0 : BitVec 32 := Scalar.remui arg10_r0 c2_i32_105_r0
  ![v145_r0.toNat]
def k0_cond2 (k0_t1 : Fin k0_t1_loop.trips) (arg11_r0 : BitVec 32) : BitVec 1 :=
  let c0_i32_63_r0 : BitVec 32 := 0#32
  let v82_r0 : BitVec 32 := Scalar.addi arg11_r0 c0_i32_63_r0
  let true_65_r0 : BitVec 1 := 1#1
  let c1_i32_64_r0 : BitVec 32 := 1#32
  let v83_r0 : BitVec 32 := Scalar.subi arg11_r0 c1_i32_64_r0
  let v84_r0 : BitVec 32 := Scalar.select true_65_r0 v83_r0 arg11_r0
  let c_m1_i32_66_r0 : BitVec 32 := 4294967295#32
  let v85_r0 : BitVec 1 := Scalar.cmpi .eq v84_r0 c_m1_i32_66_r0
  let c3_i32_67_r0 : BitVec 32 := 3#32
  let v86_r0 : BitVec 32 := Scalar.select v85_r0 c3_i32_67_r0 v84_r0
  let c0_i32_68_r0 : BitVec 32 := 0#32
  let v87_r0 : BitVec 32 := Scalar.addi v86_r0 c0_i32_68_r0
  let v108_r0 : BitVec 1 := Scalar.cmpi .ne v82_r0 v87_r0
  let c0_i32_37_r0 : BitVec 32 := 0#32
  let c1_i32_39_r0 : BitVec 32 := 1#32
  let arg8_r0 : BitVec 32 := Scf.iv c0_i32_37_r0 c1_i32_39_r0 k0_t1
  let c0_i32_61_r0 : BitVec 32 := 0#32
  let v80_r0 : BitVec 1 := Scalar.cmpi .eq arg8_r0 c0_i32_61_r0
  let v109_r0 : BitVec 1 := Scalar.ori v108_r0 v80_r0
  let c0_i32_85_r0 : BitVec 32 := 0#32
  let v110_r0 : BitVec 1 := Scalar.cmpi .sge arg8_r0 c0_i32_85_r0
  let v111_r0 : BitVec 1 := Scalar.andi v109_r0 v110_r0
  let v112_r0 : BitVec 32 := Scalar.extui v111_r0
  let c0_i32_86_r0 : BitVec 32 := 0#32
  let v113_r0 : BitVec 1 := Scalar.cmpi .ne v112_r0 c0_i32_86_r0
  v113_r0

def k0_off7 (arg10_r0 : BitVec 32) : Fin 4 → Nat :=
  let c2_i32_105_r0 : BitVec 32 := 2#32
  let v145_r0 : BitVec 32 := Scalar.remui arg10_r0 c2_i32_105_r0
  let c0_i32_106_r0 : BitVec 32 := 0#32
  let c0_i32_107_r0 : BitVec 32 := 0#32
  let c0_i32_108_r0 : BitVec 32 := 0#32
  ![v145_r0.toNat, 0, 0, 0]
def k0_off8 (arg11_r0 : BitVec 32) : Fin 3 → Nat :=
  let c0_i32_109_r0 : BitVec 32 := 0#32
  let c512_i32_r0 : BitVec 32 := 512#32
  let c0_i32_63_r0 : BitVec 32 := 0#32
  let v82_r0 : BitVec 32 := Scalar.addi arg11_r0 c0_i32_63_r0
  let v144_r0 : BitVec 32 := Scalar.muli c512_i32_r0 v82_r0
  let c0_i32_110_r0 : BitVec 32 := 0#32
  ![0, v144_r0.toNat, 0]

def k0_chk1 (k0_t1 : Fin k0_t1_loop.trips) (arg9_r0 : BitVec 32) (arg10_r0 : BitVec 32) (arg11_r0 : BitVec 32) : Prop :=
  (∀ (k0_h1 : k0_cond1 k0_t1 arg11_r0 = 1#1), ∀ a, (k0_off3 arg9_r0) a + S1.size a ≤ S2.size a) ∧
  (∀ (k0_h1 : k0_cond1 k0_t1 arg11_r0 = 1#1), ∀ a, (k0_off4 arg9_r0) a + S1x2x512x768.size a ≤ S2x2x512x768.size a) ∧
  (∀ (k0_h1 : k0_cond1 k0_t1 arg11_r0 = 1#1), ∀ a, (k0_off5 arg11_r0) a + S2x512x768.size a ≤ S2x2048x768.size a) ∧
  (∀ (k0_h2 : k0_cond2 k0_t1 arg11_r0 = 1#1), ∀ a, (k0_off6 arg10_r0) a + S1.size a ≤ S2.size a) ∧
  (∀ (k0_h2 : k0_cond2 k0_t1 arg11_r0 = 1#1), ∀ a, (k0_off7 arg10_r0) a + S1x2x512x768.size a ≤ S2x2x512x768.size a) ∧
  (∀ (k0_h2 : k0_cond2 k0_t1 arg11_r0 = 1#1), ∀ a, (k0_off8 arg11_r0) a + S2x512x768.size a ≤ S2x2048x768.size a)
theorem k0_off3_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h1 : k0_cond1 k0_t1 arg11_r0 = 1#1), ∀ a, (k0_off3 arg9_r0) a + S1.size a ≤ S2.size a := fun k0_t1 arg9_r0 arg10_r0 arg11_r0 k0_hw1 k0_h1 => k0_hw1.1 k0_h1
theorem k0_off4_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h1 : k0_cond1 k0_t1 arg11_r0 = 1#1), ∀ a, (k0_off4 arg9_r0) a + S1x2x512x768.size a ≤ S2x2x512x768.size a := fun k0_t1 arg9_r0 arg10_r0 arg11_r0 k0_hw1 k0_h1 => k0_hw1.2.1 k0_h1
theorem k0_off5_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h1 : k0_cond1 k0_t1 arg11_r0 = 1#1), ∀ a, (k0_off5 arg11_r0) a + S2x512x768.size a ≤ S2x2048x768.size a := fun k0_t1 arg9_r0 arg10_r0 arg11_r0 k0_hw1 k0_h1 => k0_hw1.2.2.1 k0_h1
theorem k0_off6_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h2 : k0_cond2 k0_t1 arg11_r0 = 1#1), ∀ a, (k0_off6 arg10_r0) a + S1.size a ≤ S2.size a := fun k0_t1 arg9_r0 arg10_r0 arg11_r0 k0_hw1 k0_h2 => k0_hw1.2.2.2.1 k0_h2
theorem k0_off7_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h2 : k0_cond2 k0_t1 arg11_r0 = 1#1), ∀ a, (k0_off7 arg10_r0) a + S1x2x512x768.size a ≤ S2x2x512x768.size a := fun k0_t1 arg9_r0 arg10_r0 arg11_r0 k0_hw1 k0_h2 => k0_hw1.2.2.2.2.1 k0_h2
theorem k0_off8_inb : ∀ (k0_t1 : Fin k0_t1_loop.trips) (arg9_r0 : BitVec 32) (arg10_r0 : BitVec 32) (arg11_r0 : BitVec 32) (k0_hw1 : k0_chk1 k0_t1 arg9_r0 arg10_r0 arg11_r0), ∀ (k0_h2 : k0_cond2 k0_t1 arg11_r0 = 1#1), ∀ a, (k0_off8 arg11_r0) a + S2x512x768.size a ≤ S2x2048x768.size a := fun k0_t1 arg9_r0 arg10_r0 arg11_r0 k0_hw1 k0_h2 => k0_hw1.2.2.2.2.2 k0_h2

def k0_off9 (arg10_r0 : BitVec 32) : Fin 4 → Nat :=
  let c2_i32_87_r0 : BitVec 32 := 2#32
  let v114_r0 : BitVec 32 := Scalar.remui arg10_r0 c2_i32_87_r0
  let v115_r0 : Index := Scalar.indexCast v114_r0
  let c0_88_r0 : Index := 0#32
  let c0_89_r0 : Index := 0#32
  let c0_90_r0 : Index := 0#32
  ![v115_r0.toNat, 0, 0, 0]

def k0_chk2 (arg10_r0 : BitVec 32) : Prop :=
  (∀ a, (k0_off9 arg10_r0) a + S1x2x512x768.size a ≤ S2x2x512x768.size a)
theorem k0_off9_inb : ∀ (arg10_r0 : BitVec 32) (k0_hw2 : k0_chk2 arg10_r0), ∀ a, (k0_off9 arg10_r0) a + S1x2x512x768.size a ≤ S2x2x512x768.size a := fun arg10_r0 k0_hw2 => k0_hw2

def k0_off10 : Fin 4 → Nat :=
  let c0_i32_57_r1 : BitVec 32 := 0#32
  let c2_i32_58_r1 : BitVec 32 := 2#32
  let v81_r1 : BitVec 32 := Scalar.remui c0_i32_57_r1 c2_i32_58_r1
  let c0_i32_59_r1 : BitVec 32 := 0#32
  let c0_i32_60_r1 : BitVec 32 := 0#32
  let c0_i32_61_r1 : BitVec 32 := 0#32
  ![v81_r1.toNat, 0, 0, 0]
def k0_off11 : Fin 4 → Nat :=
  let c0_i32_67_r1 : BitVec 32 := 0#32
  let c2_i32_68_r1 : BitVec 32 := 2#32
  let v88_r1 : BitVec 32 := Scalar.remui c0_i32_67_r1 c2_i32_68_r1
  let c0_i32_73_r1 : BitVec 32 := 0#32
  let c0_i32_74_r1 : BitVec 32 := 0#32
  let c0_i32_75_r1 : BitVec 32 := 0#32
  ![v88_r1.toNat, 0, 0, 0]
def k0_off12 (v90_r1 : BitVec 32) (v92_r1 : BitVec 32) (v95_r1 : BitVec 32) (v97_r1 : BitVec 32) : Fin 3 → Nat :=
  let c1_i32_72_r1 : BitVec 32 := 1#32
  let true_71_r1 : BitVec 1 := 1#1
  let true_69_r1 : BitVec 1 := 1#1
  let v93_r1 : BitVec 32 := Scalar.select true_69_r1 v90_r1 v92_r1
  let true_70_r1 : BitVec 1 := 1#1
  let v98_r1 : BitVec 32 := Scalar.select true_70_r1 v95_r1 v97_r1
  let v99_r1 : BitVec 32 := Scalar.select true_71_r1 v93_r1 v98_r1
  let v100_r1 : BitVec 32 := Scalar.muli c1_i32_72_r1 v99_r1
  let c0_i32_76_r1 : BitVec 32 := 0#32
  let c0_i32_77_r1 : BitVec 32 := 0#32
  ![v100_r1.toNat, 0, 0]

def k0_chk3 (v90_r1 : BitVec 32) (v92_r1 : BitVec 32) (v95_r1 : BitVec 32) (v97_r1 : BitVec 32) : Prop :=
  (∀ a, (k0_off12 v90_r1 v92_r1 v95_r1 v97_r1) a + S1x768x2048.size a ≤ S8x768x2048.size a)
theorem k0_off12_inb : ∀ (v90_r1 : BitVec 32) (v92_r1 : BitVec 32) (v95_r1 : BitVec 32) (v97_r1 : BitVec 32) (k0_hw3 : k0_chk3 v90_r1 v92_r1 v95_r1 v97_r1), ∀ a, (k0_off12 v90_r1 v92_r1 v95_r1 v97_r1) a + S1x768x2048.size a ≤ S8x768x2048.size a := fun v90_r1 v92_r1 v95_r1 v97_r1 k0_hw3 => k0_hw3

def k0_off13 : Fin 1 → Nat :=
  let c0_i32_80_r1 : BitVec 32 := 0#32
  let c2_i32_81_r1 : BitVec 32 := 2#32
  let v107_r1 : BitVec 32 := Scalar.remui c0_i32_80_r1 c2_i32_81_r1
  ![v107_r1.toNat]
def k0_off14 : Fin 4 → Nat :=
  let c0_i32_80_r1 : BitVec 32 := 0#32
  let c2_i32_81_r1 : BitVec 32 := 2#32
  let v107_r1 : BitVec 32 := Scalar.remui c0_i32_80_r1 c2_i32_81_r1
  let c0_i32_86_r1 : BitVec 32 := 0#32
  let c0_i32_87_r1 : BitVec 32 := 0#32
  let c0_i32_88_r1 : BitVec 32 := 0#32
  ![v107_r1.toNat, 0, 0, 0]
def k0_off15 (v109_r1 : BitVec 32) (v111_r1 : BitVec 32) (v114_r1 : BitVec 32) (v116_r1 : BitVec 32) : Fin 3 → Nat :=
  let c1_i32_85_r1 : BitVec 32 := 1#32
  let true_84_r1 : BitVec 1 := 1#1
  let true_82_r1 : BitVec 1 := 1#1
  let v112_r1 : BitVec 32 := Scalar.select true_82_r1 v109_r1 v111_r1
  let true_83_r1 : BitVec 1 := 1#1
  let v117_r1 : BitVec 32 := Scalar.select true_83_r1 v114_r1 v116_r1
  let v118_r1 : BitVec 32 := Scalar.select true_84_r1 v112_r1 v117_r1
  let v119_r1 : BitVec 32 := Scalar.muli c1_i32_85_r1 v118_r1
  let c0_i32_89_r1 : BitVec 32 := 0#32
  let c0_i32_90_r1 : BitVec 32 := 0#32
  ![v119_r1.toNat, 0, 0]

def k0_chk4 (v109_r1 : BitVec 32) (v111_r1 : BitVec 32) (v114_r1 : BitVec 32) (v116_r1 : BitVec 32) : Prop :=
  (∀ a, (k0_off15 v109_r1 v111_r1 v114_r1 v116_r1) a + S1x768x2048.size a ≤ S8x768x2048.size a)
theorem k0_off15_inb : ∀ (v109_r1 : BitVec 32) (v111_r1 : BitVec 32) (v114_r1 : BitVec 32) (v116_r1 : BitVec 32) (k0_hw4 : k0_chk4 v109_r1 v111_r1 v114_r1 v116_r1), ∀ a, (k0_off15 v109_r1 v111_r1 v114_r1 v116_r1) a + S1x768x2048.size a ≤ S8x768x2048.size a := fun v109_r1 v111_r1 v114_r1 v116_r1 k0_hw4 => k0_hw4

def k0_off16 : Fin 1 → Nat :=
  let c0_i32_93_r1 : BitVec 32 := 0#32
  let c2_i32_94_r1 : BitVec 32 := 2#32
  let v126_r1 : BitVec 32 := Scalar.remui c0_i32_93_r1 c2_i32_94_r1
  ![v126_r1.toNat]
def k0_off17 : Fin 4 → Nat :=
  let c0_i32_93_r1 : BitVec 32 := 0#32
  let c2_i32_94_r1 : BitVec 32 := 2#32
  let v126_r1 : BitVec 32 := Scalar.remui c0_i32_93_r1 c2_i32_94_r1
  let c0_i32_99_r1 : BitVec 32 := 0#32
  let c0_i32_100_r1 : BitVec 32 := 0#32
  let c0_i32_101_r1 : BitVec 32 := 0#32
  ![v126_r1.toNat, 0, 0, 0]
def k0_off18 (v128_r1 : BitVec 32) (v130_r1 : BitVec 32) (v133_r1 : BitVec 32) (v135_r1 : BitVec 32) : Fin 3 → Nat :=
  let c1_i32_98_r1 : BitVec 32 := 1#32
  let true_97_r1 : BitVec 1 := 1#1
  let true_95_r1 : BitVec 1 := 1#1
  let v131_r1 : BitVec 32 := Scalar.select true_95_r1 v128_r1 v130_r1
  let true_96_r1 : BitVec 1 := 1#1
  let v136_r1 : BitVec 32 := Scalar.select true_96_r1 v133_r1 v135_r1
  let v137_r1 : BitVec 32 := Scalar.select true_97_r1 v131_r1 v136_r1
  let v138_r1 : BitVec 32 := Scalar.muli c1_i32_98_r1 v137_r1
  let c0_i32_102_r1 : BitVec 32 := 0#32
  let c0_i32_103_r1 : BitVec 32 := 0#32
  ![v138_r1.toNat, 0, 0]

def k0_chk5 (v128_r1 : BitVec 32) (v130_r1 : BitVec 32) (v133_r1 : BitVec 32) (v135_r1 : BitVec 32) : Prop :=
  (∀ a, (k0_off18 v128_r1 v130_r1 v133_r1 v135_r1) a + S1x2048x768.size a ≤ S8x2048x768.size a)
theorem k0_off18_inb : ∀ (v128_r1 : BitVec 32) (v130_r1 : BitVec 32) (v133_r1 : BitVec 32) (v135_r1 : BitVec 32) (k0_hw5 : k0_chk5 v128_r1 v130_r1 v133_r1 v135_r1), ∀ a, (k0_off18 v128_r1 v130_r1 v133_r1 v135_r1) a + S1x2048x768.size a ≤ S8x2048x768.size a := fun v128_r1 v130_r1 v133_r1 v135_r1 k0_hw5 => k0_hw5

@[reducible] def k0_t2_loop : Scf.Loop 32 :=
  let c0_i32_115_r1 : BitVec 32 := 0#32
  let c16_i32_r1 : BitVec 32 := 16#32
  let v145_r1 : BitVec 32 := Scalar.addi c0_i32_115_r1 c16_i32_r1
  let c1_i32_116_r1 : BitVec 32 := 1#32
  ⟨c0_i32_115_r1, v145_r1, c1_i32_116_r1⟩
def k0_off19 (arg9_r1 : BitVec 32) : Fin 1 → Nat :=
  let c2_i32_362_r1 : BitVec 32 := 2#32
  let v609_r1 : BitVec 32 := Scalar.remui arg9_r1 c2_i32_362_r1
  ![v609_r1.toNat]
def k0_cond7 (k0_t2 : Fin k0_t2_loop.trips) (arg19_r1 : BitVec 32) (arg20_r1 : BitVec 32) (arg21_r1 : BitVec 32) : BitVec 1 :=
  let c0_i32_178_r1 : BitVec 32 := 0#32
  let v216_r1 : BitVec 32 := Scalar.addi arg19_r1 c0_i32_178_r1
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let v264_r1 : BitVec 1 := Scalar.cmpi .ne v216_r1 v246_r1
  let c0_i32_180_r1 : BitVec 32 := 0#32
  let v218_r1 : BitVec 32 := Scalar.addi arg21_r1 c0_i32_180_r1
  let c0_i32_197_r1 : BitVec 32 := 0#32
  let v237_r1 : BitVec 32 := Scalar.select v236_r1 c0_i32_197_r1 v235_r1
  let c0_i32_206_r1 : BitVec 32 := 0#32
  let v248_r1 : BitVec 32 := Scalar.addi v237_r1 c0_i32_206_r1
  let v265_r1 : BitVec 1 := Scalar.cmpi .ne v218_r1 v248_r1
  let v266_r1 : BitVec 1 := Scalar.ori v264_r1 v265_r1
  let c0_i32_115_r1 : BitVec 32 := 0#32
  let c1_i32_116_r1 : BitVec 32 := 1#32
  let arg8_r1 : BitVec 32 := Scf.iv c0_i32_115_r1 c1_i32_116_r1 k0_t2
  let c15_i32_220_r1 : BitVec 32 := 15#32
  let v267_r1 : BitVec 1 := Scalar.cmpi .sge arg8_r1 c15_i32_220_r1
  let true_221_r1 : BitVec 1 := 1#1
  let v268_r1 : BitVec 1 := Scalar.xori v267_r1 true_221_r1
  let v269_r1 : BitVec 1 := Scalar.andi v266_r1 v268_r1
  let true_222_r1 : BitVec 1 := 1#1
  let v270_r1 : BitVec 1 := Scalar.andi v269_r1 true_222_r1
  let v271_r1 : BitVec 32 := Scalar.extui v270_r1
  let c0_i32_223_r1 : BitVec 32 := 0#32
  let v272_r1 : BitVec 1 := Scalar.cmpi .ne v271_r1 c0_i32_223_r1
  v272_r1

def k0_off20 (arg9_r1 : BitVec 32) : Fin 4 → Nat :=
  let c2_i32_362_r1 : BitVec 32 := 2#32
  let v609_r1 : BitVec 32 := Scalar.remui arg9_r1 c2_i32_362_r1
  let c0_i32_365_r1 : BitVec 32 := 0#32
  let c0_i32_366_r1 : BitVec 32 := 0#32
  let c0_i32_367_r1 : BitVec 32 := 0#32
  ![v609_r1.toNat, 0, 0, 0]
def k0_off21 (arg19_r1 : BitVec 32) (arg20_r1 : BitVec 32) (arg21_r1 : BitVec 32) : Fin 3 → Nat :=
  let c1_i32_363_r1 : BitVec 32 := 1#32
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let v610_r1 : BitVec 32 := Scalar.muli c1_i32_363_r1 v246_r1
  let c512_i32_364_r1 : BitVec 32 := 512#32
  let c0_i32_197_r1 : BitVec 32 := 0#32
  let v237_r1 : BitVec 32 := Scalar.select v236_r1 c0_i32_197_r1 v235_r1
  let c0_i32_206_r1 : BitVec 32 := 0#32
  let v248_r1 : BitVec 32 := Scalar.addi v237_r1 c0_i32_206_r1
  let v611_r1 : BitVec 32 := Scalar.muli c512_i32_364_r1 v248_r1
  let c0_i32_368_r1 : BitVec 32 := 0#32
  ![v610_r1.toNat, v611_r1.toNat, 0]
def k0_off22 (arg11_r1 : BitVec 32) : Fin 1 → Nat :=
  let c2_i32_362_r1 : BitVec 32 := 2#32
  let v609_r1 : BitVec 32 := Scalar.remui arg11_r1 c2_i32_362_r1
  ![v609_r1.toNat]
def k0_cond8 (k0_t2 : Fin k0_t2_loop.trips) (arg19_r1 : BitVec 32) (arg20_r1 : BitVec 32) (arg21_r1 : BitVec 32) (v278_r1 : BitVec 32) (v280_r1 : BitVec 32) (v284_r1 : BitVec 32) (v286_r1 : BitVec 32) (v292_r1 : BitVec 32) (v294_r1 : BitVec 32) (v298_r1 : BitVec 32) (v300_r1 : BitVec 32) : BitVec 1 :=
  let c0_i32_179_r1 : BitVec 32 := 0#32
  let v217_r1 : BitVec 32 := Scalar.addi arg20_r1 c0_i32_179_r1
  let c0_i32_228_r1 : BitVec 32 := 0#32
  let v288_r1 : BitVec 1 := Scalar.cmpi .eq v217_r1 c0_i32_228_r1
  let c0_i32_178_r1 : BitVec 32 := 0#32
  let v216_r1 : BitVec 32 := Scalar.addi arg19_r1 c0_i32_178_r1
  let c0_i32_226_r1 : BitVec 32 := 0#32
  let v276_r1 : BitVec 1 := Scalar.cmpi .eq v216_r1 c0_i32_226_r1
  let v281_r1 : BitVec 32 := Scalar.select v276_r1 v278_r1 v280_r1
  let c0_i32_227_r1 : BitVec 32 := 0#32
  let v282_r1 : BitVec 1 := Scalar.cmpi .eq v216_r1 c0_i32_227_r1
  let v287_r1 : BitVec 32 := Scalar.select v282_r1 v284_r1 v286_r1
  let v289_r1 : BitVec 32 := Scalar.select v288_r1 v281_r1 v287_r1
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c0_i32_200_r1 : BitVec 32 := 0#32
  let v241_r1 : BitVec 32 := Scalar.select v240_r1 c0_i32_200_r1 v239_r1
  let c0_i32_205_r1 : BitVec 32 := 0#32
  let v247_r1 : BitVec 32 := Scalar.addi v241_r1 c0_i32_205_r1
  let c0_i32_231_r1 : BitVec 32 := 0#32
  let v302_r1 : BitVec 1 := Scalar.cmpi .eq v247_r1 c0_i32_231_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let c0_i32_229_r1 : BitVec 32 := 0#32
  let v290_r1 : BitVec 1 := Scalar.cmpi .eq v246_r1 c0_i32_229_r1
  let v295_r1 : BitVec 32 := Scalar.select v290_r1 v292_r1 v294_r1
  let c0_i32_230_r1 : BitVec 32 := 0#32
  let v296_r1 : BitVec 1 := Scalar.cmpi .eq v246_r1 c0_i32_230_r1
  let v301_r1 : BitVec 32 := Scalar.select v296_r1 v298_r1 v300_r1
  let v303_r1 : BitVec 32 := Scalar.select v302_r1 v295_r1 v301_r1
  let v304_r1 : BitVec 1 := Scalar.cmpi .ne v289_r1 v303_r1
  let c0_i32_115_r1 : BitVec 32 := 0#32
  let c1_i32_116_r1 : BitVec 32 := 1#32
  let arg8_r1 : BitVec 32 := Scf.iv c0_i32_115_r1 c1_i32_116_r1 k0_t2
  let c15_i32_232_r1 : BitVec 32 := 15#32
  let v305_r1 : BitVec 1 := Scalar.cmpi .sge arg8_r1 c15_i32_232_r1
  let true_233_r1 : BitVec 1 := 1#1
  let v306_r1 : BitVec 1 := Scalar.xori v305_r1 true_233_r1
  let v307_r1 : BitVec 1 := Scalar.andi v304_r1 v306_r1
  let true_234_r1 : BitVec 1 := 1#1
  let v308_r1 : BitVec 1 := Scalar.andi v307_r1 true_234_r1
  let v309_r1 : BitVec 32 := Scalar.extui v308_r1
  let c0_i32_235_r1 : BitVec 32 := 0#32
  let v310_r1 : BitVec 1 := Scalar.cmpi .ne v309_r1 c0_i32_235_r1
  v310_r1

def k0_off23 (arg11_r1 : BitVec 32) : Fin 4 → Nat :=
  let c2_i32_362_r1 : BitVec 32 := 2#32
  let v609_r1 : BitVec 32 := Scalar.remui arg11_r1 c2_i32_362_r1
  let c0_i32_367_r1 : BitVec 32 := 0#32
  let c0_i32_368_r1 : BitVec 32 := 0#32
  let c0_i32_369_r1 : BitVec 32 := 0#32
  ![v609_r1.toNat, 0, 0, 0]

def k0_chk7 (k0_t2 : Fin k0_t2_loop.trips) (arg11_r1 : BitVec 32) (arg19_r1 : BitVec 32) (arg20_r1 : BitVec 32) (arg21_r1 : BitVec 32) (v278_r1 : BitVec 32) (v280_r1 : BitVec 32) (v284_r1 : BitVec 32) (v286_r1 : BitVec 32) (v292_r1 : BitVec 32) (v294_r1 : BitVec 32) (v298_r1 : BitVec 32) (v300_r1 : BitVec 32) : Prop :=
  (∀ (k0_h8 : k0_cond8 k0_t2 arg19_r1 arg20_r1 arg21_r1 v278_r1 v280_r1 v284_r1 v286_r1 v292_r1 v294_r1 v298_r1 v300_r1 = 1#1), ∀ a, (k0_off22 arg11_r1) a + S1.size a ≤ S2.size a) ∧
  (∀ (k0_h8 : k0_cond8 k0_t2 arg19_r1 arg20_r1 arg21_r1 v278_r1 v280_r1 v284_r1 v286_r1 v292_r1 v294_r1 v298_r1 v300_r1 = 1#1), ∀ a, (k0_off23 arg11_r1) a + S1x1x768x2048.size a ≤ S2x1x768x2048.size a)
theorem k0_off22_inb : ∀ (k0_t2 : Fin k0_t2_loop.trips) (arg11_r1 : BitVec 32) (arg19_r1 : BitVec 32) (arg20_r1 : BitVec 32) (arg21_r1 : BitVec 32) (v278_r1 : BitVec 32) (v280_r1 : BitVec 32) (v284_r1 : BitVec 32) (v286_r1 : BitVec 32) (v292_r1 : BitVec 32) (v294_r1 : BitVec 32) (v298_r1 : BitVec 32) (v300_r1 : BitVec 32) (k0_hw7 : k0_chk7 k0_t2 arg11_r1 arg19_r1 arg20_r1 arg21_r1 v278_r1 v280_r1 v284_r1 v286_r1 v292_r1 v294_r1 v298_r1 v300_r1), ∀ (k0_h8 : k0_cond8 k0_t2 arg19_r1 arg20_r1 arg21_r1 v278_r1 v280_r1 v284_r1 v286_r1 v292_r1 v294_r1 v298_r1 v300_r1 = 1#1), ∀ a, (k0_off22 arg11_r1) a + S1.size a ≤ S2.size a := fun k0_t2 arg11_r1 arg19_r1 arg20_r1 arg21_r1 v278_r1 v280_r1 v284_r1 v286_r1 v292_r1 v294_r1 v298_r1 v300_r1 k0_hw7 k0_h8 => k0_hw7.1 k0_h8
theorem k0_off23_inb : ∀ (k0_t2 : Fin k0_t2_loop.trips) (arg11_r1 : BitVec 32) (arg19_r1 : BitVec 32) (arg20_r1 : BitVec 32) (arg21_r1 : BitVec 32) (v278_r1 : BitVec 32) (v280_r1 : BitVec 32) (v284_r1 : BitVec 32) (v286_r1 : BitVec 32) (v292_r1 : BitVec 32) (v294_r1 : BitVec 32) (v298_r1 : BitVec 32) (v300_r1 : BitVec 32) (k0_hw7 : k0_chk7 k0_t2 arg11_r1 arg19_r1 arg20_r1 arg21_r1 v278_r1 v280_r1 v284_r1 v286_r1 v292_r1 v294_r1 v298_r1 v300_r1), ∀ (k0_h8 : k0_cond8 k0_t2 arg19_r1 arg20_r1 arg21_r1 v278_r1 v280_r1 v284_r1 v286_r1 v292_r1 v294_r1 v298_r1 v300_r1 = 1#1), ∀ a, (k0_off23 arg11_r1) a + S1x1x768x2048.size a ≤ S2x1x768x2048.size a := fun k0_t2 arg11_r1 arg19_r1 arg20_r1 arg21_r1 v278_r1 v280_r1 v284_r1 v286_r1 v292_r1 v294_r1 v298_r1 v300_r1 k0_hw7 k0_h8 => k0_hw7.2 k0_h8

def k0_off24 (arg19_r1 : BitVec 32) (arg20_r1 : BitVec 32) (arg21_r1 : BitVec 32) (v612_r1 : BitVec 32) (v614_r1 : BitVec 32) (v618_r1 : BitVec 32) (v620_r1 : BitVec 32) : Fin 3 → Nat :=
  let c1_i32_366_r1 : BitVec 32 := 1#32
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c0_i32_200_r1 : BitVec 32 := 0#32
  let v241_r1 : BitVec 32 := Scalar.select v240_r1 c0_i32_200_r1 v239_r1
  let c0_i32_205_r1 : BitVec 32 := 0#32
  let v247_r1 : BitVec 32 := Scalar.addi v241_r1 c0_i32_205_r1
  let c0_i32_365_r1 : BitVec 32 := 0#32
  let v622_r1 : BitVec 1 := Scalar.cmpi .eq v247_r1 c0_i32_365_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let c0_i32_363_r1 : BitVec 32 := 0#32
  let v610_r1 : BitVec 1 := Scalar.cmpi .eq v246_r1 c0_i32_363_r1
  let v615_r1 : BitVec 32 := Scalar.select v610_r1 v612_r1 v614_r1
  let c0_i32_364_r1 : BitVec 32 := 0#32
  let v616_r1 : BitVec 1 := Scalar.cmpi .eq v246_r1 c0_i32_364_r1
  let v621_r1 : BitVec 32 := Scalar.select v616_r1 v618_r1 v620_r1
  let v623_r1 : BitVec 32 := Scalar.select v622_r1 v615_r1 v621_r1
  let v624_r1 : BitVec 32 := Scalar.muli c1_i32_366_r1 v623_r1
  let c0_i32_370_r1 : BitVec 32 := 0#32
  let c0_i32_371_r1 : BitVec 32 := 0#32
  ![v624_r1.toNat, 0, 0]

def k0_chk8 (k0_t2 : Fin k0_t2_loop.trips) (arg19_r1 : BitVec 32) (arg20_r1 : BitVec 32) (arg21_r1 : BitVec 32) (v278_r1 : BitVec 32) (v280_r1 : BitVec 32) (v284_r1 : BitVec 32) (v286_r1 : BitVec 32) (v292_r1 : BitVec 32) (v294_r1 : BitVec 32) (v298_r1 : BitVec 32) (v300_r1 : BitVec 32) (v612_r1 : BitVec 32) (v614_r1 : BitVec 32) (v618_r1 : BitVec 32) (v620_r1 : BitVec 32) : Prop :=
  (∀ (k0_h8 : k0_cond8 k0_t2 arg19_r1 arg20_r1 arg21_r1 v278_r1 v280_r1 v284_r1 v286_r1 v292_r1 v294_r1 v298_r1 v300_r1 = 1#1), ∀ a, (k0_off24 arg19_r1 arg20_r1 arg21_r1 v612_r1 v614_r1 v618_r1 v620_r1) a + S1x768x2048.size a ≤ S8x768x2048.size a)
theorem k0_off24_inb : ∀ (k0_t2 : Fin k0_t2_loop.trips) (arg19_r1 : BitVec 32) (arg20_r1 : BitVec 32) (arg21_r1 : BitVec 32) (v278_r1 : BitVec 32) (v280_r1 : BitVec 32) (v284_r1 : BitVec 32) (v286_r1 : BitVec 32) (v292_r1 : BitVec 32) (v294_r1 : BitVec 32) (v298_r1 : BitVec 32) (v300_r1 : BitVec 32) (v612_r1 : BitVec 32) (v614_r1 : BitVec 32) (v618_r1 : BitVec 32) (v620_r1 : BitVec 32) (k0_hw8 : k0_chk8 k0_t2 arg19_r1 arg20_r1 arg21_r1 v278_r1 v280_r1 v284_r1 v286_r1 v292_r1 v294_r1 v298_r1 v300_r1 v612_r1 v614_r1 v618_r1 v620_r1), ∀ (k0_h8 : k0_cond8 k0_t2 arg19_r1 arg20_r1 arg21_r1 v278_r1 v280_r1 v284_r1 v286_r1 v292_r1 v294_r1 v298_r1 v300_r1 = 1#1), ∀ a, (k0_off24 arg19_r1 arg20_r1 arg21_r1 v612_r1 v614_r1 v618_r1 v620_r1) a + S1x768x2048.size a ≤ S8x768x2048.size a := fun k0_t2 arg19_r1 arg20_r1 arg21_r1 v278_r1 v280_r1 v284_r1 v286_r1 v292_r1 v294_r1 v298_r1 v300_r1 v612_r1 v614_r1 v618_r1 v620_r1 k0_hw8 k0_h8 => k0_hw8 k0_h8

def k0_off25 (arg13_r1 : BitVec 32) : Fin 1 → Nat :=
  let c2_i32_362_r1 : BitVec 32 := 2#32
  let v609_r1 : BitVec 32 := Scalar.remui arg13_r1 c2_i32_362_r1
  ![v609_r1.toNat]
def k0_cond9 (k0_t2 : Fin k0_t2_loop.trips) (arg19_r1 : BitVec 32) (arg20_r1 : BitVec 32) (arg21_r1 : BitVec 32) (v316_r1 : BitVec 32) (v318_r1 : BitVec 32) (v322_r1 : BitVec 32) (v324_r1 : BitVec 32) (v330_r1 : BitVec 32) (v332_r1 : BitVec 32) (v336_r1 : BitVec 32) (v338_r1 : BitVec 32) : BitVec 1 :=
  let c0_i32_179_r1 : BitVec 32 := 0#32
  let v217_r1 : BitVec 32 := Scalar.addi arg20_r1 c0_i32_179_r1
  let c0_i32_240_r1 : BitVec 32 := 0#32
  let v326_r1 : BitVec 1 := Scalar.cmpi .eq v217_r1 c0_i32_240_r1
  let c0_i32_178_r1 : BitVec 32 := 0#32
  let v216_r1 : BitVec 32 := Scalar.addi arg19_r1 c0_i32_178_r1
  let c0_i32_238_r1 : BitVec 32 := 0#32
  let v314_r1 : BitVec 1 := Scalar.cmpi .eq v216_r1 c0_i32_238_r1
  let v319_r1 : BitVec 32 := Scalar.select v314_r1 v316_r1 v318_r1
  let c0_i32_239_r1 : BitVec 32 := 0#32
  let v320_r1 : BitVec 1 := Scalar.cmpi .eq v216_r1 c0_i32_239_r1
  let v325_r1 : BitVec 32 := Scalar.select v320_r1 v322_r1 v324_r1
  let v327_r1 : BitVec 32 := Scalar.select v326_r1 v319_r1 v325_r1
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c0_i32_200_r1 : BitVec 32 := 0#32
  let v241_r1 : BitVec 32 := Scalar.select v240_r1 c0_i32_200_r1 v239_r1
  let c0_i32_205_r1 : BitVec 32 := 0#32
  let v247_r1 : BitVec 32 := Scalar.addi v241_r1 c0_i32_205_r1
  let c0_i32_243_r1 : BitVec 32 := 0#32
  let v340_r1 : BitVec 1 := Scalar.cmpi .eq v247_r1 c0_i32_243_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let c0_i32_241_r1 : BitVec 32 := 0#32
  let v328_r1 : BitVec 1 := Scalar.cmpi .eq v246_r1 c0_i32_241_r1
  let v333_r1 : BitVec 32 := Scalar.select v328_r1 v330_r1 v332_r1
  let c0_i32_242_r1 : BitVec 32 := 0#32
  let v334_r1 : BitVec 1 := Scalar.cmpi .eq v246_r1 c0_i32_242_r1
  let v339_r1 : BitVec 32 := Scalar.select v334_r1 v336_r1 v338_r1
  let v341_r1 : BitVec 32 := Scalar.select v340_r1 v333_r1 v339_r1
  let v342_r1 : BitVec 1 := Scalar.cmpi .ne v327_r1 v341_r1
  let c0_i32_115_r1 : BitVec 32 := 0#32
  let c1_i32_116_r1 : BitVec 32 := 1#32
  let arg8_r1 : BitVec 32 := Scf.iv c0_i32_115_r1 c1_i32_116_r1 k0_t2
  let c15_i32_244_r1 : BitVec 32 := 15#32
  let v343_r1 : BitVec 1 := Scalar.cmpi .sge arg8_r1 c15_i32_244_r1
  let true_245_r1 : BitVec 1 := 1#1
  let v344_r1 : BitVec 1 := Scalar.xori v343_r1 true_245_r1
  let v345_r1 : BitVec 1 := Scalar.andi v342_r1 v344_r1
  let true_246_r1 : BitVec 1 := 1#1
  let v346_r1 : BitVec 1 := Scalar.andi v345_r1 true_246_r1
  let v347_r1 : BitVec 32 := Scalar.extui v346_r1
  let c0_i32_247_r1 : BitVec 32 := 0#32
  let v348_r1 : BitVec 1 := Scalar.cmpi .ne v347_r1 c0_i32_247_r1
  v348_r1

def k0_off26 (arg13_r1 : BitVec 32) : Fin 4 → Nat :=
  let c2_i32_362_r1 : BitVec 32 := 2#32
  let v609_r1 : BitVec 32 := Scalar.remui arg13_r1 c2_i32_362_r1
  let c0_i32_367_r1 : BitVec 32 := 0#32
  let c0_i32_368_r1 : BitVec 32 := 0#32
  let c0_i32_369_r1 : BitVec 32 := 0#32
  ![v609_r1.toNat, 0, 0, 0]

def k0_chk9 (k0_t2 : Fin k0_t2_loop.trips) (arg13_r1 : BitVec 32) (arg19_r1 : BitVec 32) (arg20_r1 : BitVec 32) (arg21_r1 : BitVec 32) (v316_r1 : BitVec 32) (v318_r1 : BitVec 32) (v322_r1 : BitVec 32) (v324_r1 : BitVec 32) (v330_r1 : BitVec 32) (v332_r1 : BitVec 32) (v336_r1 : BitVec 32) (v338_r1 : BitVec 32) : Prop :=
  (∀ (k0_h9 : k0_cond9 k0_t2 arg19_r1 arg20_r1 arg21_r1 v316_r1 v318_r1 v322_r1 v324_r1 v330_r1 v332_r1 v336_r1 v338_r1 = 1#1), ∀ a, (k0_off25 arg13_r1) a + S1.size a ≤ S2.size a) ∧
  (∀ (k0_h9 : k0_cond9 k0_t2 arg19_r1 arg20_r1 arg21_r1 v316_r1 v318_r1 v322_r1 v324_r1 v330_r1 v332_r1 v336_r1 v338_r1 = 1#1), ∀ a, (k0_off26 arg13_r1) a + S1x1x768x2048.size a ≤ S2x1x768x2048.size a)
theorem k0_off25_inb : ∀ (k0_t2 : Fin k0_t2_loop.trips) (arg13_r1 : BitVec 32) (arg19_r1 : BitVec 32) (arg20_r1 : BitVec 32) (arg21_r1 : BitVec 32) (v316_r1 : BitVec 32) (v318_r1 : BitVec 32) (v322_r1 : BitVec 32) (v324_r1 : BitVec 32) (v330_r1 : BitVec 32) (v332_r1 : BitVec 32) (v336_r1 : BitVec 32) (v338_r1 : BitVec 32) (k0_hw9 : k0_chk9 k0_t2 arg13_r1 arg19_r1 arg20_r1 arg21_r1 v316_r1 v318_r1 v322_r1 v324_r1 v330_r1 v332_r1 v336_r1 v338_r1), ∀ (k0_h9 : k0_cond9 k0_t2 arg19_r1 arg20_r1 arg21_r1 v316_r1 v318_r1 v322_r1 v324_r1 v330_r1 v332_r1 v336_r1 v338_r1 = 1#1), ∀ a, (k0_off25 arg13_r1) a + S1.size a ≤ S2.size a := fun k0_t2 arg13_r1 arg19_r1 arg20_r1 arg21_r1 v316_r1 v318_r1 v322_r1 v324_r1 v330_r1 v332_r1 v336_r1 v338_r1 k0_hw9 k0_h9 => k0_hw9.1 k0_h9
theorem k0_off26_inb : ∀ (k0_t2 : Fin k0_t2_loop.trips) (arg13_r1 : BitVec 32) (arg19_r1 : BitVec 32) (arg20_r1 : BitVec 32) (arg21_r1 : BitVec 32) (v316_r1 : BitVec 32) (v318_r1 : BitVec 32) (v322_r1 : BitVec 32) (v324_r1 : BitVec 32) (v330_r1 : BitVec 32) (v332_r1 : BitVec 32) (v336_r1 : BitVec 32) (v338_r1 : BitVec 32) (k0_hw9 : k0_chk9 k0_t2 arg13_r1 arg19_r1 arg20_r1 arg21_r1 v316_r1 v318_r1 v322_r1 v324_r1 v330_r1 v332_r1 v336_r1 v338_r1), ∀ (k0_h9 : k0_cond9 k0_t2 arg19_r1 arg20_r1 arg21_r1 v316_r1 v318_r1 v322_r1 v324_r1 v330_r1 v332_r1 v336_r1 v338_r1 = 1#1), ∀ a, (k0_off26 arg13_r1) a + S1x1x768x2048.size a ≤ S2x1x768x2048.size a := fun k0_t2 arg13_r1 arg19_r1 arg20_r1 arg21_r1 v316_r1 v318_r1 v322_r1 v324_r1 v330_r1 v332_r1 v336_r1 v338_r1 k0_hw9 k0_h9 => k0_hw9.2 k0_h9

def k0_off27 (arg19_r1 : BitVec 32) (arg20_r1 : BitVec 32) (arg21_r1 : BitVec 32) (v612_r1 : BitVec 32) (v614_r1 : BitVec 32) (v618_r1 : BitVec 32) (v620_r1 : BitVec 32) : Fin 3 → Nat :=
  let c1_i32_366_r1 : BitVec 32 := 1#32
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c0_i32_200_r1 : BitVec 32 := 0#32
  let v241_r1 : BitVec 32 := Scalar.select v240_r1 c0_i32_200_r1 v239_r1
  let c0_i32_205_r1 : BitVec 32 := 0#32
  let v247_r1 : BitVec 32 := Scalar.addi v241_r1 c0_i32_205_r1
  let c0_i32_365_r1 : BitVec 32 := 0#32
  let v622_r1 : BitVec 1 := Scalar.cmpi .eq v247_r1 c0_i32_365_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let c0_i32_363_r1 : BitVec 32 := 0#32
  let v610_r1 : BitVec 1 := Scalar.cmpi .eq v246_r1 c0_i32_363_r1
  let v615_r1 : BitVec 32 := Scalar.select v610_r1 v612_r1 v614_r1
  let c0_i32_364_r1 : BitVec 32 := 0#32
  let v616_r1 : BitVec 1 := Scalar.cmpi .eq v246_r1 c0_i32_364_r1
  let v621_r1 : BitVec 32 := Scalar.select v616_r1 v618_r1 v620_r1
  let v623_r1 : BitVec 32 := Scalar.select v622_r1 v615_r1 v621_r1
  let v624_r1 : BitVec 32 := Scalar.muli c1_i32_366_r1 v623_r1
  let c0_i32_370_r1 : BitVec 32 := 0#32
  let c0_i32_371_r1 : BitVec 32 := 0#32
  ![v624_r1.toNat, 0, 0]

def k0_chk10 (k0_t2 : Fin k0_t2_loop.trips) (arg19_r1 : BitVec 32) (arg20_r1 : BitVec 32) (arg21_r1 : BitVec 32) (v316_r1 : BitVec 32) (v318_r1 : BitVec 32) (v322_r1 : BitVec 32) (v324_r1 : BitVec 32) (v330_r1 : BitVec 32) (v332_r1 : BitVec 32) (v336_r1 : BitVec 32) (v338_r1 : BitVec 32) (v612_r1 : BitVec 32) (v614_r1 : BitVec 32) (v618_r1 : BitVec 32) (v620_r1 : BitVec 32) : Prop :=
  (∀ (k0_h9 : k0_cond9 k0_t2 arg19_r1 arg20_r1 arg21_r1 v316_r1 v318_r1 v322_r1 v324_r1 v330_r1 v332_r1 v336_r1 v338_r1 = 1#1), ∀ a, (k0_off27 arg19_r1 arg20_r1 arg21_r1 v612_r1 v614_r1 v618_r1 v620_r1) a + S1x768x2048.size a ≤ S8x768x2048.size a)
theorem k0_off27_inb : ∀ (k0_t2 : Fin k0_t2_loop.trips) (arg19_r1 : BitVec 32) (arg20_r1 : BitVec 32) (arg21_r1 : BitVec 32) (v316_r1 : BitVec 32) (v318_r1 : BitVec 32) (v322_r1 : BitVec 32) (v324_r1 : BitVec 32) (v330_r1 : BitVec 32) (v332_r1 : BitVec 32) (v336_r1 : BitVec 32) (v338_r1 : BitVec 32) (v612_r1 : BitVec 32) (v614_r1 : BitVec 32) (v618_r1 : BitVec 32) (v620_r1 : BitVec 32) (k0_hw10 : k0_chk10 k0_t2 arg19_r1 arg20_r1 arg21_r1 v316_r1 v318_r1 v322_r1 v324_r1 v330_r1 v332_r1 v336_r1 v338_r1 v612_r1 v614_r1 v618_r1 v620_r1), ∀ (k0_h9 : k0_cond9 k0_t2 arg19_r1 arg20_r1 arg21_r1 v316_r1 v318_r1 v322_r1 v324_r1 v330_r1 v332_r1 v336_r1 v338_r1 = 1#1), ∀ a, (k0_off27 arg19_r1 arg20_r1 arg21_r1 v612_r1 v614_r1 v618_r1 v620_r1) a + S1x768x2048.size a ≤ S8x768x2048.size a := fun k0_t2 arg19_r1 arg20_r1 arg21_r1 v316_r1 v318_r1 v322_r1 v324_r1 v330_r1 v332_r1 v336_r1 v338_r1 v612_r1 v614_r1 v618_r1 v620_r1 k0_hw10 k0_h9 => k0_hw10 k0_h9

def k0_off28 (arg15_r1 : BitVec 32) : Fin 1 → Nat :=
  let c2_i32_362_r1 : BitVec 32 := 2#32
  let v609_r1 : BitVec 32 := Scalar.remui arg15_r1 c2_i32_362_r1
  ![v609_r1.toNat]
def k0_cond10 (k0_t2 : Fin k0_t2_loop.trips) (arg19_r1 : BitVec 32) (arg20_r1 : BitVec 32) (arg21_r1 : BitVec 32) (v354_r1 : BitVec 32) (v356_r1 : BitVec 32) (v360_r1 : BitVec 32) (v362_r1 : BitVec 32) (v368_r1 : BitVec 32) (v370_r1 : BitVec 32) (v374_r1 : BitVec 32) (v376_r1 : BitVec 32) : BitVec 1 :=
  let c0_i32_179_r1 : BitVec 32 := 0#32
  let v217_r1 : BitVec 32 := Scalar.addi arg20_r1 c0_i32_179_r1
  let c0_i32_252_r1 : BitVec 32 := 0#32
  let v364_r1 : BitVec 1 := Scalar.cmpi .eq v217_r1 c0_i32_252_r1
  let c0_i32_178_r1 : BitVec 32 := 0#32
  let v216_r1 : BitVec 32 := Scalar.addi arg19_r1 c0_i32_178_r1
  let c0_i32_250_r1 : BitVec 32 := 0#32
  let v352_r1 : BitVec 1 := Scalar.cmpi .eq v216_r1 c0_i32_250_r1
  let v357_r1 : BitVec 32 := Scalar.select v352_r1 v354_r1 v356_r1
  let c0_i32_251_r1 : BitVec 32 := 0#32
  let v358_r1 : BitVec 1 := Scalar.cmpi .eq v216_r1 c0_i32_251_r1
  let v363_r1 : BitVec 32 := Scalar.select v358_r1 v360_r1 v362_r1
  let v365_r1 : BitVec 32 := Scalar.select v364_r1 v357_r1 v363_r1
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c0_i32_200_r1 : BitVec 32 := 0#32
  let v241_r1 : BitVec 32 := Scalar.select v240_r1 c0_i32_200_r1 v239_r1
  let c0_i32_205_r1 : BitVec 32 := 0#32
  let v247_r1 : BitVec 32 := Scalar.addi v241_r1 c0_i32_205_r1
  let c0_i32_255_r1 : BitVec 32 := 0#32
  let v378_r1 : BitVec 1 := Scalar.cmpi .eq v247_r1 c0_i32_255_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let c0_i32_253_r1 : BitVec 32 := 0#32
  let v366_r1 : BitVec 1 := Scalar.cmpi .eq v246_r1 c0_i32_253_r1
  let v371_r1 : BitVec 32 := Scalar.select v366_r1 v368_r1 v370_r1
  let c0_i32_254_r1 : BitVec 32 := 0#32
  let v372_r1 : BitVec 1 := Scalar.cmpi .eq v246_r1 c0_i32_254_r1
  let v377_r1 : BitVec 32 := Scalar.select v372_r1 v374_r1 v376_r1
  let v379_r1 : BitVec 32 := Scalar.select v378_r1 v371_r1 v377_r1
  let v380_r1 : BitVec 1 := Scalar.cmpi .ne v365_r1 v379_r1
  let c0_i32_115_r1 : BitVec 32 := 0#32
  let c1_i32_116_r1 : BitVec 32 := 1#32
  let arg8_r1 : BitVec 32 := Scf.iv c0_i32_115_r1 c1_i32_116_r1 k0_t2
  let c15_i32_256_r1 : BitVec 32 := 15#32
  let v381_r1 : BitVec 1 := Scalar.cmpi .sge arg8_r1 c15_i32_256_r1
  let true_257_r1 : BitVec 1 := 1#1
  let v382_r1 : BitVec 1 := Scalar.xori v381_r1 true_257_r1
  let v383_r1 : BitVec 1 := Scalar.andi v380_r1 v382_r1
  let true_258_r1 : BitVec 1 := 1#1
  let v384_r1 : BitVec 1 := Scalar.andi v383_r1 true_258_r1
  let v385_r1 : BitVec 32 := Scalar.extui v384_r1
  let c0_i32_259_r1 : BitVec 32 := 0#32
  let v386_r1 : BitVec 1 := Scalar.cmpi .ne v385_r1 c0_i32_259_r1
  v386_r1

def k0_off29 (arg15_r1 : BitVec 32) : Fin 4 → Nat :=
  let c2_i32_362_r1 : BitVec 32 := 2#32
  let v609_r1 : BitVec 32 := Scalar.remui arg15_r1 c2_i32_362_r1
  let c0_i32_367_r1 : BitVec 32 := 0#32
  let c0_i32_368_r1 : BitVec 32 := 0#32
  let c0_i32_369_r1 : BitVec 32 := 0#32
  ![v609_r1.toNat, 0, 0, 0]

def k0_chk11 (k0_t2 : Fin k0_t2_loop.trips) (arg15_r1 : BitVec 32) (arg19_r1 : BitVec 32) (arg20_r1 : BitVec 32) (arg21_r1 : BitVec 32) (v354_r1 : BitVec 32) (v356_r1 : BitVec 32) (v360_r1 : BitVec 32) (v362_r1 : BitVec 32) (v368_r1 : BitVec 32) (v370_r1 : BitVec 32) (v374_r1 : BitVec 32) (v376_r1 : BitVec 32) : Prop :=
  (∀ (k0_h10 : k0_cond10 k0_t2 arg19_r1 arg20_r1 arg21_r1 v354_r1 v356_r1 v360_r1 v362_r1 v368_r1 v370_r1 v374_r1 v376_r1 = 1#1), ∀ a, (k0_off28 arg15_r1) a + S1.size a ≤ S2.size a) ∧
  (∀ (k0_h10 : k0_cond10 k0_t2 arg19_r1 arg20_r1 arg21_r1 v354_r1 v356_r1 v360_r1 v362_r1 v368_r1 v370_r1 v374_r1 v376_r1 = 1#1), ∀ a, (k0_off29 arg15_r1) a + S1x1x2048x768.size a ≤ S2x1x2048x768.size a)
theorem k0_off28_inb : ∀ (k0_t2 : Fin k0_t2_loop.trips) (arg15_r1 : BitVec 32) (arg19_r1 : BitVec 32) (arg20_r1 : BitVec 32) (arg21_r1 : BitVec 32) (v354_r1 : BitVec 32) (v356_r1 : BitVec 32) (v360_r1 : BitVec 32) (v362_r1 : BitVec 32) (v368_r1 : BitVec 32) (v370_r1 : BitVec 32) (v374_r1 : BitVec 32) (v376_r1 : BitVec 32) (k0_hw11 : k0_chk11 k0_t2 arg15_r1 arg19_r1 arg20_r1 arg21_r1 v354_r1 v356_r1 v360_r1 v362_r1 v368_r1 v370_r1 v374_r1 v376_r1), ∀ (k0_h10 : k0_cond10 k0_t2 arg19_r1 arg20_r1 arg21_r1 v354_r1 v356_r1 v360_r1 v362_r1 v368_r1 v370_r1 v374_r1 v376_r1 = 1#1), ∀ a, (k0_off28 arg15_r1) a + S1.size a ≤ S2.size a := fun k0_t2 arg15_r1 arg19_r1 arg20_r1 arg21_r1 v354_r1 v356_r1 v360_r1 v362_r1 v368_r1 v370_r1 v374_r1 v376_r1 k0_hw11 k0_h10 => k0_hw11.1 k0_h10
theorem k0_off29_inb : ∀ (k0_t2 : Fin k0_t2_loop.trips) (arg15_r1 : BitVec 32) (arg19_r1 : BitVec 32) (arg20_r1 : BitVec 32) (arg21_r1 : BitVec 32) (v354_r1 : BitVec 32) (v356_r1 : BitVec 32) (v360_r1 : BitVec 32) (v362_r1 : BitVec 32) (v368_r1 : BitVec 32) (v370_r1 : BitVec 32) (v374_r1 : BitVec 32) (v376_r1 : BitVec 32) (k0_hw11 : k0_chk11 k0_t2 arg15_r1 arg19_r1 arg20_r1 arg21_r1 v354_r1 v356_r1 v360_r1 v362_r1 v368_r1 v370_r1 v374_r1 v376_r1), ∀ (k0_h10 : k0_cond10 k0_t2 arg19_r1 arg20_r1 arg21_r1 v354_r1 v356_r1 v360_r1 v362_r1 v368_r1 v370_r1 v374_r1 v376_r1 = 1#1), ∀ a, (k0_off29 arg15_r1) a + S1x1x2048x768.size a ≤ S2x1x2048x768.size a := fun k0_t2 arg15_r1 arg19_r1 arg20_r1 arg21_r1 v354_r1 v356_r1 v360_r1 v362_r1 v368_r1 v370_r1 v374_r1 v376_r1 k0_hw11 k0_h10 => k0_hw11.2 k0_h10

def k0_off30 (arg19_r1 : BitVec 32) (arg20_r1 : BitVec 32) (arg21_r1 : BitVec 32) (v612_r1 : BitVec 32) (v614_r1 : BitVec 32) (v618_r1 : BitVec 32) (v620_r1 : BitVec 32) : Fin 3 → Nat :=
  let c1_i32_366_r1 : BitVec 32 := 1#32
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c0_i32_200_r1 : BitVec 32 := 0#32
  let v241_r1 : BitVec 32 := Scalar.select v240_r1 c0_i32_200_r1 v239_r1
  let c0_i32_205_r1 : BitVec 32 := 0#32
  let v247_r1 : BitVec 32 := Scalar.addi v241_r1 c0_i32_205_r1
  let c0_i32_365_r1 : BitVec 32 := 0#32
  let v622_r1 : BitVec 1 := Scalar.cmpi .eq v247_r1 c0_i32_365_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let c0_i32_363_r1 : BitVec 32 := 0#32
  let v610_r1 : BitVec 1 := Scalar.cmpi .eq v246_r1 c0_i32_363_r1
  let v615_r1 : BitVec 32 := Scalar.select v610_r1 v612_r1 v614_r1
  let c0_i32_364_r1 : BitVec 32 := 0#32
  let v616_r1 : BitVec 1 := Scalar.cmpi .eq v246_r1 c0_i32_364_r1
  let v621_r1 : BitVec 32 := Scalar.select v616_r1 v618_r1 v620_r1
  let v623_r1 : BitVec 32 := Scalar.select v622_r1 v615_r1 v621_r1
  let v624_r1 : BitVec 32 := Scalar.muli c1_i32_366_r1 v623_r1
  let c0_i32_370_r1 : BitVec 32 := 0#32
  let c0_i32_371_r1 : BitVec 32 := 0#32
  ![v624_r1.toNat, 0, 0]

def k0_chk12 (k0_t2 : Fin k0_t2_loop.trips) (arg19_r1 : BitVec 32) (arg20_r1 : BitVec 32) (arg21_r1 : BitVec 32) (v354_r1 : BitVec 32) (v356_r1 : BitVec 32) (v360_r1 : BitVec 32) (v362_r1 : BitVec 32) (v368_r1 : BitVec 32) (v370_r1 : BitVec 32) (v374_r1 : BitVec 32) (v376_r1 : BitVec 32) (v612_r1 : BitVec 32) (v614_r1 : BitVec 32) (v618_r1 : BitVec 32) (v620_r1 : BitVec 32) : Prop :=
  (∀ (k0_h10 : k0_cond10 k0_t2 arg19_r1 arg20_r1 arg21_r1 v354_r1 v356_r1 v360_r1 v362_r1 v368_r1 v370_r1 v374_r1 v376_r1 = 1#1), ∀ a, (k0_off30 arg19_r1 arg20_r1 arg21_r1 v612_r1 v614_r1 v618_r1 v620_r1) a + S1x2048x768.size a ≤ S8x2048x768.size a)
theorem k0_off30_inb : ∀ (k0_t2 : Fin k0_t2_loop.trips) (arg19_r1 : BitVec 32) (arg20_r1 : BitVec 32) (arg21_r1 : BitVec 32) (v354_r1 : BitVec 32) (v356_r1 : BitVec 32) (v360_r1 : BitVec 32) (v362_r1 : BitVec 32) (v368_r1 : BitVec 32) (v370_r1 : BitVec 32) (v374_r1 : BitVec 32) (v376_r1 : BitVec 32) (v612_r1 : BitVec 32) (v614_r1 : BitVec 32) (v618_r1 : BitVec 32) (v620_r1 : BitVec 32) (k0_hw12 : k0_chk12 k0_t2 arg19_r1 arg20_r1 arg21_r1 v354_r1 v356_r1 v360_r1 v362_r1 v368_r1 v370_r1 v374_r1 v376_r1 v612_r1 v614_r1 v618_r1 v620_r1), ∀ (k0_h10 : k0_cond10 k0_t2 arg19_r1 arg20_r1 arg21_r1 v354_r1 v356_r1 v360_r1 v362_r1 v368_r1 v370_r1 v374_r1 v376_r1 = 1#1), ∀ a, (k0_off30 arg19_r1 arg20_r1 arg21_r1 v612_r1 v614_r1 v618_r1 v620_r1) a + S1x2048x768.size a ≤ S8x2048x768.size a := fun k0_t2 arg19_r1 arg20_r1 arg21_r1 v354_r1 v356_r1 v360_r1 v362_r1 v368_r1 v370_r1 v374_r1 v376_r1 v612_r1 v614_r1 v618_r1 v620_r1 k0_hw12 k0_h10 => k0_hw12 k0_h10

def k0_off31 (arg10_r1 : BitVec 32) : Fin 1 → Nat :=
  let c2_i32_364_r1 : BitVec 32 := 2#32
  let v611_r1 : BitVec 32 := Scalar.remui arg10_r1 c2_i32_364_r1
  ![v611_r1.toNat]
def k0_cond11 (k0_t2 : Fin k0_t2_loop.trips) (arg19_r1 : BitVec 32) (arg20_r1 : BitVec 32) (arg21_r1 : BitVec 32) : BitVec 1 :=
  let c0_i32_178_r1 : BitVec 32 := 0#32
  let v216_r1 : BitVec 32 := Scalar.addi arg19_r1 c0_i32_178_r1
  let true_182_r1 : BitVec 1 := 1#1
  let c1_i32_181_r1 : BitVec 32 := 1#32
  let v219_r1 : BitVec 32 := Scalar.subi arg21_r1 c1_i32_181_r1
  let v220_r1 : BitVec 32 := Scalar.select true_182_r1 v219_r1 arg21_r1
  let c_m1_i32_183_r1 : BitVec 32 := 4294967295#32
  let v221_r1 : BitVec 1 := Scalar.cmpi .eq v220_r1 c_m1_i32_183_r1
  let c1_i32_185_r1 : BitVec 32 := 1#32
  let v223_r1 : BitVec 32 := Scalar.subi arg20_r1 c1_i32_185_r1
  let v224_r1 : BitVec 32 := Scalar.select v221_r1 v223_r1 arg20_r1
  let c_m1_i32_186_r1 : BitVec 32 := 4294967295#32
  let v225_r1 : BitVec 1 := Scalar.cmpi .eq v224_r1 c_m1_i32_186_r1
  let c1_i32_188_r1 : BitVec 32 := 1#32
  let v227_r1 : BitVec 32 := Scalar.subi arg19_r1 c1_i32_188_r1
  let v228_r1 : BitVec 32 := Scalar.select v225_r1 v227_r1 arg19_r1
  let c_m1_i32_189_r1 : BitVec 32 := 4294967295#32
  let v229_r1 : BitVec 1 := Scalar.cmpi .eq v228_r1 c_m1_i32_189_r1
  let c1_i32_190_r1 : BitVec 32 := 1#32
  let v230_r1 : BitVec 32 := Scalar.select v229_r1 c1_i32_190_r1 v228_r1
  let c0_i32_191_r1 : BitVec 32 := 0#32
  let v231_r1 : BitVec 32 := Scalar.addi v230_r1 c0_i32_191_r1
  let v394_r1 : BitVec 1 := Scalar.cmpi .ne v216_r1 v231_r1
  let c0_i32_180_r1 : BitVec 32 := 0#32
  let v218_r1 : BitVec 32 := Scalar.addi arg21_r1 c0_i32_180_r1
  let c3_i32_184_r1 : BitVec 32 := 3#32
  let v222_r1 : BitVec 32 := Scalar.select v221_r1 c3_i32_184_r1 v220_r1
  let c0_i32_193_r1 : BitVec 32 := 0#32
  let v233_r1 : BitVec 32 := Scalar.addi v222_r1 c0_i32_193_r1
  let v395_r1 : BitVec 1 := Scalar.cmpi .ne v218_r1 v233_r1
  let v396_r1 : BitVec 1 := Scalar.ori v394_r1 v395_r1
  let c0_i32_115_r1 : BitVec 32 := 0#32
  let c1_i32_116_r1 : BitVec 32 := 1#32
  let arg8_r1 : BitVec 32 := Scf.iv c0_i32_115_r1 c1_i32_116_r1 k0_t2
  let c0_i32_177_r1 : BitVec 32 := 0#32
  let v214_r1 : BitVec 1 := Scalar.cmpi .eq arg8_r1 c0_i32_177_r1
  let v397_r1 : BitVec 1 := Scalar.ori v396_r1 v214_r1
  let c0_i32_264_r1 : BitVec 32 := 0#32
  let v398_r1 : BitVec 1 := Scalar.cmpi .sge arg8_r1 c0_i32_264_r1
  let v399_r1 : BitVec 1 := Scalar.andi v397_r1 v398_r1
  let v400_r1 : BitVec 32 := Scalar.extui v399_r1
  let c0_i32_265_r1 : BitVec 32 := 0#32
  let v401_r1 : BitVec 1 := Scalar.cmpi .ne v400_r1 c0_i32_265_r1
  v401_r1

def k0_off32 (arg10_r1 : BitVec 32) : Fin 4 → Nat :=
  let c2_i32_364_r1 : BitVec 32 := 2#32
  let v611_r1 : BitVec 32 := Scalar.remui arg10_r1 c2_i32_364_r1
  let c0_i32_365_r1 : BitVec 32 := 0#32
  let c0_i32_366_r1 : BitVec 32 := 0#32
  let c0_i32_367_r1 : BitVec 32 := 0#32
  ![v611_r1.toNat, 0, 0, 0]
def k0_off33 (arg19_r1 : BitVec 32) (arg21_r1 : BitVec 32) : Fin 3 → Nat :=
  let c1_i32_362_r1 : BitVec 32 := 1#32
  let c0_i32_178_r1 : BitVec 32 := 0#32
  let v216_r1 : BitVec 32 := Scalar.addi arg19_r1 c0_i32_178_r1
  let v609_r1 : BitVec 32 := Scalar.muli c1_i32_362_r1 v216_r1
  let c512_i32_363_r1 : BitVec 32 := 512#32
  let c0_i32_180_r1 : BitVec 32 := 0#32
  let v218_r1 : BitVec 32 := Scalar.addi arg21_r1 c0_i32_180_r1
  let v610_r1 : BitVec 32 := Scalar.muli c512_i32_363_r1 v218_r1
  let c0_i32_368_r1 : BitVec 32 := 0#32
  ![v609_r1.toNat, v610_r1.toNat, 0]
def k0_off34 (arg12_r1 : BitVec 32) : Fin 1 → Nat :=
  let c2_i32_366_r1 : BitVec 32 := 2#32
  let v624_r1 : BitVec 32 := Scalar.remui arg12_r1 c2_i32_366_r1
  ![v624_r1.toNat]
def k0_cond12 (k0_t2 : Fin k0_t2_loop.trips) (arg19_r1 : BitVec 32) (arg20_r1 : BitVec 32) (arg21_r1 : BitVec 32) (v278_r1 : BitVec 32) (v280_r1 : BitVec 32) (v284_r1 : BitVec 32) (v286_r1 : BitVec 32) (v404_r1 : BitVec 32) (v406_r1 : BitVec 32) (v410_r1 : BitVec 32) (v412_r1 : BitVec 32) : BitVec 1 :=
  let c0_i32_179_r1 : BitVec 32 := 0#32
  let v217_r1 : BitVec 32 := Scalar.addi arg20_r1 c0_i32_179_r1
  let c0_i32_228_r1 : BitVec 32 := 0#32
  let v288_r1 : BitVec 1 := Scalar.cmpi .eq v217_r1 c0_i32_228_r1
  let c0_i32_178_r1 : BitVec 32 := 0#32
  let v216_r1 : BitVec 32 := Scalar.addi arg19_r1 c0_i32_178_r1
  let c0_i32_226_r1 : BitVec 32 := 0#32
  let v276_r1 : BitVec 1 := Scalar.cmpi .eq v216_r1 c0_i32_226_r1
  let v281_r1 : BitVec 32 := Scalar.select v276_r1 v278_r1 v280_r1
  let c0_i32_227_r1 : BitVec 32 := 0#32
  let v282_r1 : BitVec 1 := Scalar.cmpi .eq v216_r1 c0_i32_227_r1
  let v287_r1 : BitVec 32 := Scalar.select v282_r1 v284_r1 v286_r1
  let v289_r1 : BitVec 32 := Scalar.select v288_r1 v281_r1 v287_r1
  let true_182_r1 : BitVec 1 := 1#1
  let c1_i32_181_r1 : BitVec 32 := 1#32
  let v219_r1 : BitVec 32 := Scalar.subi arg21_r1 c1_i32_181_r1
  let v220_r1 : BitVec 32 := Scalar.select true_182_r1 v219_r1 arg21_r1
  let c_m1_i32_183_r1 : BitVec 32 := 4294967295#32
  let v221_r1 : BitVec 1 := Scalar.cmpi .eq v220_r1 c_m1_i32_183_r1
  let c1_i32_185_r1 : BitVec 32 := 1#32
  let v223_r1 : BitVec 32 := Scalar.subi arg20_r1 c1_i32_185_r1
  let v224_r1 : BitVec 32 := Scalar.select v221_r1 v223_r1 arg20_r1
  let c_m1_i32_186_r1 : BitVec 32 := 4294967295#32
  let v225_r1 : BitVec 1 := Scalar.cmpi .eq v224_r1 c_m1_i32_186_r1
  let c1_i32_187_r1 : BitVec 32 := 1#32
  let v226_r1 : BitVec 32 := Scalar.select v225_r1 c1_i32_187_r1 v224_r1
  let c0_i32_192_r1 : BitVec 32 := 0#32
  let v232_r1 : BitVec 32 := Scalar.addi v226_r1 c0_i32_192_r1
  let c0_i32_268_r1 : BitVec 32 := 0#32
  let v414_r1 : BitVec 1 := Scalar.cmpi .eq v232_r1 c0_i32_268_r1
  let c1_i32_188_r1 : BitVec 32 := 1#32
  let v227_r1 : BitVec 32 := Scalar.subi arg19_r1 c1_i32_188_r1
  let v228_r1 : BitVec 32 := Scalar.select v225_r1 v227_r1 arg19_r1
  let c_m1_i32_189_r1 : BitVec 32 := 4294967295#32
  let v229_r1 : BitVec 1 := Scalar.cmpi .eq v228_r1 c_m1_i32_189_r1
  let c1_i32_190_r1 : BitVec 32 := 1#32
  let v230_r1 : BitVec 32 := Scalar.select v229_r1 c1_i32_190_r1 v228_r1
  let c0_i32_191_r1 : BitVec 32 := 0#32
  let v231_r1 : BitVec 32 := Scalar.addi v230_r1 c0_i32_191_r1
  let c0_i32_266_r1 : BitVec 32 := 0#32
  let v402_r1 : BitVec 1 := Scalar.cmpi .eq v231_r1 c0_i32_266_r1
  let v407_r1 : BitVec 32 := Scalar.select v402_r1 v404_r1 v406_r1
  let c0_i32_267_r1 : BitVec 32 := 0#32
  let v408_r1 : BitVec 1 := Scalar.cmpi .eq v231_r1 c0_i32_267_r1
  let v413_r1 : BitVec 32 := Scalar.select v408_r1 v410_r1 v412_r1
  let v415_r1 : BitVec 32 := Scalar.select v414_r1 v407_r1 v413_r1
  let v416_r1 : BitVec 1 := Scalar.cmpi .ne v289_r1 v415_r1
  let c0_i32_115_r1 : BitVec 32 := 0#32
  let c1_i32_116_r1 : BitVec 32 := 1#32
  let arg8_r1 : BitVec 32 := Scf.iv c0_i32_115_r1 c1_i32_116_r1 k0_t2
  let c0_i32_177_r1 : BitVec 32 := 0#32
  let v214_r1 : BitVec 1 := Scalar.cmpi .eq arg8_r1 c0_i32_177_r1
  let v417_r1 : BitVec 1 := Scalar.ori v416_r1 v214_r1
  let c0_i32_269_r1 : BitVec 32 := 0#32
  let v418_r1 : BitVec 1 := Scalar.cmpi .sge arg8_r1 c0_i32_269_r1
  let v419_r1 : BitVec 1 := Scalar.andi v417_r1 v418_r1
  let v420_r1 : BitVec 32 := Scalar.extui v419_r1
  let c0_i32_270_r1 : BitVec 32 := 0#32
  let v421_r1 : BitVec 1 := Scalar.cmpi .ne v420_r1 c0_i32_270_r1
  v421_r1

def k0_off35 (arg12_r1 : BitVec 32) : Fin 4 → Nat :=
  let c2_i32_366_r1 : BitVec 32 := 2#32
  let v624_r1 : BitVec 32 := Scalar.remui arg12_r1 c2_i32_366_r1
  let c0_i32_367_r1 : BitVec 32 := 0#32
  let c0_i32_368_r1 : BitVec 32 := 0#32
  let c0_i32_369_r1 : BitVec 32 := 0#32
  ![v624_r1.toNat, 0, 0, 0]

def k0_chk13 (k0_t2 : Fin k0_t2_loop.trips) (arg12_r1 : BitVec 32) (arg19_r1 : BitVec 32) (arg20_r1 : BitVec 32) (arg21_r1 : BitVec 32) (v278_r1 : BitVec 32) (v280_r1 : BitVec 32) (v284_r1 : BitVec 32) (v286_r1 : BitVec 32) (v404_r1 : BitVec 32) (v406_r1 : BitVec 32) (v410_r1 : BitVec 32) (v412_r1 : BitVec 32) : Prop :=
  (∀ (k0_h12 : k0_cond12 k0_t2 arg19_r1 arg20_r1 arg21_r1 v278_r1 v280_r1 v284_r1 v286_r1 v404_r1 v406_r1 v410_r1 v412_r1 = 1#1), ∀ a, (k0_off34 arg12_r1) a + S1.size a ≤ S2.size a) ∧
  (∀ (k0_h12 : k0_cond12 k0_t2 arg19_r1 arg20_r1 arg21_r1 v278_r1 v280_r1 v284_r1 v286_r1 v404_r1 v406_r1 v410_r1 v412_r1 = 1#1), ∀ a, (k0_off35 arg12_r1) a + S1x1x768x2048.size a ≤ S2x1x768x2048.size a)
theorem k0_off34_inb : ∀ (k0_t2 : Fin k0_t2_loop.trips) (arg12_r1 : BitVec 32) (arg19_r1 : BitVec 32) (arg20_r1 : BitVec 32) (arg21_r1 : BitVec 32) (v278_r1 : BitVec 32) (v280_r1 : BitVec 32) (v284_r1 : BitVec 32) (v286_r1 : BitVec 32) (v404_r1 : BitVec 32) (v406_r1 : BitVec 32) (v410_r1 : BitVec 32) (v412_r1 : BitVec 32) (k0_hw13 : k0_chk13 k0_t2 arg12_r1 arg19_r1 arg20_r1 arg21_r1 v278_r1 v280_r1 v284_r1 v286_r1 v404_r1 v406_r1 v410_r1 v412_r1), ∀ (k0_h12 : k0_cond12 k0_t2 arg19_r1 arg20_r1 arg21_r1 v278_r1 v280_r1 v284_r1 v286_r1 v404_r1 v406_r1 v410_r1 v412_r1 = 1#1), ∀ a, (k0_off34 arg12_r1) a + S1.size a ≤ S2.size a := fun k0_t2 arg12_r1 arg19_r1 arg20_r1 arg21_r1 v278_r1 v280_r1 v284_r1 v286_r1 v404_r1 v406_r1 v410_r1 v412_r1 k0_hw13 k0_h12 => k0_hw13.1 k0_h12
theorem k0_off35_inb : ∀ (k0_t2 : Fin k0_t2_loop.trips) (arg12_r1 : BitVec 32) (arg19_r1 : BitVec 32) (arg20_r1 : BitVec 32) (arg21_r1 : BitVec 32) (v278_r1 : BitVec 32) (v280_r1 : BitVec 32) (v284_r1 : BitVec 32) (v286_r1 : BitVec 32) (v404_r1 : BitVec 32) (v406_r1 : BitVec 32) (v410_r1 : BitVec 32) (v412_r1 : BitVec 32) (k0_hw13 : k0_chk13 k0_t2 arg12_r1 arg19_r1 arg20_r1 arg21_r1 v278_r1 v280_r1 v284_r1 v286_r1 v404_r1 v406_r1 v410_r1 v412_r1), ∀ (k0_h12 : k0_cond12 k0_t2 arg19_r1 arg20_r1 arg21_r1 v278_r1 v280_r1 v284_r1 v286_r1 v404_r1 v406_r1 v410_r1 v412_r1 = 1#1), ∀ a, (k0_off35 arg12_r1) a + S1x1x768x2048.size a ≤ S2x1x768x2048.size a := fun k0_t2 arg12_r1 arg19_r1 arg20_r1 arg21_r1 v278_r1 v280_r1 v284_r1 v286_r1 v404_r1 v406_r1 v410_r1 v412_r1 k0_hw13 k0_h12 => k0_hw13.2 k0_h12

def k0_off36 (arg19_r1 : BitVec 32) (arg20_r1 : BitVec 32) (v611_r1 : BitVec 32) (v613_r1 : BitVec 32) (v617_r1 : BitVec 32) (v619_r1 : BitVec 32) : Fin 3 → Nat :=
  let c1_i32_365_r1 : BitVec 32 := 1#32
  let c0_i32_179_r1 : BitVec 32 := 0#32
  let v217_r1 : BitVec 32 := Scalar.addi arg20_r1 c0_i32_179_r1
  let c0_i32_364_r1 : BitVec 32 := 0#32
  let v621_r1 : BitVec 1 := Scalar.cmpi .eq v217_r1 c0_i32_364_r1
  let c0_i32_178_r1 : BitVec 32 := 0#32
  let v216_r1 : BitVec 32 := Scalar.addi arg19_r1 c0_i32_178_r1
  let c0_i32_362_r1 : BitVec 32 := 0#32
  let v609_r1 : BitVec 1 := Scalar.cmpi .eq v216_r1 c0_i32_362_r1
  let v614_r1 : BitVec 32 := Scalar.select v609_r1 v611_r1 v613_r1
  let c0_i32_363_r1 : BitVec 32 := 0#32
  let v615_r1 : BitVec 1 := Scalar.cmpi .eq v216_r1 c0_i32_363_r1
  let v620_r1 : BitVec 32 := Scalar.select v615_r1 v617_r1 v619_r1
  let v622_r1 : BitVec 32 := Scalar.select v621_r1 v614_r1 v620_r1
  let v623_r1 : BitVec 32 := Scalar.muli c1_i32_365_r1 v622_r1
  let c0_i32_370_r1 : BitVec 32 := 0#32
  let c0_i32_371_r1 : BitVec 32 := 0#32
  ![v623_r1.toNat, 0, 0]

def k0_chk14 (k0_t2 : Fin k0_t2_loop.trips) (arg19_r1 : BitVec 32) (arg20_r1 : BitVec 32) (arg21_r1 : BitVec 32) (v278_r1 : BitVec 32) (v280_r1 : BitVec 32) (v284_r1 : BitVec 32) (v286_r1 : BitVec 32) (v404_r1 : BitVec 32) (v406_r1 : BitVec 32) (v410_r1 : BitVec 32) (v412_r1 : BitVec 32) (v611_r1 : BitVec 32) (v613_r1 : BitVec 32) (v617_r1 : BitVec 32) (v619_r1 : BitVec 32) : Prop :=
  (∀ (k0_h12 : k0_cond12 k0_t2 arg19_r1 arg20_r1 arg21_r1 v278_r1 v280_r1 v284_r1 v286_r1 v404_r1 v406_r1 v410_r1 v412_r1 = 1#1), ∀ a, (k0_off36 arg19_r1 arg20_r1 v611_r1 v613_r1 v617_r1 v619_r1) a + S1x768x2048.size a ≤ S8x768x2048.size a)
theorem k0_off36_inb : ∀ (k0_t2 : Fin k0_t2_loop.trips) (arg19_r1 : BitVec 32) (arg20_r1 : BitVec 32) (arg21_r1 : BitVec 32) (v278_r1 : BitVec 32) (v280_r1 : BitVec 32) (v284_r1 : BitVec 32) (v286_r1 : BitVec 32) (v404_r1 : BitVec 32) (v406_r1 : BitVec 32) (v410_r1 : BitVec 32) (v412_r1 : BitVec 32) (v611_r1 : BitVec 32) (v613_r1 : BitVec 32) (v617_r1 : BitVec 32) (v619_r1 : BitVec 32) (k0_hw14 : k0_chk14 k0_t2 arg19_r1 arg20_r1 arg21_r1 v278_r1 v280_r1 v284_r1 v286_r1 v404_r1 v406_r1 v410_r1 v412_r1 v611_r1 v613_r1 v617_r1 v619_r1), ∀ (k0_h12 : k0_cond12 k0_t2 arg19_r1 arg20_r1 arg21_r1 v278_r1 v280_r1 v284_r1 v286_r1 v404_r1 v406_r1 v410_r1 v412_r1 = 1#1), ∀ a, (k0_off36 arg19_r1 arg20_r1 v611_r1 v613_r1 v617_r1 v619_r1) a + S1x768x2048.size a ≤ S8x768x2048.size a := fun k0_t2 arg19_r1 arg20_r1 arg21_r1 v278_r1 v280_r1 v284_r1 v286_r1 v404_r1 v406_r1 v410_r1 v412_r1 v611_r1 v613_r1 v617_r1 v619_r1 k0_hw14 k0_h12 => k0_hw14 k0_h12

def k0_off37 (arg14_r1 : BitVec 32) : Fin 1 → Nat :=
  let c2_i32_366_r1 : BitVec 32 := 2#32
  let v624_r1 : BitVec 32 := Scalar.remui arg14_r1 c2_i32_366_r1
  ![v624_r1.toNat]
def k0_cond13 (k0_t2 : Fin k0_t2_loop.trips) (arg19_r1 : BitVec 32) (arg20_r1 : BitVec 32) (arg21_r1 : BitVec 32) (v316_r1 : BitVec 32) (v318_r1 : BitVec 32) (v322_r1 : BitVec 32) (v324_r1 : BitVec 32) (v424_r1 : BitVec 32) (v426_r1 : BitVec 32) (v430_r1 : BitVec 32) (v432_r1 : BitVec 32) : BitVec 1 :=
  let c0_i32_179_r1 : BitVec 32 := 0#32
  let v217_r1 : BitVec 32 := Scalar.addi arg20_r1 c0_i32_179_r1
  let c0_i32_240_r1 : BitVec 32 := 0#32
  let v326_r1 : BitVec 1 := Scalar.cmpi .eq v217_r1 c0_i32_240_r1
  let c0_i32_178_r1 : BitVec 32 := 0#32
  let v216_r1 : BitVec 32 := Scalar.addi arg19_r1 c0_i32_178_r1
  let c0_i32_238_r1 : BitVec 32 := 0#32
  let v314_r1 : BitVec 1 := Scalar.cmpi .eq v216_r1 c0_i32_238_r1
  let v319_r1 : BitVec 32 := Scalar.select v314_r1 v316_r1 v318_r1
  let c0_i32_239_r1 : BitVec 32 := 0#32
  let v320_r1 : BitVec 1 := Scalar.cmpi .eq v216_r1 c0_i32_239_r1
  let v325_r1 : BitVec 32 := Scalar.select v320_r1 v322_r1 v324_r1
  let v327_r1 : BitVec 32 := Scalar.select v326_r1 v319_r1 v325_r1
  let true_182_r1 : BitVec 1 := 1#1
  let c1_i32_181_r1 : BitVec 32 := 1#32
  let v219_r1 : BitVec 32 := Scalar.subi arg21_r1 c1_i32_181_r1
  let v220_r1 : BitVec 32 := Scalar.select true_182_r1 v219_r1 arg21_r1
  let c_m1_i32_183_r1 : BitVec 32 := 4294967295#32
  let v221_r1 : BitVec 1 := Scalar.cmpi .eq v220_r1 c_m1_i32_183_r1
  let c1_i32_185_r1 : BitVec 32 := 1#32
  let v223_r1 : BitVec 32 := Scalar.subi arg20_r1 c1_i32_185_r1
  let v224_r1 : BitVec 32 := Scalar.select v221_r1 v223_r1 arg20_r1
  let c_m1_i32_186_r1 : BitVec 32 := 4294967295#32
  let v225_r1 : BitVec 1 := Scalar.cmpi .eq v224_r1 c_m1_i32_186_r1
  let c1_i32_187_r1 : BitVec 32 := 1#32
  let v226_r1 : BitVec 32 := Scalar.select v225_r1 c1_i32_187_r1 v224_r1
  let c0_i32_192_r1 : BitVec 32 := 0#32
  let v232_r1 : BitVec 32 := Scalar.addi v226_r1 c0_i32_192_r1
  let c0_i32_273_r1 : BitVec 32 := 0#32
  let v434_r1 : BitVec 1 := Scalar.cmpi .eq v232_r1 c0_i32_273_r1
  let c1_i32_188_r1 : BitVec 32 := 1#32
  let v227_r1 : BitVec 32 := Scalar.subi arg19_r1 c1_i32_188_r1
  let v228_r1 : BitVec 32 := Scalar.select v225_r1 v227_r1 arg19_r1
  let c_m1_i32_189_r1 : BitVec 32 := 4294967295#32
  let v229_r1 : BitVec 1 := Scalar.cmpi .eq v228_r1 c_m1_i32_189_r1
  let c1_i32_190_r1 : BitVec 32 := 1#32
  let v230_r1 : BitVec 32 := Scalar.select v229_r1 c1_i32_190_r1 v228_r1
  let c0_i32_191_r1 : BitVec 32 := 0#32
  let v231_r1 : BitVec 32 := Scalar.addi v230_r1 c0_i32_191_r1
  let c0_i32_271_r1 : BitVec 32 := 0#32
  let v422_r1 : BitVec 1 := Scalar.cmpi .eq v231_r1 c0_i32_271_r1
  let v427_r1 : BitVec 32 := Scalar.select v422_r1 v424_r1 v426_r1
  let c0_i32_272_r1 : BitVec 32 := 0#32
  let v428_r1 : BitVec 1 := Scalar.cmpi .eq v231_r1 c0_i32_272_r1
  let v433_r1 : BitVec 32 := Scalar.select v428_r1 v430_r1 v432_r1
  let v435_r1 : BitVec 32 := Scalar.select v434_r1 v427_r1 v433_r1
  let v436_r1 : BitVec 1 := Scalar.cmpi .ne v327_r1 v435_r1
  let c0_i32_115_r1 : BitVec 32 := 0#32
  let c1_i32_116_r1 : BitVec 32 := 1#32
  let arg8_r1 : BitVec 32 := Scf.iv c0_i32_115_r1 c1_i32_116_r1 k0_t2
  let c0_i32_177_r1 : BitVec 32 := 0#32
  let v214_r1 : BitVec 1 := Scalar.cmpi .eq arg8_r1 c0_i32_177_r1
  let v437_r1 : BitVec 1 := Scalar.ori v436_r1 v214_r1
  let c0_i32_274_r1 : BitVec 32 := 0#32
  let v438_r1 : BitVec 1 := Scalar.cmpi .sge arg8_r1 c0_i32_274_r1
  let v439_r1 : BitVec 1 := Scalar.andi v437_r1 v438_r1
  let v440_r1 : BitVec 32 := Scalar.extui v439_r1
  let c0_i32_275_r1 : BitVec 32 := 0#32
  let v441_r1 : BitVec 1 := Scalar.cmpi .ne v440_r1 c0_i32_275_r1
  v441_r1

def k0_off38 (arg14_r1 : BitVec 32) : Fin 4 → Nat :=
  let c2_i32_366_r1 : BitVec 32 := 2#32
  let v624_r1 : BitVec 32 := Scalar.remui arg14_r1 c2_i32_366_r1
  let c0_i32_367_r1 : BitVec 32 := 0#32
  let c0_i32_368_r1 : BitVec 32 := 0#32
  let c0_i32_369_r1 : BitVec 32 := 0#32
  ![v624_r1.toNat, 0, 0, 0]

def k0_chk15 (k0_t2 : Fin k0_t2_loop.trips) (arg14_r1 : BitVec 32) (arg19_r1 : BitVec 32) (arg20_r1 : BitVec 32) (arg21_r1 : BitVec 32) (v316_r1 : BitVec 32) (v318_r1 : BitVec 32) (v322_r1 : BitVec 32) (v324_r1 : BitVec 32) (v424_r1 : BitVec 32) (v426_r1 : BitVec 32) (v430_r1 : BitVec 32) (v432_r1 : BitVec 32) : Prop :=
  (∀ (k0_h13 : k0_cond13 k0_t2 arg19_r1 arg20_r1 arg21_r1 v316_r1 v318_r1 v322_r1 v324_r1 v424_r1 v426_r1 v430_r1 v432_r1 = 1#1), ∀ a, (k0_off37 arg14_r1) a + S1.size a ≤ S2.size a) ∧
  (∀ (k0_h13 : k0_cond13 k0_t2 arg19_r1 arg20_r1 arg21_r1 v316_r1 v318_r1 v322_r1 v324_r1 v424_r1 v426_r1 v430_r1 v432_r1 = 1#1), ∀ a, (k0_off38 arg14_r1) a + S1x1x768x2048.size a ≤ S2x1x768x2048.size a)
theorem k0_off37_inb : ∀ (k0_t2 : Fin k0_t2_loop.trips) (arg14_r1 : BitVec 32) (arg19_r1 : BitVec 32) (arg20_r1 : BitVec 32) (arg21_r1 : BitVec 32) (v316_r1 : BitVec 32) (v318_r1 : BitVec 32) (v322_r1 : BitVec 32) (v324_r1 : BitVec 32) (v424_r1 : BitVec 32) (v426_r1 : BitVec 32) (v430_r1 : BitVec 32) (v432_r1 : BitVec 32) (k0_hw15 : k0_chk15 k0_t2 arg14_r1 arg19_r1 arg20_r1 arg21_r1 v316_r1 v318_r1 v322_r1 v324_r1 v424_r1 v426_r1 v430_r1 v432_r1), ∀ (k0_h13 : k0_cond13 k0_t2 arg19_r1 arg20_r1 arg21_r1 v316_r1 v318_r1 v322_r1 v324_r1 v424_r1 v426_r1 v430_r1 v432_r1 = 1#1), ∀ a, (k0_off37 arg14_r1) a + S1.size a ≤ S2.size a := fun k0_t2 arg14_r1 arg19_r1 arg20_r1 arg21_r1 v316_r1 v318_r1 v322_r1 v324_r1 v424_r1 v426_r1 v430_r1 v432_r1 k0_hw15 k0_h13 => k0_hw15.1 k0_h13
theorem k0_off38_inb : ∀ (k0_t2 : Fin k0_t2_loop.trips) (arg14_r1 : BitVec 32) (arg19_r1 : BitVec 32) (arg20_r1 : BitVec 32) (arg21_r1 : BitVec 32) (v316_r1 : BitVec 32) (v318_r1 : BitVec 32) (v322_r1 : BitVec 32) (v324_r1 : BitVec 32) (v424_r1 : BitVec 32) (v426_r1 : BitVec 32) (v430_r1 : BitVec 32) (v432_r1 : BitVec 32) (k0_hw15 : k0_chk15 k0_t2 arg14_r1 arg19_r1 arg20_r1 arg21_r1 v316_r1 v318_r1 v322_r1 v324_r1 v424_r1 v426_r1 v430_r1 v432_r1), ∀ (k0_h13 : k0_cond13 k0_t2 arg19_r1 arg20_r1 arg21_r1 v316_r1 v318_r1 v322_r1 v324_r1 v424_r1 v426_r1 v430_r1 v432_r1 = 1#1), ∀ a, (k0_off38 arg14_r1) a + S1x1x768x2048.size a ≤ S2x1x768x2048.size a := fun k0_t2 arg14_r1 arg19_r1 arg20_r1 arg21_r1 v316_r1 v318_r1 v322_r1 v324_r1 v424_r1 v426_r1 v430_r1 v432_r1 k0_hw15 k0_h13 => k0_hw15.2 k0_h13

def k0_off39 (arg19_r1 : BitVec 32) (arg20_r1 : BitVec 32) (v611_r1 : BitVec 32) (v613_r1 : BitVec 32) (v617_r1 : BitVec 32) (v619_r1 : BitVec 32) : Fin 3 → Nat :=
  let c1_i32_365_r1 : BitVec 32 := 1#32
  let c0_i32_179_r1 : BitVec 32 := 0#32
  let v217_r1 : BitVec 32 := Scalar.addi arg20_r1 c0_i32_179_r1
  let c0_i32_364_r1 : BitVec 32 := 0#32
  let v621_r1 : BitVec 1 := Scalar.cmpi .eq v217_r1 c0_i32_364_r1
  let c0_i32_178_r1 : BitVec 32 := 0#32
  let v216_r1 : BitVec 32 := Scalar.addi arg19_r1 c0_i32_178_r1
  let c0_i32_362_r1 : BitVec 32 := 0#32
  let v609_r1 : BitVec 1 := Scalar.cmpi .eq v216_r1 c0_i32_362_r1
  let v614_r1 : BitVec 32 := Scalar.select v609_r1 v611_r1 v613_r1
  let c0_i32_363_r1 : BitVec 32 := 0#32
  let v615_r1 : BitVec 1 := Scalar.cmpi .eq v216_r1 c0_i32_363_r1
  let v620_r1 : BitVec 32 := Scalar.select v615_r1 v617_r1 v619_r1
  let v622_r1 : BitVec 32 := Scalar.select v621_r1 v614_r1 v620_r1
  let v623_r1 : BitVec 32 := Scalar.muli c1_i32_365_r1 v622_r1
  let c0_i32_370_r1 : BitVec 32 := 0#32
  let c0_i32_371_r1 : BitVec 32 := 0#32
  ![v623_r1.toNat, 0, 0]

def k0_chk16 (k0_t2 : Fin k0_t2_loop.trips) (arg19_r1 : BitVec 32) (arg20_r1 : BitVec 32) (arg21_r1 : BitVec 32) (v316_r1 : BitVec 32) (v318_r1 : BitVec 32) (v322_r1 : BitVec 32) (v324_r1 : BitVec 32) (v424_r1 : BitVec 32) (v426_r1 : BitVec 32) (v430_r1 : BitVec 32) (v432_r1 : BitVec 32) (v611_r1 : BitVec 32) (v613_r1 : BitVec 32) (v617_r1 : BitVec 32) (v619_r1 : BitVec 32) : Prop :=
  (∀ (k0_h13 : k0_cond13 k0_t2 arg19_r1 arg20_r1 arg21_r1 v316_r1 v318_r1 v322_r1 v324_r1 v424_r1 v426_r1 v430_r1 v432_r1 = 1#1), ∀ a, (k0_off39 arg19_r1 arg20_r1 v611_r1 v613_r1 v617_r1 v619_r1) a + S1x768x2048.size a ≤ S8x768x2048.size a)
theorem k0_off39_inb : ∀ (k0_t2 : Fin k0_t2_loop.trips) (arg19_r1 : BitVec 32) (arg20_r1 : BitVec 32) (arg21_r1 : BitVec 32) (v316_r1 : BitVec 32) (v318_r1 : BitVec 32) (v322_r1 : BitVec 32) (v324_r1 : BitVec 32) (v424_r1 : BitVec 32) (v426_r1 : BitVec 32) (v430_r1 : BitVec 32) (v432_r1 : BitVec 32) (v611_r1 : BitVec 32) (v613_r1 : BitVec 32) (v617_r1 : BitVec 32) (v619_r1 : BitVec 32) (k0_hw16 : k0_chk16 k0_t2 arg19_r1 arg20_r1 arg21_r1 v316_r1 v318_r1 v322_r1 v324_r1 v424_r1 v426_r1 v430_r1 v432_r1 v611_r1 v613_r1 v617_r1 v619_r1), ∀ (k0_h13 : k0_cond13 k0_t2 arg19_r1 arg20_r1 arg21_r1 v316_r1 v318_r1 v322_r1 v324_r1 v424_r1 v426_r1 v430_r1 v432_r1 = 1#1), ∀ a, (k0_off39 arg19_r1 arg20_r1 v611_r1 v613_r1 v617_r1 v619_r1) a + S1x768x2048.size a ≤ S8x768x2048.size a := fun k0_t2 arg19_r1 arg20_r1 arg21_r1 v316_r1 v318_r1 v322_r1 v324_r1 v424_r1 v426_r1 v430_r1 v432_r1 v611_r1 v613_r1 v617_r1 v619_r1 k0_hw16 k0_h13 => k0_hw16 k0_h13

def k0_off40 (arg16_r1 : BitVec 32) : Fin 1 → Nat :=
  let c2_i32_366_r1 : BitVec 32 := 2#32
  let v624_r1 : BitVec 32 := Scalar.remui arg16_r1 c2_i32_366_r1
  ![v624_r1.toNat]
def k0_cond14 (k0_t2 : Fin k0_t2_loop.trips) (arg19_r1 : BitVec 32) (arg20_r1 : BitVec 32) (arg21_r1 : BitVec 32) (v354_r1 : BitVec 32) (v356_r1 : BitVec 32) (v360_r1 : BitVec 32) (v362_r1 : BitVec 32) (v444_r1 : BitVec 32) (v446_r1 : BitVec 32) (v450_r1 : BitVec 32) (v452_r1 : BitVec 32) : BitVec 1 :=
  let c0_i32_179_r1 : BitVec 32 := 0#32
  let v217_r1 : BitVec 32 := Scalar.addi arg20_r1 c0_i32_179_r1
  let c0_i32_252_r1 : BitVec 32 := 0#32
  let v364_r1 : BitVec 1 := Scalar.cmpi .eq v217_r1 c0_i32_252_r1
  let c0_i32_178_r1 : BitVec 32 := 0#32
  let v216_r1 : BitVec 32 := Scalar.addi arg19_r1 c0_i32_178_r1
  let c0_i32_250_r1 : BitVec 32 := 0#32
  let v352_r1 : BitVec 1 := Scalar.cmpi .eq v216_r1 c0_i32_250_r1
  let v357_r1 : BitVec 32 := Scalar.select v352_r1 v354_r1 v356_r1
  let c0_i32_251_r1 : BitVec 32 := 0#32
  let v358_r1 : BitVec 1 := Scalar.cmpi .eq v216_r1 c0_i32_251_r1
  let v363_r1 : BitVec 32 := Scalar.select v358_r1 v360_r1 v362_r1
  let v365_r1 : BitVec 32 := Scalar.select v364_r1 v357_r1 v363_r1
  let true_182_r1 : BitVec 1 := 1#1
  let c1_i32_181_r1 : BitVec 32 := 1#32
  let v219_r1 : BitVec 32 := Scalar.subi arg21_r1 c1_i32_181_r1
  let v220_r1 : BitVec 32 := Scalar.select true_182_r1 v219_r1 arg21_r1
  let c_m1_i32_183_r1 : BitVec 32 := 4294967295#32
  let v221_r1 : BitVec 1 := Scalar.cmpi .eq v220_r1 c_m1_i32_183_r1
  let c1_i32_185_r1 : BitVec 32 := 1#32
  let v223_r1 : BitVec 32 := Scalar.subi arg20_r1 c1_i32_185_r1
  let v224_r1 : BitVec 32 := Scalar.select v221_r1 v223_r1 arg20_r1
  let c_m1_i32_186_r1 : BitVec 32 := 4294967295#32
  let v225_r1 : BitVec 1 := Scalar.cmpi .eq v224_r1 c_m1_i32_186_r1
  let c1_i32_187_r1 : BitVec 32 := 1#32
  let v226_r1 : BitVec 32 := Scalar.select v225_r1 c1_i32_187_r1 v224_r1
  let c0_i32_192_r1 : BitVec 32 := 0#32
  let v232_r1 : BitVec 32 := Scalar.addi v226_r1 c0_i32_192_r1
  let c0_i32_278_r1 : BitVec 32 := 0#32
  let v454_r1 : BitVec 1 := Scalar.cmpi .eq v232_r1 c0_i32_278_r1
  let c1_i32_188_r1 : BitVec 32 := 1#32
  let v227_r1 : BitVec 32 := Scalar.subi arg19_r1 c1_i32_188_r1
  let v228_r1 : BitVec 32 := Scalar.select v225_r1 v227_r1 arg19_r1
  let c_m1_i32_189_r1 : BitVec 32 := 4294967295#32
  let v229_r1 : BitVec 1 := Scalar.cmpi .eq v228_r1 c_m1_i32_189_r1
  let c1_i32_190_r1 : BitVec 32 := 1#32
  let v230_r1 : BitVec 32 := Scalar.select v229_r1 c1_i32_190_r1 v228_r1
  let c0_i32_191_r1 : BitVec 32 := 0#32
  let v231_r1 : BitVec 32 := Scalar.addi v230_r1 c0_i32_191_r1
  let c0_i32_276_r1 : BitVec 32 := 0#32
  let v442_r1 : BitVec 1 := Scalar.cmpi .eq v231_r1 c0_i32_276_r1
  let v447_r1 : BitVec 32 := Scalar.select v442_r1 v444_r1 v446_r1
  let c0_i32_277_r1 : BitVec 32 := 0#32
  let v448_r1 : BitVec 1 := Scalar.cmpi .eq v231_r1 c0_i32_277_r1
  let v453_r1 : BitVec 32 := Scalar.select v448_r1 v450_r1 v452_r1
  let v455_r1 : BitVec 32 := Scalar.select v454_r1 v447_r1 v453_r1
  let v456_r1 : BitVec 1 := Scalar.cmpi .ne v365_r1 v455_r1
  let c0_i32_115_r1 : BitVec 32 := 0#32
  let c1_i32_116_r1 : BitVec 32 := 1#32
  let arg8_r1 : BitVec 32 := Scf.iv c0_i32_115_r1 c1_i32_116_r1 k0_t2
  let c0_i32_177_r1 : BitVec 32 := 0#32
  let v214_r1 : BitVec 1 := Scalar.cmpi .eq arg8_r1 c0_i32_177_r1
  let v457_r1 : BitVec 1 := Scalar.ori v456_r1 v214_r1
  let c0_i32_279_r1 : BitVec 32 := 0#32
  let v458_r1 : BitVec 1 := Scalar.cmpi .sge arg8_r1 c0_i32_279_r1
  let v459_r1 : BitVec 1 := Scalar.andi v457_r1 v458_r1
  let v460_r1 : BitVec 32 := Scalar.extui v459_r1
  let c0_i32_280_r1 : BitVec 32 := 0#32
  let v461_r1 : BitVec 1 := Scalar.cmpi .ne v460_r1 c0_i32_280_r1
  v461_r1

def k0_off41 (arg16_r1 : BitVec 32) : Fin 4 → Nat :=
  let c2_i32_366_r1 : BitVec 32 := 2#32
  let v624_r1 : BitVec 32 := Scalar.remui arg16_r1 c2_i32_366_r1
  let c0_i32_367_r1 : BitVec 32 := 0#32
  let c0_i32_368_r1 : BitVec 32 := 0#32
  let c0_i32_369_r1 : BitVec 32 := 0#32
  ![v624_r1.toNat, 0, 0, 0]

def k0_chk17 (k0_t2 : Fin k0_t2_loop.trips) (arg16_r1 : BitVec 32) (arg19_r1 : BitVec 32) (arg20_r1 : BitVec 32) (arg21_r1 : BitVec 32) (v354_r1 : BitVec 32) (v356_r1 : BitVec 32) (v360_r1 : BitVec 32) (v362_r1 : BitVec 32) (v444_r1 : BitVec 32) (v446_r1 : BitVec 32) (v450_r1 : BitVec 32) (v452_r1 : BitVec 32) : Prop :=
  (∀ (k0_h14 : k0_cond14 k0_t2 arg19_r1 arg20_r1 arg21_r1 v354_r1 v356_r1 v360_r1 v362_r1 v444_r1 v446_r1 v450_r1 v452_r1 = 1#1), ∀ a, (k0_off40 arg16_r1) a + S1.size a ≤ S2.size a) ∧
  (∀ (k0_h14 : k0_cond14 k0_t2 arg19_r1 arg20_r1 arg21_r1 v354_r1 v356_r1 v360_r1 v362_r1 v444_r1 v446_r1 v450_r1 v452_r1 = 1#1), ∀ a, (k0_off41 arg16_r1) a + S1x1x2048x768.size a ≤ S2x1x2048x768.size a)
theorem k0_off40_inb : ∀ (k0_t2 : Fin k0_t2_loop.trips) (arg16_r1 : BitVec 32) (arg19_r1 : BitVec 32) (arg20_r1 : BitVec 32) (arg21_r1 : BitVec 32) (v354_r1 : BitVec 32) (v356_r1 : BitVec 32) (v360_r1 : BitVec 32) (v362_r1 : BitVec 32) (v444_r1 : BitVec 32) (v446_r1 : BitVec 32) (v450_r1 : BitVec 32) (v452_r1 : BitVec 32) (k0_hw17 : k0_chk17 k0_t2 arg16_r1 arg19_r1 arg20_r1 arg21_r1 v354_r1 v356_r1 v360_r1 v362_r1 v444_r1 v446_r1 v450_r1 v452_r1), ∀ (k0_h14 : k0_cond14 k0_t2 arg19_r1 arg20_r1 arg21_r1 v354_r1 v356_r1 v360_r1 v362_r1 v444_r1 v446_r1 v450_r1 v452_r1 = 1#1), ∀ a, (k0_off40 arg16_r1) a + S1.size a ≤ S2.size a := fun k0_t2 arg16_r1 arg19_r1 arg20_r1 arg21_r1 v354_r1 v356_r1 v360_r1 v362_r1 v444_r1 v446_r1 v450_r1 v452_r1 k0_hw17 k0_h14 => k0_hw17.1 k0_h14
theorem k0_off41_inb : ∀ (k0_t2 : Fin k0_t2_loop.trips) (arg16_r1 : BitVec 32) (arg19_r1 : BitVec 32) (arg20_r1 : BitVec 32) (arg21_r1 : BitVec 32) (v354_r1 : BitVec 32) (v356_r1 : BitVec 32) (v360_r1 : BitVec 32) (v362_r1 : BitVec 32) (v444_r1 : BitVec 32) (v446_r1 : BitVec 32) (v450_r1 : BitVec 32) (v452_r1 : BitVec 32) (k0_hw17 : k0_chk17 k0_t2 arg16_r1 arg19_r1 arg20_r1 arg21_r1 v354_r1 v356_r1 v360_r1 v362_r1 v444_r1 v446_r1 v450_r1 v452_r1), ∀ (k0_h14 : k0_cond14 k0_t2 arg19_r1 arg20_r1 arg21_r1 v354_r1 v356_r1 v360_r1 v362_r1 v444_r1 v446_r1 v450_r1 v452_r1 = 1#1), ∀ a, (k0_off41 arg16_r1) a + S1x1x2048x768.size a ≤ S2x1x2048x768.size a := fun k0_t2 arg16_r1 arg19_r1 arg20_r1 arg21_r1 v354_r1 v356_r1 v360_r1 v362_r1 v444_r1 v446_r1 v450_r1 v452_r1 k0_hw17 k0_h14 => k0_hw17.2 k0_h14

def k0_off42 (arg19_r1 : BitVec 32) (arg20_r1 : BitVec 32) (v611_r1 : BitVec 32) (v613_r1 : BitVec 32) (v617_r1 : BitVec 32) (v619_r1 : BitVec 32) : Fin 3 → Nat :=
  let c1_i32_365_r1 : BitVec 32 := 1#32
  let c0_i32_179_r1 : BitVec 32 := 0#32
  let v217_r1 : BitVec 32 := Scalar.addi arg20_r1 c0_i32_179_r1
  let c0_i32_364_r1 : BitVec 32 := 0#32
  let v621_r1 : BitVec 1 := Scalar.cmpi .eq v217_r1 c0_i32_364_r1
  let c0_i32_178_r1 : BitVec 32 := 0#32
  let v216_r1 : BitVec 32 := Scalar.addi arg19_r1 c0_i32_178_r1
  let c0_i32_362_r1 : BitVec 32 := 0#32
  let v609_r1 : BitVec 1 := Scalar.cmpi .eq v216_r1 c0_i32_362_r1
  let v614_r1 : BitVec 32 := Scalar.select v609_r1 v611_r1 v613_r1
  let c0_i32_363_r1 : BitVec 32 := 0#32
  let v615_r1 : BitVec 1 := Scalar.cmpi .eq v216_r1 c0_i32_363_r1
  let v620_r1 : BitVec 32 := Scalar.select v615_r1 v617_r1 v619_r1
  let v622_r1 : BitVec 32 := Scalar.select v621_r1 v614_r1 v620_r1
  let v623_r1 : BitVec 32 := Scalar.muli c1_i32_365_r1 v622_r1
  let c0_i32_370_r1 : BitVec 32 := 0#32
  let c0_i32_371_r1 : BitVec 32 := 0#32
  ![v623_r1.toNat, 0, 0]

def k0_chk18 (k0_t2 : Fin k0_t2_loop.trips) (arg19_r1 : BitVec 32) (arg20_r1 : BitVec 32) (arg21_r1 : BitVec 32) (v354_r1 : BitVec 32) (v356_r1 : BitVec 32) (v360_r1 : BitVec 32) (v362_r1 : BitVec 32) (v444_r1 : BitVec 32) (v446_r1 : BitVec 32) (v450_r1 : BitVec 32) (v452_r1 : BitVec 32) (v611_r1 : BitVec 32) (v613_r1 : BitVec 32) (v617_r1 : BitVec 32) (v619_r1 : BitVec 32) : Prop :=
  (∀ (k0_h14 : k0_cond14 k0_t2 arg19_r1 arg20_r1 arg21_r1 v354_r1 v356_r1 v360_r1 v362_r1 v444_r1 v446_r1 v450_r1 v452_r1 = 1#1), ∀ a, (k0_off42 arg19_r1 arg20_r1 v611_r1 v613_r1 v617_r1 v619_r1) a + S1x2048x768.size a ≤ S8x2048x768.size a)
theorem k0_off42_inb : ∀ (k0_t2 : Fin k0_t2_loop.trips) (arg19_r1 : BitVec 32) (arg20_r1 : BitVec 32) (arg21_r1 : BitVec 32) (v354_r1 : BitVec 32) (v356_r1 : BitVec 32) (v360_r1 : BitVec 32) (v362_r1 : BitVec 32) (v444_r1 : BitVec 32) (v446_r1 : BitVec 32) (v450_r1 : BitVec 32) (v452_r1 : BitVec 32) (v611_r1 : BitVec 32) (v613_r1 : BitVec 32) (v617_r1 : BitVec 32) (v619_r1 : BitVec 32) (k0_hw18 : k0_chk18 k0_t2 arg19_r1 arg20_r1 arg21_r1 v354_r1 v356_r1 v360_r1 v362_r1 v444_r1 v446_r1 v450_r1 v452_r1 v611_r1 v613_r1 v617_r1 v619_r1), ∀ (k0_h14 : k0_cond14 k0_t2 arg19_r1 arg20_r1 arg21_r1 v354_r1 v356_r1 v360_r1 v362_r1 v444_r1 v446_r1 v450_r1 v452_r1 = 1#1), ∀ a, (k0_off42 arg19_r1 arg20_r1 v611_r1 v613_r1 v617_r1 v619_r1) a + S1x2048x768.size a ≤ S8x2048x768.size a := fun k0_t2 arg19_r1 arg20_r1 arg21_r1 v354_r1 v356_r1 v360_r1 v362_r1 v444_r1 v446_r1 v450_r1 v452_r1 v611_r1 v613_r1 v617_r1 v619_r1 k0_hw18 k0_h14 => k0_hw18 k0_h14

def k0_off43 (arg10_r1 : BitVec 32) : Fin 4 → Nat :=
  let c2_i32_283_r1 : BitVec 32 := 2#32
  let v468_r1 : BitVec 32 := Scalar.remui arg10_r1 c2_i32_283_r1
  let c0_i32_288_r1 : BitVec 32 := 0#32
  let c0_i32_289_r1 : BitVec 32 := 0#32
  let c0_i32_290_r1 : BitVec 32 := 0#32
  ![v468_r1.toNat, 0, 0, 0]

def k0_chk19 (arg10_r1 : BitVec 32) : Prop :=
  (∀ a, (k0_off43 arg10_r1) a + S1x1x512x768.size a ≤ S2x1x512x768.size a)
theorem k0_off43_inb : ∀ (arg10_r1 : BitVec 32) (k0_hw19 : k0_chk19 arg10_r1), ∀ a, (k0_off43 arg10_r1) a + S1x1x512x768.size a ≤ S2x1x512x768.size a := fun arg10_r1 k0_hw19 => k0_hw19

def k0_off44 (arg12_r1 : BitVec 32) : Fin 4 → Nat :=
  let c2_i32_284_r1 : BitVec 32 := 2#32
  let v469_r1 : BitVec 32 := Scalar.remui arg12_r1 c2_i32_284_r1
  let c0_i32_294_r1 : BitVec 32 := 0#32
  let c0_i32_295_r1 : BitVec 32 := 0#32
  let c0_i32_296_r1 : BitVec 32 := 0#32
  ![v469_r1.toNat, 0, 0, 0]

def k0_chk20 (arg12_r1 : BitVec 32) : Prop :=
  (∀ a, (k0_off44 arg12_r1) a + S1x1x768x2048.size a ≤ S2x1x768x2048.size a)
theorem k0_off44_inb : ∀ (arg12_r1 : BitVec 32) (k0_hw20 : k0_chk20 arg12_r1), ∀ a, (k0_off44 arg12_r1) a + S1x1x768x2048.size a ≤ S2x1x768x2048.size a := fun arg12_r1 k0_hw20 => k0_hw20

def k0_off45 (arg14_r1 : BitVec 32) : Fin 4 → Nat :=
  let c2_i32_285_r1 : BitVec 32 := 2#32
  let v470_r1 : BitVec 32 := Scalar.remui arg14_r1 c2_i32_285_r1
  let c0_i32_301_r1 : BitVec 32 := 0#32
  let c0_i32_302_r1 : BitVec 32 := 0#32
  let c0_i32_303_r1 : BitVec 32 := 0#32
  ![v470_r1.toNat, 0, 0, 0]

def k0_chk21 (arg14_r1 : BitVec 32) : Prop :=
  (∀ a, (k0_off45 arg14_r1) a + S1x1x768x2048.size a ≤ S2x1x768x2048.size a)
theorem k0_off45_inb : ∀ (arg14_r1 : BitVec 32) (k0_hw21 : k0_chk21 arg14_r1), ∀ a, (k0_off45 arg14_r1) a + S1x1x768x2048.size a ≤ S2x1x768x2048.size a := fun arg14_r1 k0_hw21 => k0_hw21

def k0_off46 (arg16_r1 : BitVec 32) : Fin 4 → Nat :=
  let c2_i32_286_r1 : BitVec 32 := 2#32
  let v471_r1 : BitVec 32 := Scalar.remui arg16_r1 c2_i32_286_r1
  let c0_i32_308_r1 : BitVec 32 := 0#32
  let c0_i32_309_r1 : BitVec 32 := 0#32
  let c0_i32_310_r1 : BitVec 32 := 0#32
  ![v471_r1.toNat, 0, 0, 0]

def k0_chk22 (arg16_r1 : BitVec 32) : Prop :=
  (∀ a, (k0_off46 arg16_r1) a + S1x1x2048x768.size a ≤ S2x1x2048x768.size a)
theorem k0_off46_inb : ∀ (arg16_r1 : BitVec 32) (k0_hw22 : k0_chk22 arg16_r1), ∀ a, (k0_off46 arg16_r1) a + S1x1x2048x768.size a ≤ S2x1x2048x768.size a := fun arg16_r1 k0_hw22 => k0_hw22

def k0_off47 (arg17_r1 : BitVec 32) : Fin 4 → Nat :=
  let c2_i32_287_r1 : BitVec 32 := 2#32
  let v472_r1 : BitVec 32 := Scalar.remui arg17_r1 c2_i32_287_r1
  let c0_i32_362_r1 : BitVec 32 := 0#32
  let c0_i32_363_r1 : BitVec 32 := 0#32
  let c0_i32_364_r1 : BitVec 32 := 0#32
  ![v472_r1.toNat, 0, 0, 0]
def k0_cond16 (arg20_r1 : BitVec 32) : BitVec 1 :=
  let c0_i32_179_r1 : BitVec 32 := 0#32
  let v217_r1 : BitVec 32 := Scalar.addi arg20_r1 c0_i32_179_r1
  let c0_i32_318_r1 : BitVec 32 := 0#32
  let v510_r1 : BitVec 1 := Scalar.cmpi .eq v217_r1 c0_i32_318_r1
  let v511_r1 : BitVec 32 := Scalar.extui v510_r1
  let c0_i32_319_r1 : BitVec 32 := 0#32
  let v512_r1 : BitVec 1 := Scalar.cmpi .ne v511_r1 c0_i32_319_r1
  v512_r1

def k0_off48 (arg21_r1 : BitVec 32) : Fin 3 → Nat :=
  let c0_365_r1 : Index := 0#32
  let c0_i32_180_r1 : BitVec 32 := 0#32
  let v218_r1 : BitVec 32 := Scalar.addi arg21_r1 c0_i32_180_r1
  let c512_i32_r1 : BitVec 32 := 512#32
  let v509_r1 : BitVec 32 := Scalar.muli v218_r1 c512_i32_r1
  let v613_r1 : Index := Scalar.indexCast v509_r1
  let c0_366_r1 : Index := 0#32
  ![0, v613_r1.toNat, 0]
def k0_off49 (arg17_r1 : BitVec 32) : Fin 4 → Nat :=
  let c2_i32_287_r1 : BitVec 32 := 2#32
  let v472_r1 : BitVec 32 := Scalar.remui arg17_r1 c2_i32_287_r1
  let c0_i32_362_r1 : BitVec 32 := 0#32
  let c0_i32_363_r1 : BitVec 32 := 0#32
  let c0_i32_364_r1 : BitVec 32 := 0#32
  ![v472_r1.toNat, 0, 0, 0]
def k0_cond17 (arg20_r1 : BitVec 32) : BitVec 1 :=
  let c0_i32_179_r1 : BitVec 32 := 0#32
  let v217_r1 : BitVec 32 := Scalar.addi arg20_r1 c0_i32_179_r1
  let c1_i32_320_r1 : BitVec 32 := 1#32
  let v513_r1 : BitVec 1 := Scalar.cmpi .eq v217_r1 c1_i32_320_r1
  let v514_r1 : BitVec 32 := Scalar.extui v513_r1
  let c0_i32_321_r1 : BitVec 32 := 0#32
  let v515_r1 : BitVec 1 := Scalar.cmpi .ne v514_r1 c0_i32_321_r1
  v515_r1

def k0_chk23 (arg17_r1 : BitVec 32) (arg20_r1 : BitVec 32) : Prop :=
  (∀ (k0_h16 : k0_cond16 arg20_r1 = 1#1), ∀ a, (k0_off47 arg17_r1) a + S1x1x2048x768.size a ≤ S2x1x2048x768.size a) ∧
  (∀ (k0_h17 : k0_cond17 arg20_r1 = 1#1), ∀ a, (k0_off49 arg17_r1) a + S1x1x2048x768.size a ≤ S2x1x2048x768.size a)
theorem k0_off47_inb : ∀ (arg17_r1 : BitVec 32) (arg20_r1 : BitVec 32) (k0_hw23 : k0_chk23 arg17_r1 arg20_r1), ∀ (k0_h16 : k0_cond16 arg20_r1 = 1#1), ∀ a, (k0_off47 arg17_r1) a + S1x1x2048x768.size a ≤ S2x1x2048x768.size a := fun arg17_r1 arg20_r1 k0_hw23 k0_h16 => k0_hw23.1 k0_h16
theorem k0_off49_inb : ∀ (arg17_r1 : BitVec 32) (arg20_r1 : BitVec 32) (k0_hw23 : k0_chk23 arg17_r1 arg20_r1), ∀ (k0_h17 : k0_cond17 arg20_r1 = 1#1), ∀ a, (k0_off49 arg17_r1) a + S1x1x2048x768.size a ≤ S2x1x2048x768.size a := fun arg17_r1 arg20_r1 k0_hw23 k0_h17 => k0_hw23.2 k0_h17

def k0_off50 (arg21_r1 : BitVec 32) : Fin 3 → Nat :=
  let c0_365_r1 : Index := 0#32
  let c0_i32_180_r1 : BitVec 32 := 0#32
  let v218_r1 : BitVec 32 := Scalar.addi arg21_r1 c0_i32_180_r1
  let c512_i32_r1 : BitVec 32 := 512#32
  let v509_r1 : BitVec 32 := Scalar.muli v218_r1 c512_i32_r1
  let v611_r1 : Index := Scalar.indexCast v509_r1
  let c0_366_r1 : Index := 0#32
  ![0, v611_r1.toNat, 0]
def k0_off51 (arg17_r1 : BitVec 32) : Fin 1 → Nat :=
  let c2_i32_362_r1 : BitVec 32 := 2#32
  let v609_r1 : BitVec 32 := Scalar.remui arg17_r1 c2_i32_362_r1
  ![v609_r1.toNat]
def k0_cond22 (k0_t2 : Fin k0_t2_loop.trips) (arg19_r1 : BitVec 32) (arg20_r1 : BitVec 32) (arg21_r1 : BitVec 32) : BitVec 1 :=
  let c0_i32_178_r1 : BitVec 32 := 0#32
  let v216_r1 : BitVec 32 := Scalar.addi arg19_r1 c0_i32_178_r1
  let true_195_r1 : BitVec 1 := 1#1
  let c1_i32_194_r1 : BitVec 32 := 1#32
  let v234_r1 : BitVec 32 := Scalar.addi arg21_r1 c1_i32_194_r1
  let v235_r1 : BitVec 32 := Scalar.select true_195_r1 v234_r1 arg21_r1
  let c4_i32_196_r1 : BitVec 32 := 4#32
  let v236_r1 : BitVec 1 := Scalar.cmpi .eq v235_r1 c4_i32_196_r1
  let c1_i32_198_r1 : BitVec 32 := 1#32
  let v238_r1 : BitVec 32 := Scalar.addi arg20_r1 c1_i32_198_r1
  let v239_r1 : BitVec 32 := Scalar.select v236_r1 v238_r1 arg20_r1
  let c2_i32_199_r1 : BitVec 32 := 2#32
  let v240_r1 : BitVec 1 := Scalar.cmpi .eq v239_r1 c2_i32_199_r1
  let c1_i32_201_r1 : BitVec 32 := 1#32
  let v242_r1 : BitVec 32 := Scalar.addi arg19_r1 c1_i32_201_r1
  let v243_r1 : BitVec 32 := Scalar.select v240_r1 v242_r1 arg19_r1
  let c2_i32_202_r1 : BitVec 32 := 2#32
  let v244_r1 : BitVec 1 := Scalar.cmpi .eq v243_r1 c2_i32_202_r1
  let c0_i32_203_r1 : BitVec 32 := 0#32
  let v245_r1 : BitVec 32 := Scalar.select v244_r1 c0_i32_203_r1 v243_r1
  let c0_i32_204_r1 : BitVec 32 := 0#32
  let v246_r1 : BitVec 32 := Scalar.addi v245_r1 c0_i32_204_r1
  let v538_r1 : BitVec 1 := Scalar.cmpi .ne v216_r1 v246_r1
  let c0_i32_115_r1 : BitVec 32 := 0#32
  let c1_i32_116_r1 : BitVec 32 := 1#32
  let arg8_r1 : BitVec 32 := Scf.iv c0_i32_115_r1 c1_i32_116_r1 k0_t2
  let c15_i32_r1 : BitVec 32 := 15#32
  let v215_r1 : BitVec 1 := Scalar.cmpi .eq arg8_r1 c15_i32_r1
  let v539_r1 : BitVec 1 := Scalar.ori v538_r1 v215_r1
  let v540_r1 : BitVec 32 := Scalar.extui v539_r1
  let c0_i32_329_r1 : BitVec 32 := 0#32
  let v541_r1 : BitVec 1 := Scalar.cmpi .ne v540_r1 c0_i32_329_r1
  v541_r1

def k0_off52 (arg19_r1 : BitVec 32) : Fin 3 → Nat :=
  let c1_i32_363_r1 : BitVec 32 := 1#32
  let c0_i32_178_r1 : BitVec 32 := 0#32
  let v216_r1 : BitVec 32 := Scalar.addi arg19_r1 c0_i32_178_r1
  let v610_r1 : BitVec 32 := Scalar.muli c1_i32_363_r1 v216_r1
  let c0_i32_364_r1 : BitVec 32 := 0#32
  let c0_i32_365_r1 : BitVec 32 := 0#32
  ![v610_r1.toNat, 0, 0]
def k0_off53 (arg17_r1 : BitVec 32) : Fin 4 → Nat :=
  let c2_i32_362_r1 : BitVec 32 := 2#32
  let v609_r1 : BitVec 32 := Scalar.remui arg17_r1 c2_i32_362_r1
  let c0_i32_366_r1 : BitVec 32 := 0#32
  let c0_i32_367_r1 : BitVec 32 := 0#32
  let c0_i32_368_r1 : BitVec 32 := 0#32
  ![v609_r1.toNat, 0, 0, 0]
def k0_off54 (arg18_r1 : BitVec 32) : Fin 1 → Nat :=
  let c2_i32_362_r1 : BitVec 32 := 2#32
  let v609_r1 : BitVec 32 := Scalar.remui arg18_r1 c2_i32_362_r1
  ![v609_r1.toNat]
def k0_cond27 (k0_t2 : Fin k0_t2_loop.trips) (arg19_r1 : BitVec 32) (arg20_r1 : BitVec 32) (arg21_r1 : BitVec 32) : BitVec 1 :=
  let c0_i32_178_r1 : BitVec 32 := 0#32
  let v216_r1 : BitVec 32 := Scalar.addi arg19_r1 c0_i32_178_r1
  let true_182_r1 : BitVec 1 := 1#1
  let c1_i32_181_r1 : BitVec 32 := 1#32
  let v219_r1 : BitVec 32 := Scalar.subi arg21_r1 c1_i32_181_r1
  let v220_r1 : BitVec 32 := Scalar.select true_182_r1 v219_r1 arg21_r1
  let c_m1_i32_183_r1 : BitVec 32 := 4294967295#32
  let v221_r1 : BitVec 1 := Scalar.cmpi .eq v220_r1 c_m1_i32_183_r1
  let c1_i32_185_r1 : BitVec 32 := 1#32
  let v223_r1 : BitVec 32 := Scalar.subi arg20_r1 c1_i32_185_r1
  let v224_r1 : BitVec 32 := Scalar.select v221_r1 v223_r1 arg20_r1
  let c_m1_i32_186_r1 : BitVec 32 := 4294967295#32
  let v225_r1 : BitVec 1 := Scalar.cmpi .eq v224_r1 c_m1_i32_186_r1
  let c1_i32_188_r1 : BitVec 32 := 1#32
  let v227_r1 : BitVec 32 := Scalar.subi arg19_r1 c1_i32_188_r1
  let v228_r1 : BitVec 32 := Scalar.select v225_r1 v227_r1 arg19_r1
  let c_m1_i32_189_r1 : BitVec 32 := 4294967295#32
  let v229_r1 : BitVec 1 := Scalar.cmpi .eq v228_r1 c_m1_i32_189_r1
  let c1_i32_190_r1 : BitVec 32 := 1#32
  let v230_r1 : BitVec 32 := Scalar.select v229_r1 c1_i32_190_r1 v228_r1
  let c0_i32_191_r1 : BitVec 32 := 0#32
  let v231_r1 : BitVec 32 := Scalar.addi v230_r1 c0_i32_191_r1
  let v571_r1 : BitVec 1 := Scalar.cmpi .ne v216_r1 v231_r1
  let c0_i32_115_r1 : BitVec 32 := 0#32
  let c1_i32_116_r1 : BitVec 32 := 1#32
  let arg8_r1 : BitVec 32 := Scf.iv c0_i32_115_r1 c1_i32_116_r1 k0_t2
  let c0_i32_177_r1 : BitVec 32 := 0#32
  let v214_r1 : BitVec 1 := Scalar.cmpi .eq arg8_r1 c0_i32_177_r1
  let true_344_r1 : BitVec 1 := 1#1
  let v572_r1 : BitVec 1 := Scalar.xori v214_r1 true_344_r1
  let v573_r1 : BitVec 1 := Scalar.andi v571_r1 v572_r1
  let v574_r1 : BitVec 32 := Scalar.extui v573_r1
  let c0_i32_345_r1 : BitVec 32 := 0#32
  let v575_r1 : BitVec 1 := Scalar.cmpi .ne v574_r1 c0_i32_345_r1
  v575_r1

def k0_off55 (arg19_r1 : BitVec 32) (arg20_r1 : BitVec 32) (arg21_r1 : BitVec 32) : Fin 3 → Nat :=
  let c1_i32_363_r1 : BitVec 32 := 1#32
  let true_182_r1 : BitVec 1 := 1#1
  let c1_i32_181_r1 : BitVec 32 := 1#32
  let v219_r1 : BitVec 32 := Scalar.subi arg21_r1 c1_i32_181_r1
  let v220_r1 : BitVec 32 := Scalar.select true_182_r1 v219_r1 arg21_r1
  let c_m1_i32_183_r1 : BitVec 32 := 4294967295#32
  let v221_r1 : BitVec 1 := Scalar.cmpi .eq v220_r1 c_m1_i32_183_r1
  let c1_i32_185_r1 : BitVec 32 := 1#32
  let v223_r1 : BitVec 32 := Scalar.subi arg20_r1 c1_i32_185_r1
  let v224_r1 : BitVec 32 := Scalar.select v221_r1 v223_r1 arg20_r1
  let c_m1_i32_186_r1 : BitVec 32 := 4294967295#32
  let v225_r1 : BitVec 1 := Scalar.cmpi .eq v224_r1 c_m1_i32_186_r1
  let c1_i32_188_r1 : BitVec 32 := 1#32
  let v227_r1 : BitVec 32 := Scalar.subi arg19_r1 c1_i32_188_r1
  let v228_r1 : BitVec 32 := Scalar.select v225_r1 v227_r1 arg19_r1
  let c_m1_i32_189_r1 : BitVec 32 := 4294967295#32
  let v229_r1 : BitVec 1 := Scalar.cmpi .eq v228_r1 c_m1_i32_189_r1
  let c1_i32_190_r1 : BitVec 32 := 1#32
  let v230_r1 : BitVec 32 := Scalar.select v229_r1 c1_i32_190_r1 v228_r1
  let c0_i32_191_r1 : BitVec 32 := 0#32
  let v231_r1 : BitVec 32 := Scalar.addi v230_r1 c0_i32_191_r1
  let v610_r1 : BitVec 32 := Scalar.muli c1_i32_363_r1 v231_r1
  let c0_i32_364_r1 : BitVec 32 := 0#32
  let c0_i32_365_r1 : BitVec 32 := 0#32
  ![v610_r1.toNat, 0, 0]
def k0_off56 (arg18_r1 : BitVec 32) : Fin 4 → Nat :=
  let c2_i32_362_r1 : BitVec 32 := 2#32
  let v609_r1 : BitVec 32 := Scalar.remui arg18_r1 c2_i32_362_r1
  let c0_i32_366_r1 : BitVec 32 := 0#32
  let c0_i32_367_r1 : BitVec 32 := 0#32
  let c0_i32_368_r1 : BitVec 32 := 0#32
  ![v609_r1.toNat, 0, 0, 0]

def k0_chk6 (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) : Prop :=
  (∀ (k0_h7 : k0_cond7 k0_t2 arg19_r1 arg20_r1 arg21_r1 = 1#1), ∀ a, (k0_off19 arg9_r1) a + S1.size a ≤ S2.size a) ∧
  (∀ (k0_h7 : k0_cond7 k0_t2 arg19_r1 arg20_r1 arg21_r1 = 1#1), ∀ a, (k0_off20 arg9_r1) a + S1x1x512x768.size a ≤ S2x1x512x768.size a) ∧
  (∀ (k0_h7 : k0_cond7 k0_t2 arg19_r1 arg20_r1 arg21_r1 = 1#1), ∀ a, (k0_off21 arg19_r1 arg20_r1 arg21_r1) a + S1x512x768.size a ≤ S2x2048x768.size a) ∧
  (∀ (k0_h11 : k0_cond11 k0_t2 arg19_r1 arg20_r1 arg21_r1 = 1#1), ∀ a, (k0_off31 arg10_r1) a + S1.size a ≤ S2.size a) ∧
  (∀ (k0_h11 : k0_cond11 k0_t2 arg19_r1 arg20_r1 arg21_r1 = 1#1), ∀ a, (k0_off32 arg10_r1) a + S1x1x512x768.size a ≤ S2x1x512x768.size a) ∧
  (∀ (k0_h11 : k0_cond11 k0_t2 arg19_r1 arg20_r1 arg21_r1 = 1#1), ∀ a, (k0_off33 arg19_r1 arg21_r1) a + S1x512x768.size a ≤ S2x2048x768.size a) ∧
  (∀ (k0_h16 : k0_cond16 arg20_r1 = 1#1), ∀ a, (k0_off48 arg21_r1) a + S1x512x768.size a ≤ S1x2048x768.size a) ∧
  (∀ (k0_h17 : k0_cond17 arg20_r1 = 1#1), ∀ a, (k0_off50 arg21_r1) a + S1x512x768.size a ≤ S1x2048x768.size a) ∧
  (∀ (k0_h22 : k0_cond22 k0_t2 arg19_r1 arg20_r1 arg21_r1 = 1#1), ∀ a, (k0_off51 arg17_r1) a + S1.size a ≤ S2.size a) ∧
  (∀ (k0_h22 : k0_cond22 k0_t2 arg19_r1 arg20_r1 arg21_r1 = 1#1), ∀ a, (k0_off52 arg19_r1) a + S1x2048x768.size a ≤ S2x2048x768.size a) ∧
  (∀ (k0_h22 : k0_cond22 k0_t2 arg19_r1 arg20_r1 arg21_r1 = 1#1), ∀ a, (k0_off53 arg17_r1) a + S1x1x2048x768.size a ≤ S2x1x2048x768.size a) ∧
  (∀ (k0_h27 : k0_cond27 k0_t2 arg19_r1 arg20_r1 arg21_r1 = 1#1), ∀ a, (k0_off54 arg18_r1) a + S1.size a ≤ S2.size a) ∧
  (∀ (k0_h27 : k0_cond27 k0_t2 arg19_r1 arg20_r1 arg21_r1 = 1#1), ∀ a, (k0_off55 arg19_r1 arg20_r1 arg21_r1) a + S1x2048x768.size a ≤ S2x2048x768.size a) ∧
  (∀ (k0_h27 : k0_cond27 k0_t2 arg19_r1 arg20_r1 arg21_r1 = 1#1), ∀ a, (k0_off56 arg18_r1) a + S1x1x2048x768.size a ≤ S2x1x2048x768.size a)
theorem k0_off19_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h7 : k0_cond7 k0_t2 arg19_r1 arg20_r1 arg21_r1 = 1#1), ∀ a, (k0_off19 arg9_r1) a + S1.size a ≤ S2.size a := fun k0_t2 arg9_r1 arg10_r1 arg17_r1 arg18_r1 arg19_r1 arg20_r1 arg21_r1 k0_hw6 k0_h7 => k0_hw6.1 k0_h7
theorem k0_off20_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h7 : k0_cond7 k0_t2 arg19_r1 arg20_r1 arg21_r1 = 1#1), ∀ a, (k0_off20 arg9_r1) a + S1x1x512x768.size a ≤ S2x1x512x768.size a := fun k0_t2 arg9_r1 arg10_r1 arg17_r1 arg18_r1 arg19_r1 arg20_r1 arg21_r1 k0_hw6 k0_h7 => k0_hw6.2.1 k0_h7
theorem k0_off21_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h7 : k0_cond7 k0_t2 arg19_r1 arg20_r1 arg21_r1 = 1#1), ∀ a, (k0_off21 arg19_r1 arg20_r1 arg21_r1) a + S1x512x768.size a ≤ S2x2048x768.size a := fun k0_t2 arg9_r1 arg10_r1 arg17_r1 arg18_r1 arg19_r1 arg20_r1 arg21_r1 k0_hw6 k0_h7 => k0_hw6.2.2.1 k0_h7
theorem k0_off31_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h11 : k0_cond11 k0_t2 arg19_r1 arg20_r1 arg21_r1 = 1#1), ∀ a, (k0_off31 arg10_r1) a + S1.size a ≤ S2.size a := fun k0_t2 arg9_r1 arg10_r1 arg17_r1 arg18_r1 arg19_r1 arg20_r1 arg21_r1 k0_hw6 k0_h11 => k0_hw6.2.2.2.1 k0_h11
theorem k0_off32_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h11 : k0_cond11 k0_t2 arg19_r1 arg20_r1 arg21_r1 = 1#1), ∀ a, (k0_off32 arg10_r1) a + S1x1x512x768.size a ≤ S2x1x512x768.size a := fun k0_t2 arg9_r1 arg10_r1 arg17_r1 arg18_r1 arg19_r1 arg20_r1 arg21_r1 k0_hw6 k0_h11 => k0_hw6.2.2.2.2.1 k0_h11
theorem k0_off33_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h11 : k0_cond11 k0_t2 arg19_r1 arg20_r1 arg21_r1 = 1#1), ∀ a, (k0_off33 arg19_r1 arg21_r1) a + S1x512x768.size a ≤ S2x2048x768.size a := fun k0_t2 arg9_r1 arg10_r1 arg17_r1 arg18_r1 arg19_r1 arg20_r1 arg21_r1 k0_hw6 k0_h11 => k0_hw6.2.2.2.2.2.1 k0_h11
theorem k0_off48_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h16 : k0_cond16 arg20_r1 = 1#1), ∀ a, (k0_off48 arg21_r1) a + S1x512x768.size a ≤ S1x2048x768.size a := fun k0_t2 arg9_r1 arg10_r1 arg17_r1 arg18_r1 arg19_r1 arg20_r1 arg21_r1 k0_hw6 k0_h16 => k0_hw6.2.2.2.2.2.2.1 k0_h16
theorem k0_off50_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h17 : k0_cond17 arg20_r1 = 1#1), ∀ a, (k0_off50 arg21_r1) a + S1x512x768.size a ≤ S1x2048x768.size a := fun k0_t2 arg9_r1 arg10_r1 arg17_r1 arg18_r1 arg19_r1 arg20_r1 arg21_r1 k0_hw6 k0_h17 => k0_hw6.2.2.2.2.2.2.2.1 k0_h17
theorem k0_off51_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h22 : k0_cond22 k0_t2 arg19_r1 arg20_r1 arg21_r1 = 1#1), ∀ a, (k0_off51 arg17_r1) a + S1.size a ≤ S2.size a := fun k0_t2 arg9_r1 arg10_r1 arg17_r1 arg18_r1 arg19_r1 arg20_r1 arg21_r1 k0_hw6 k0_h22 => k0_hw6.2.2.2.2.2.2.2.2.1 k0_h22
theorem k0_off52_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h22 : k0_cond22 k0_t2 arg19_r1 arg20_r1 arg21_r1 = 1#1), ∀ a, (k0_off52 arg19_r1) a + S1x2048x768.size a ≤ S2x2048x768.size a := fun k0_t2 arg9_r1 arg10_r1 arg17_r1 arg18_r1 arg19_r1 arg20_r1 arg21_r1 k0_hw6 k0_h22 => k0_hw6.2.2.2.2.2.2.2.2.2.1 k0_h22
theorem k0_off53_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h22 : k0_cond22 k0_t2 arg19_r1 arg20_r1 arg21_r1 = 1#1), ∀ a, (k0_off53 arg17_r1) a + S1x1x2048x768.size a ≤ S2x1x2048x768.size a := fun k0_t2 arg9_r1 arg10_r1 arg17_r1 arg18_r1 arg19_r1 arg20_r1 arg21_r1 k0_hw6 k0_h22 => k0_hw6.2.2.2.2.2.2.2.2.2.2.1 k0_h22
theorem k0_off54_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h27 : k0_cond27 k0_t2 arg19_r1 arg20_r1 arg21_r1 = 1#1), ∀ a, (k0_off54 arg18_r1) a + S1.size a ≤ S2.size a := fun k0_t2 arg9_r1 arg10_r1 arg17_r1 arg18_r1 arg19_r1 arg20_r1 arg21_r1 k0_hw6 k0_h27 => k0_hw6.2.2.2.2.2.2.2.2.2.2.2.1 k0_h27
theorem k0_off55_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h27 : k0_cond27 k0_t2 arg19_r1 arg20_r1 arg21_r1 = 1#1), ∀ a, (k0_off55 arg19_r1 arg20_r1 arg21_r1) a + S1x2048x768.size a ≤ S2x2048x768.size a := fun k0_t2 arg9_r1 arg10_r1 arg17_r1 arg18_r1 arg19_r1 arg20_r1 arg21_r1 k0_hw6 k0_h27 => k0_hw6.2.2.2.2.2.2.2.2.2.2.2.2.1 k0_h27
theorem k0_off56_inb : ∀ (k0_t2 : Fin k0_t2_loop.trips) (arg9_r1 : BitVec 32) (arg10_r1 : BitVec 32) (arg17_r1 : BitVec 32) (arg18_r1 : BitVec 32) (arg19_r1 : BitVec 32) (arg20_r1 : BitVec 32) (arg21_r1 : BitVec 32) (k0_hw6 : k0_chk6 k0_t2 arg9_r1 arg10_r1 arg17_r1 arg18_r1 arg19_r1 arg20_r1 arg21_r1), ∀ (k0_h27 : k0_cond27 k0_t2 arg19_r1 arg20_r1 arg21_r1 = 1#1), ∀ a, (k0_off56 arg18_r1) a + S1x1x2048x768.size a ≤ S2x1x2048x768.size a := fun k0_t2 arg9_r1 arg10_r1 arg17_r1 arg18_r1 arg19_r1 arg20_r1 arg21_r1 k0_hw6 k0_h27 => k0_hw6.2.2.2.2.2.2.2.2.2.2.2.2.2 k0_h27

def k0_off57 (v146_9_r1 : BitVec 32) : Fin 1 → Nat :=
  let c2_i32_170_r1 : BitVec 32 := 2#32
  let v207_r1 : BitVec 32 := Scalar.remui v146_9_r1 c2_i32_170_r1
  ![v207_r1.toNat]

def k0_off58 (v146_12_r1 : BitVec 32) (v146_11_r1 : BitVec 32) (v146_10_r1 : BitVec 32) : Fin 3 → Nat :=
  let c1_i32_171_r1 : BitVec 32 := 1#32
  let true_119_r1 : BitVec 1 := 1#1
  let c1_i32_118_r1 : BitVec 32 := 1#32
  let v147_r1 : BitVec 32 := Scalar.subi v146_12_r1 c1_i32_118_r1
  let v148_r1 : BitVec 32 := Scalar.select true_119_r1 v147_r1 v146_12_r1
  let c_m1_i32_120_r1 : BitVec 32 := 4294967295#32
  let v149_r1 : BitVec 1 := Scalar.cmpi .eq v148_r1 c_m1_i32_120_r1
  let c1_i32_122_r1 : BitVec 32 := 1#32
  let v151_r1 : BitVec 32 := Scalar.subi v146_11_r1 c1_i32_122_r1
  let v152_r1 : BitVec 32 := Scalar.select v149_r1 v151_r1 v146_11_r1
  let c_m1_i32_123_r1 : BitVec 32 := 4294967295#32
  let v153_r1 : BitVec 1 := Scalar.cmpi .eq v152_r1 c_m1_i32_123_r1
  let c1_i32_125_r1 : BitVec 32 := 1#32
  let v155_r1 : BitVec 32 := Scalar.subi v146_10_r1 c1_i32_125_r1
  let v156_r1 : BitVec 32 := Scalar.select v153_r1 v155_r1 v146_10_r1
  let c_m1_i32_126_r1 : BitVec 32 := 4294967295#32
  let v157_r1 : BitVec 1 := Scalar.cmpi .eq v156_r1 c_m1_i32_126_r1
  let c1_i32_127_r1 : BitVec 32 := 1#32
  let v158_r1 : BitVec 32 := Scalar.select v157_r1 c1_i32_127_r1 v156_r1
  let c0_i32_128_r1 : BitVec 32 := 0#32
  let v159_r1 : BitVec 32 := Scalar.addi v158_r1 c0_i32_128_r1
  let v208_r1 : BitVec 32 := Scalar.muli c1_i32_171_r1 v159_r1
  let c0_i32_172_r1 : BitVec 32 := 0#32
  let c0_i32_173_r1 : BitVec 32 := 0#32
  ![v208_r1.toNat, 0, 0]

def k0_chk25 (v146_12_r1 : BitVec 32) (v146_11_r1 : BitVec 32) (v146_10_r1 : BitVec 32) : Prop :=
  (∀ a, (k0_off58 v146_12_r1 v146_11_r1 v146_10_r1) a + S1x2048x768.size a ≤ S2x2048x768.size a)
theorem k0_off58_inb : ∀ (v146_12_r1 : BitVec 32) (v146_11_r1 : BitVec 32) (v146_10_r1 : BitVec 32) (k0_hw25 : k0_chk25 v146_12_r1 v146_11_r1 v146_10_r1), ∀ a, (k0_off58 v146_12_r1 v146_11_r1 v146_10_r1) a + S1x2048x768.size a ≤ S2x2048x768.size a := fun v146_12_r1 v146_11_r1 v146_10_r1 k0_hw25 => k0_hw25

def k0_off59 (v146_9_r1 : BitVec 32) : Fin 4 → Nat :=
  let c2_i32_170_r1 : BitVec 32 := 2#32
  let v207_r1 : BitVec 32 := Scalar.remui v146_9_r1 c2_i32_170_r1
  let c0_i32_174_r1 : BitVec 32 := 0#32
  let c0_i32_175_r1 : BitVec 32 := 0#32
  let c0_i32_176_r1 : BitVec 32 := 0#32
  ![v207_r1.toNat, 0, 0, 0]

def k0_chk24 (v146_9_r1 : BitVec 32) : Prop :=
  (∀ a, (k0_off57 v146_9_r1) a + S1.size a ≤ S2.size a) ∧
  (∀ a, (k0_off59 v146_9_r1) a + S1x1x2048x768.size a ≤ S2x1x2048x768.size a)
theorem k0_off57_inb : ∀ (v146_9_r1 : BitVec 32) (k0_hw24 : k0_chk24 v146_9_r1), ∀ a, (k0_off57 v146_9_r1) a + S1.size a ≤ S2.size a := fun v146_9_r1 k0_hw24 => k0_hw24.1
theorem k0_off59_inb : ∀ (v146_9_r1 : BitVec 32) (k0_hw24 : k0_chk24 v146_9_r1), ∀ a, (k0_off59 v146_9_r1) a + S1x1x2048x768.size a ≤ S2x1x2048x768.size a := fun v146_9_r1 k0_hw24 => k0_hw24.2

abbrev stage0_0 : Fin 1 → Memref sig .tc .vmem S768x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x768 : Shape := ⟨3, ![2, 2048, 768]⟩
abbrev S768x8 : Shape := ⟨2, ![768, 8]⟩
abbrev S8x768x2048 : Shape := ⟨3, ![8, 768, 2048]⟩
abbrev S8x2048x768 : Shape := ⟨3, ![8, 2048, 768]⟩
abbrev S2x2048x8 : Shape := ⟨3, ![2, 2048, 8]⟩
abbrev S_ : Shape := ⟨0, ![]⟩
abbrev S2x8 : Shape := ⟨2, ![2, 8]⟩
abbrev S2 : Shape := ⟨1, ![2]⟩
abbrev S2x1 : Shape := ⟨2, ![2, 1]⟩
abbrev S2x2 : Shape := ⟨2, ![2, 2]⟩
abbrev S8x2048x2x2048 : Shape := ⟨4, ![8, 2048, 2, 2048]⟩
abbrev S2x8x2048x2048 : Shape := ⟨4, ![2, 8, 2048, 2048]⟩
abbrev S8x768x2x2048 : Shape := ⟨4, ![8, 768, 2, 2048]⟩
abbrev S2x8x2048x768 : Shape := ⟨4, ![2, 8, 2048, 768]⟩
abbrev S2x2x1 : Shape := ⟨3, ![2, 2, 1]⟩
abbrev S2x2x2 : Shape := ⟨3, ![2, 2, 2]⟩
abbrev S2x2x2048x768 : Shape := ⟨4, ![2, 2, 2048, 768]⟩
abbrev S2x2x1x1 : Shape := ⟨4, ![2, 2, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x8, .f32⟩
  | .hbm, ⟨2, _⟩ => ⟨S8x768x2048, .f32⟩
  | .hbm, ⟨3, _⟩ => ⟨S8x2048x768, .f32⟩
  | .hbm, ⟨4, _⟩ => ⟨S8x768x2048, .f32⟩
  | .hbm, ⟨5, _⟩ => ⟨S2x2048x8, .f32⟩
  | .hbm, ⟨6, _⟩ => ⟨S_, .f32⟩
  | .hbm, ⟨7, _⟩ => ⟨S2x8, .f32⟩
  | .hbm, ⟨8, _⟩ => ⟨S_, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S2x1, .f32⟩
  | .hbm, ⟨17, _⟩ => ⟨S2x8, .f32⟩
  | .hbm, ⟨18, _⟩ => ⟨S2x8, .f32⟩
  | .hbm, ⟨19, _⟩ => ⟨S2x8, .f32⟩
  | .hbm, ⟨20, _⟩ => ⟨S_, .f32⟩
  | .hbm, ⟨21, _⟩ => ⟨S2, .f32⟩
  | .hbm, ⟨22, _⟩ => ⟨S2x1, .f32⟩
  | .hbm, ⟨23, _⟩ => ⟨S2x8, .f32⟩
  | .hbm, ⟨24, _⟩ => ⟨S2x8, .f32⟩
  | .hbm, ⟨25, _⟩ => ⟨S2x2, .f32⟩
  | .hbm, ⟨26, _⟩ => ⟨S2x2, .i32⟩
  | .hbm, ⟨27, _⟩ => ⟨S8x2048x2x2048, .f32⟩
  | .hbm, ⟨28, _⟩ => ⟨S2x8x2048x2048, .f32⟩
  | .hbm, ⟨29, _⟩ => ⟨S8x2048x2x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S2x8x2048x2048, .f32⟩
  | .hbm, ⟨41, _⟩ => ⟨S8x768x2x2048, .f32⟩
  | .hbm, ⟨42, _⟩ => ⟨S2x8x2048x768, .f32⟩
  | .hbm, ⟨43, _⟩ => ⟨S2, .i32⟩
  | .hbm, ⟨44, _⟩ => ⟨S2x1, .i32⟩
  | .hbm, ⟨45, _⟩ => ⟨S_, .i32⟩
  | .hbm, ⟨46, _⟩ => ⟨S2x1, .i32⟩
  | .hbm, ⟨47, _⟩ => ⟨S2x1, .i1⟩
  | .hbm, ⟨48, _⟩ => ⟨S_, .i32⟩
  | .hbm, ⟨49, _⟩ => ⟨S2x1, .i32⟩
  | .hbm, ⟨50, _⟩ => ⟨S2x1, .i32⟩
  | .hbm, ⟨51, _⟩ => ⟨S2x1, .i32⟩
  | .hbm, ⟨52, _⟩ => ⟨S_, .i32⟩
  | .hbm, ⟨53, _⟩ => ⟨S2x2, .i32⟩
  | .hbm, ⟨54, _⟩ => ⟨S2x2, .i1⟩
  | .hbm, ⟨55, _⟩ => ⟨S_, .i32⟩
  | .hbm, ⟨56, _⟩ => ⟨S2x2, .i32⟩
  | .hbm, ⟨57, _⟩ => ⟨S2x2, .i32⟩
  | .hbm, ⟨58, _⟩ => ⟨S2x2, .i32⟩
  | .hbm, ⟨59, _⟩ => ⟨S2x2, .i32⟩
  | .hbm, ⟨60, _⟩ => ⟨S2x2x1, .i32⟩
  | .hbm, ⟨61, _⟩ => ⟨S2x2x1, .i32⟩
  | .hbm, ⟨62, _⟩ => ⟨S2x2x2, .i32⟩
  | .hbm, ⟨63, _⟩ => ⟨S2x2x2048x768, .f32⟩
  | .hbm, ⟨64, _⟩ => ⟨S2x2x1x1, .f32⟩
  | .hbm, ⟨65, _⟩ => ⟨S2x2x2048x768, .f32⟩
  | .hbm, ⟨66, _⟩ => ⟨S2x2x2048x768, .f32⟩
  | .hbm, ⟨67, _⟩ => ⟨S_, .f32⟩
  | .hbm, ⟨68, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Proof.Ring.lean ====
/-
  The two-slot rings of the kernel, one slot at a time: a slot that is at rest with its contents, its
  semaphore cell at zero and its share of the array it is filled from; a slot with a copy of a block of
  that array on its way into it; and the steps of the kernel that lead from one to the other.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Transfers
public import Idealize.ShloMosaic.Lib.Memref
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The counters of the copies in flight. -/
abbrev EC : UEmb Counters 𝕄 := countersEmb (U := Pipeline.UD sig nD τ)

/-- What it takes to run a piece `p` of the kernel to the end `Q`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The waits the core owes, whatever they are. -/
def Owe (c : Dev nD) : sProp 𝕄 := iprop(∃ W, owes (c : Thread nD τ) 0 W)

section

variable (c : Dev nD) {cs cs' : CoreSpace} {sp sp' : Space} {s : Shape} {e : EltTy}

/-- A slot at rest, holding `v`, with its cell at zero and its share of the array it is filled from. -/
def Held (dst : Memref sig .tc sp' s e) (sm : SemLoc sig) (src : Memref sig .tc sp s e) (q : PosShare TreeShare)
    (X : src.view.ty.Contents (Elt F)) (v : s.Idx → Elt F e) : sProp 𝕄 :=
  iprop(owns (c : Thread nD τ) dst fullShare v ∗ semVal ((c : Thread nD τ), sm) 0 ∗ (src.view.loc (c : Thread nD τ) ↦{q} X))

/-- A slot that a copy of `src`'s block of `X` is on its way into. -/
def Fly (dst : Memref sig .tc sp' s e) (sm : SemLoc sig) (src : Memref sig .tc sp s e) (q : PosShare TreeShare)
    (X : src.view.ty.Contents (Elt F)) : sProp 𝕄 :=
  iprop(Flight (EC (F := F)) (c : Thread nD τ) sm () (dst.view.amount sm)
      iprop(owns (c : Thread nD τ) dst fullShare (src.view.read (Elt F) X) ∗ (src.view.loc (c : Thread nD τ) ↦[src.view.set]{q} X))
    ∗ (src.view.loc (c : Thread nD τ) ↦[Finset.univ \ src.view.set]{q} X))

/-- Starting the copy. -/
theorem wp_issue {α : Type} {Q : α → sProp 𝕄} {dst : Memref sig .tc sp' s e} {sm : SemLoc sig}
    {src : Memref sig .tc sp s e} {q : PosShare TreeShare} {X : src.view.ty.Contents (Elt F)} {v : s.Idx → Elt F e}
    {hsrc hdst hsem} {k : PUnit → Prog (TpuEff nD τ sig (Elt F) Λ₀ .tc) α}
    (hN0 : 0 < dst.view.amount sm) :
    Held (F := F) c dst sm src q X v
      ⊢ iprop((Fly c dst sm src q X -∗ WP c (k ⟨⟩) Q)
          -∗ WP c (.op (.enqueueDmaAs src (.here dst) .same sm hsrc hdst hsem) k) Q) := by
  unfold Held owns
  iintro ⟨Hd, Hs, Hx⟩
  iintro Hk
  icases Hd with ⟨%f, %hf, Hd⟩
  icases (pointsTo_split_subset (Finset.subset_univ src.view.set)).1 $$ Hx with ⟨Hx, Hr⟩
  iapply (wp_dmaLocal (EC (F := F)) Variants.none (c : Thread nD τ) none () (N := dst.view.amount sm) rfl hN0
    (Finset.Subset.refl _) (fs := X) (fd := f) (q := q)) $$ [Hx Hd Hs]
  · isplitl [Hx]; · iexact Hx
    isplitl [Hd]; · iexact Hd
    iexact Hs
  · iintro Hf
    iapply Hk
    unfold Fly
    isplitl [Hf]
    · iapply (Flight_mono (EC (F := F)) ?_) $$ Hf
      iintro ⟨Hd, Hx⟩
      isplitl [Hd]
      · unfold owns
        iexists (dst.view.write (Elt F) f (src.view.read (Elt F) X) Finset.univ)
        isplitr
        · ipureintro; exact View.read_write_univ _ _
        · iexact Hd
      · iexact Hx
    · iexact Hr

/-- Waiting for it. -/
theorem wp_await {α : Type} {Q : α → sProp 𝕄} {dst : Memref sig .tc sp' s e} {sem : _}
    {src : Memref sig .tc sp s e} {q : PosShare TreeShare} {X : src.view.ty.Contents (Elt F)}
    {sp₁ sp₂ : Space} {s₁ : Shape} {e₁ : EltTy} {srcw : Memref sig .tc sp₁ s₁ e₁} {dstw : Memref sig .tc sp₂ s₁ e₁}
    {hsrc hdst} {k : PUnit → Prog (TpuEff nD τ sig (Elt F) Λ₀ .tc) α}
    (hN : dstw.view.dmaCredit = dst.view.dmaCredit) :
    iprop(Fly (F := F) c dst (.dma sem) src q X ∗ Owe c)
      ⊢ iprop((Held c dst (.dma sem) src q X (src.view.read (Elt F) X) ∗ Owe c -∗ WP c (k ⟨⟩) Q)
          -∗ WP c (.op (.waitDma2 sem srcw dstw hsrc hdst) k) Q) := by
  unfold Fly Owe
  iintro ⟨⟨Hf, Hr⟩, ⟨%W, Ho⟩⟩
  iintro Hk
  iapply (wp_waitLocal (EC (F := F)) Variants.none (c : Thread nD τ) none () hN) $$ [Hf Ho]
  · isplitl [Hf]; · iexact Hf
    iexact Ho
  · iintro ⟨⟨Hd, Hx⟩, Hs, Ho⟩
    iapply Hk
    isplitr [Ho]
    · unfold Held
      isplitl [Hd]; · iexact Hd
      isplitl [Hs]; · iexact Hs
      iapply (pointsTo_split_subset (Finset.subset_univ src.view.set)).2
      isplitl [Hx]; · iexact Hx
      iexact Hr
    · iexists _; iexact Ho

/-- A load out of a slot at rest. -/
theorem wp_get {α : Type} {Q : α → sProp 𝕄} {m : Memref sig .tc cs s e} {q : PosShare TreeShare} {v : s.Idx → Elt F e} {r : Rect s} {hl}
    {k : (r.shape.Idx → Elt F e) → Prog (TpuEff nD τ sig (Elt F) Λ₀ .tc) α} :
    owns (c : Thread nD τ) m q v
      ⊢ iprop((owns (c : Thread nD τ) m q v -∗ WP (F := F) c (k fun i => v (r.emb i)) Q) -∗ WP c (.op (.load m r hl) k) Q) := by
  unfold owns
  iintro ⟨%f, %hf, H⟩
  iintro Hk
  subst hf
  iapply (wp_load_rect Variants.none (c : Thread nD τ) none Set.univ (View.set_slice_subset m.view r)) $$ H
  iintro H
  iapply Hk
  iexists f
  isplitr
  · ipureintro; rfl
  · iexact H

/-- A store into a slot at rest. -/
theorem wp_put {α : Type} {Q : α → sProp 𝕄} {m : Memref sig .tc cs s e} {v : s.Idx → Elt F e} {r : Rect s} {w : r.shape.Idx → Elt F e} {hl hm}
    {k : PUnit → Prog (TpuEff nD τ sig (Elt F) Λ₀ .tc) α} {v' : s.Idx → Elt F e}
    (hin : ∀ i, v' (r.emb i) = w i) (hout : ∀ y, y ∉ r.set → v' y = v y) :
    owns (c : Thread nD τ) m fullShare v
      ⊢ iprop((owns (c : Thread nD τ) m fullShare v' -∗ WP (F := F) c (k ⟨⟩) Q)
          -∗ WP c (.op (.store m r w Finset.univ hl hm) k) Q) := by
  unfold owns
  iintro ⟨%f, %hf, H⟩
  iintro Hk
  subst hf
  iapply (wp_store Variants.none (c : Thread nD τ) none Set.univ (View.set_slice_subset m.view r)) $$ H
  iintro H
  iapply Hk
  iexists (m.access r).write (Elt F) f w Finset.univ
  isplitr
  · ipureintro
    funext y
    by_cases hy : y ∈ r.set
    · obtain ⟨x, rfl⟩ := r.exists_idx_of_mem hy
      exact (View.read_slice_write_emb _ _ _ (Finset.mem_univ x)).trans (hin x).symm
    · rw [hout y hy]
      exact View.read_slice_write_of_not_mem _ _ _ _ (by rwa [Rect.map_emb_univ])
  · iexact H

end

end Cert.KernelIdeal.Hand
-- ==== Proof.Slots.lean ====
/-
  The five rings that the kernel fills from its arrays: their slots, cells and blocks by offset, what each
  holds at rest and while a copy is on its way, and the two steps between.
-/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The share of an array that the slot of an index is filled from: a half each. -/
def half (j : ℕ) : PosShare TreeShare := if j % 2 = 0 then fullShare.left else fullShare.right

theorem inb_cell (j : ℕ) : ∀ a, (![j % 2] : Fin 1 → ℕ) a + S1.size a ≤ S2.size a := by
  intro a; fin_cases a; show j % 2 + 1 ≤ 2; omega

/-! ### the router pass -/

/-- A slot of the ring. -/
abbrev rslot (o : Fin 4 → ℕ) (h : ∀ a, o a + S1x2x512x768.size a ≤ S2x2x512x768.size a) : Memref sig .tc .vmem S2x512x768 .f32 :=
  ((Memref.whole cc0_scoped0).slice (Rect.unit (s := S2x2x512x768) o S1x2x512x768.size h) (fun _ => rfl)).squeeze S2x512x768 squeezes_S1x2x512x768_S2x512x768

/-- A cell of the ring. -/
abbrev rcell (o : Fin 1 → ℕ) (h : ∀ a, o a + S1.size a ≤ S2.size a) : DmaSem sig :=
  ((cc0_scoped1.slice (Rect.unit (s := S2) o S1.size h)).squeeze S_ squeezes_S1_S_).sem

/-- A block of the array. -/
abbrev rblk (o : Fin 3 → ℕ) (h : ∀ a, o a + S2x512x768.size a ≤ S2x2048x768.size a) : Memref sig .tc .hbm S2x512x768 .f32 :=
  (Memref.whole main_arg0).slice (Rect.unit (s := S2x2048x768) o S2x512x768.size h) (fun _ => rfl)

theorem inb_rslot (j : ℕ) : ∀ a, (![j % 2, 0, 0, 0] : Fin 4 → ℕ) a + S1x2x512x768.size a ≤ S2x2x512x768.size a := by
  intro a
  fin_cases a
  · show j % 2 + 1 ≤ 2; omega
  · show 0 + 2 ≤ 2; omega
  · show 0 + 512 ≤ 512; omega
  · show 0 + 768 ≤ 768; omega

theorem inb_rblk (l : ℕ) : ∀ a, (![0, 512 * (l % 4), 0] : Fin 3 → ℕ) a + S2x512x768.size a ≤ S2x2048x768.size a := by
  intro a
  fin_cases a
  · show 0 + 2 ≤ 2; omega
  · show 512 * (l % 4) + 512 ≤ 2048; omega
  · show 0 + 768 ≤ 768; omega

/-- The slot, the cell and the block of an index. -/
abbrev rslotAt (j : ℕ) := rslot _ (inb_rslot j)
abbrev rcellAt (j : ℕ) := rcell _ (inb_cell j)
abbrev rblkAt (l : ℕ) := rblk _ (inb_rblk l)

section
variable (c : Dev nD) (X : (main_arg0 : Ref sig .tc).ty.Contents (Elt F))

/-- The block of the array's contents. -/
def rval (l : ℕ) : S2x512x768.Idx → Elt F .f32 := (rblkAt l).view.read (Elt F) X

/-- Slot `j` at rest. -/
def RHeld (j : ℕ) (v : S2x512x768.Idx → Elt F .f32) : sProp 𝕄 :=
  Held (F := F) c (rslotAt j) (.dma (rcellAt j)) (rblkAt 0) (half j) X v

/-- Slot `j` at rest with anything in it. -/
def RFree (j : ℕ) : sProp 𝕄 := iprop(∃ v, RHeld c X j v)

/-- Slot `j` with a block on its way. -/
def RFly (j : ℕ) (l : ℕ) : sProp 𝕄 :=
  Fly (F := F) c (rslotAt j) (.dma (rcellAt j)) (rblkAt l) (half j) X

theorem RHeld_congr {j j' : ℕ} (h : j % 2 = j' % 2) (v : S2x512x768.Idx → Elt F .f32) : RHeld c X j v = RHeld c X j' v := by
  unfold RHeld half rslotAt rcellAt
  simp only [h]

theorem RFree_congr {j j' : ℕ} (h : j % 2 = j' % 2) : RFree c X j = RFree c X j' := by
  unfold RFree
  simp only [RHeld_congr c X h]

theorem RFly_congr {j j' : ℕ} (h : j % 2 = j' % 2) (l : ℕ) : RFly c X j l = RFly c X j' l := by
  unfold RFly half rslotAt rcellAt
  simp only [h]

theorem RHeld_free (j : ℕ) (v : S2x512x768.Idx → Elt F .f32) : RHeld c X j v ⊢ RFree c X j := by
  unfold RFree
  iintro H
  iexists v
  iexact H

theorem rissue {α : Type} {Q : α → sProp 𝕄} (j : ℕ) (l : ℕ)
    {o₄ : Fin 4 → ℕ} {h₄} {o₁ : Fin 1 → ℕ} {h₁} {o₃ : Fin 3 → ℕ} {h₃} {hsrc hdst hsem}
    {k : PUnit → Prog (TpuEff nD τ sig (Elt F) Λ₀ .tc) α}
    (e₄ : o₄ = ![j % 2, 0, 0, 0]) (e₁ : o₁ = ![j % 2]) (e₃ : o₃ = ![0, 512 * (l % 4), 0]) :
    RFree (F := F) c X j
      ⊢ iprop((RFly c X j l -∗ WP c (k ⟨⟩) Q)
          -∗ WP c (.op (.enqueueDmaAs (rblk o₃ h₃) (.here (rslot o₄ h₄)) .same (.dma (rcell o₁ h₁)) hsrc hdst hsem) k) Q) := by
  subst e₄ e₁ e₃
  unfold RFree
  iintro ⟨%v, H⟩
  iapply (show RHeld (F := F) c X j v ⊢ _ from
    wp_issue (F := F) c (dst := rslotAt j) (src := rblkAt l) (sm := .dma (rcellAt j)) (q := half j) (X := X) (v := v)
      (hsrc := hsrc) (hdst := hdst) (hsem := hsem) (View.amount_pos _ _ (by decide))) $$ H

theorem rawait {α : Type} {Q : α → sProp 𝕄} (j : ℕ) (l : ℕ)
    {o₄ : Fin 4 → ℕ} {h₄} {o₁ : Fin 1 → ℕ} {h₁} {o₃ : Fin 3 → ℕ} {h₃} {hsrc hdst}
    {k : PUnit → Prog (TpuEff nD τ sig (Elt F) Λ₀ .tc) α}
    (e₁ : o₁ = ![j % 2]) :
    iprop(RFly (F := F) c X j l ∗ Owe c)
      ⊢ iprop((RHeld c X j (rval X l) ∗ Owe c -∗ WP c (k ⟨⟩) Q)
          -∗ WP c (.op (.waitDma2 (rcell o₁ h₁) (rblk o₃ h₃) (rslot o₄ h₄) hsrc hdst) k) Q) := by
  subst e₁
  exact (wp_await (F := F) c (dst := rslotAt j) (src := rblkAt l) (sem := rcellAt j) (q := half j) (X := X) (srcw := rblk o₃ h₃) (dstw := rslot o₄ h₄) rfl)
end

/-! ### the rows -/

/-- A slot of the ring. -/
abbrev xslot (o : Fin 4 → ℕ) (h : ∀ a, o a + S1x1x512x768.size a ≤ S2x1x512x768.size a) : Memref sig .tc .vmem S1x512x768 .f32 :=
  ((Memref.whole cc0_scoped2).slice (Rect.unit (s := S2x1x512x768) o S1x1x512x768.size h) (fun _ => rfl)).squeeze S1x512x768 squeezes_S1x1x512x768_S1x512x768

/-- A cell of the ring. -/
abbrev xcell (o : Fin 1 → ℕ) (h : ∀ a, o a + S1.size a ≤ S2.size a) : DmaSem sig :=
  ((cc0_scoped3.slice (Rect.unit (s := S2) o S1.size h)).squeeze S_ squeezes_S1_S_).sem

/-- A block of the array. -/
abbrev xblk (o : Fin 3 → ℕ) (h : ∀ a, o a + S1x512x768.size a ≤ S2x2048x768.size a) : Memref sig .tc .hbm S1x512x768 .f32 :=
  (Memref.whole main_arg0).slice (Rect.unit (s := S2x2048x768) o S1x512x768.size h) (fun _ => rfl)

theorem inb_xslot (j : ℕ) : ∀ a, (![j % 2, 0, 0, 0] : Fin 4 → ℕ) a + S1x1x512x768.size a ≤ S2x1x512x768.size a := by
  intro a
  fin_cases a
  · show j % 2 + 1 ≤ 2; omega
  · show 0 + 1 ≤ 1; omega
  · show 0 + 512 ≤ 512; omega
  · show 0 + 768 ≤ 768; omega

theorem inb_xblk (b l : ℕ) : ∀ a, (![b % 2, 512 * (l % 4), 0] : Fin 3 → ℕ) a + S1x512x768.size a ≤ S2x2048x768.size a := by
  intro a
  fin_cases a
  · show b % 2 + 1 ≤ 2; omega
  · show 512 * (l % 4) + 512 ≤ 2048; omega
  · show 0 + 768 ≤ 768; omega

/-- The slot, the cell and the block of an index. -/
abbrev xslotAt (j : ℕ) := xslot _ (inb_xslot j)
abbrev xcellAt (j : ℕ) := xcell _ (inb_cell j)
abbrev xblkAt (b l : ℕ) := xblk _ (inb_xblk b l)

section
variable (c : Dev nD) (X : (main_arg0 : Ref sig .tc).ty.Contents (Elt F))

/-- The block of the array's contents. -/
def xval (b l : ℕ) : S1x512x768.Idx → Elt F .f32 := (xblkAt b l).view.read (Elt F) X

/-- Slot `j` at rest. -/
def XHeld (j : ℕ) (v : S1x512x768.Idx → Elt F .f32) : sProp 𝕄 :=
  Held (F := F) c (xslotAt j) (.dma (xcellAt j)) (xblkAt 0 0) (half j) X v

/-- Slot `j` at rest with anything in it. -/
def XFree (j : ℕ) : sProp 𝕄 := iprop(∃ v, XHeld c X j v)

/-- Slot `j` with a block on its way. -/
def XFly (j : ℕ) (b l : ℕ) : sProp 𝕄 :=
  Fly (F := F) c (xslotAt j) (.dma (xcellAt j)) (xblkAt b l) (half j) X

theorem XHeld_congr {j j' : ℕ} (h : j % 2 = j' % 2) (v : S1x512x768.Idx → Elt F .f32) : XHeld c X j v = XHeld c X j' v := by
  unfold XHeld half xslotAt xcellAt
  simp only [h]

theorem XFree_congr {j j' : ℕ} (h : j % 2 = j' % 2) : XFree c X j = XFree c X j' := by
  unfold XFree
  simp only [XHeld_congr c X h]

theorem XFly_congr {j j' : ℕ} (h : j % 2 = j' % 2) (b l : ℕ) : XFly c X j b l = XFly c X j' b l := by
  unfold XFly half xslotAt xcellAt
  simp only [h]

theorem XHeld_free (j : ℕ) (v : S1x512x768.Idx → Elt F .f32) : XHeld c X j v ⊢ XFree c X j := by
  unfold XFree
  iintro H
  iexists v
  iexact H

theorem xissue {α : Type} {Q : α → sProp 𝕄} (j : ℕ) (b l : ℕ)
    {o₄ : Fin 4 → ℕ} {h₄} {o₁ : Fin 1 → ℕ} {h₁} {o₃ : Fin 3 → ℕ} {h₃} {hsrc hdst hsem}
    {k : PUnit → Prog (TpuEff nD τ sig (Elt F) Λ₀ .tc) α}
    (e₄ : o₄ = ![j % 2, 0, 0, 0]) (e₁ : o₁ = ![j % 2]) (e₃ : o₃ = ![b % 2, 512 * (l % 4), 0]) :
    XFree (F := F) c X j
      ⊢ iprop((XFly c X j b l -∗ WP c (k ⟨⟩) Q)
          -∗ WP c (.op (.enqueueDmaAs (xblk o₃ h₃) (.here (xslot o₄ h₄)) .same (.dma (xcell o₁ h₁)) hsrc hdst hsem) k) Q) := by
  subst e₄ e₁ e₃
  unfold XFree
  iintro ⟨%v, H⟩
  iapply (show XHeld (F := F) c X j v ⊢ _ from
    wp_issue (F := F) c (dst := xslotAt j) (src := xblkAt b l) (sm := .dma (xcellAt j)) (q := half j) (X := X) (v := v)
      (hsrc := hsrc) (hdst := hdst) (hsem := hsem) (View.amount_pos _ _ (by decide))) $$ H

theorem xawait {α : Type} {Q : α → sProp 𝕄} (j : ℕ) (b l : ℕ)
    {o₄ : Fin 4 → ℕ} {h₄} {o₁ : Fin 1 → ℕ} {h₁} {o₃ : Fin 3 → ℕ} {h₃} {hsrc hdst}
    {k : PUnit → Prog (TpuEff nD τ sig (Elt F) Λ₀ .tc) α}
    (e₁ : o₁ = ![j % 2]) :
    iprop(XFly (F := F) c X j b l ∗ Owe c)
      ⊢ iprop((XHeld c X j (xval X b l) ∗ Owe c -∗ WP c (k ⟨⟩) Q)
          -∗ WP c (.op (.waitDma2 (xcell o₁ h₁) (xblk o₃ h₃) (xslot o₄ h₄) hsrc hdst) k) Q) := by
  subst e₁
  exact (wp_await (F := F) c (dst := xslotAt j) (src := xblkAt b l) (sem := xcellAt j) (q := half j) (X := X) (srcw := xblk o₃ h₃) (dstw := xslot o₄ h₄) rfl)
end

/-! ### the first weights -/

/-- A slot of the ring. -/
abbrev uslot (o : Fin 4 → ℕ) (h : ∀ a, o a + S1x1x768x2048.size a ≤ S2x1x768x2048.size a) : Memref sig .tc .vmem S1x768x2048 .f32 :=
  ((Memref.whole cc0_scoped4).slice (Rect.unit (s := S2x1x768x2048) o S1x1x768x2048.size h) (fun _ => rfl)).squeeze S1x768x2048 squeezes_S1x1x768x2048_S1x768x2048

/-- A cell of the ring. -/
abbrev ucell (o : Fin 1 → ℕ) (h : ∀ a, o a + S1.size a ≤ S2.size a) : DmaSem sig :=
  ((cc0_scoped5.slice (Rect.unit (s := S2) o S1.size h)).squeeze S_ squeezes_S1_S_).sem

/-- A block of the array. -/
abbrev ublk (o : Fin 3 → ℕ) (h : ∀ a, o a + S1x768x2048.size a ≤ S8x768x2048.size a) : Memref sig .tc .hbm S1x768x2048 .f32 :=
  (Memref.whole main_arg2).slice (Rect.unit (s := S8x768x2048) o S1x768x2048.size h) (fun _ => rfl)

theorem inb_uslot (j : ℕ) : ∀ a, (![j % 2, 0, 0, 0] : Fin 4 → ℕ) a + S1x1x768x2048.size a ≤ S2x1x768x2048.size a := by
  intro a
  fin_cases a
  · show j % 2 + 1 ≤ 2; omega
  · show 0 + 1 ≤ 1; omega
  · show 0 + 768 ≤ 768; omega
  · show 0 + 2048 ≤ 2048; omega

theorem inb_ublk (e : ℕ) : ∀ a, (![e % 8, 0, 0] : Fin 3 → ℕ) a + S1x768x2048.size a ≤ S8x768x2048.size a := by
  intro a
  fin_cases a
  · show e % 8 + 1 ≤ 8; omega
  · show 0 + 768 ≤ 768; omega
  · show 0 + 2048 ≤ 2048; omega

/-- The slot, the cell and the block of an index. -/
abbrev uslotAt (j : ℕ) := uslot _ (inb_uslot j)
abbrev ucellAt (j : ℕ) := ucell _ (inb_cell j)
abbrev ublkAt (e : ℕ) := ublk _ (inb_ublk e)

section
variable (c : Dev nD) (X : (main_arg2 : Ref sig .tc).ty.Contents (Elt F))

/-- The block of the array's contents. -/
def uval (e : ℕ) : S1x768x2048.Idx → Elt F .f32 := (ublkAt e).view.read (Elt F) X

/-- Slot `j` at rest. -/
def UHeld (j : ℕ) (v : S1x768x2048.Idx → Elt F .f32) : sProp 𝕄 :=
  Held (F := F) c (uslotAt j) (.dma (ucellAt j)) (ublkAt 0) (half j) X v

/-- Slot `j` at rest with anything in it. -/
def UFree (j : ℕ) : sProp 𝕄 := iprop(∃ v, UHeld c X j v)

/-- Slot `j` with a block on its way. -/
def UFly (j : ℕ) (e : ℕ) : sProp 𝕄 :=
  Fly (F := F) c (uslotAt j) (.dma (ucellAt j)) (ublkAt e) (half j) X

theorem UHeld_congr {j j' : ℕ} (h : j % 2 = j' % 2) (v : S1x768x2048.Idx → Elt F .f32) : UHeld c X j v = UHeld c X j' v := by
  unfold UHeld half uslotAt ucellAt
  simp only [h]

theorem UFree_congr {j j' : ℕ} (h : j % 2 = j' % 2) : UFree c X j = UFree c X j' := by
  unfold UFree
  simp only [UHeld_congr c X h]

theorem UFly_congr {j j' : ℕ} (h : j % 2 = j' % 2) (e : ℕ) : UFly c X j e = UFly c X j' e := by
  unfold UFly half uslotAt ucellAt
  simp only [h]

theorem UHeld_free (j : ℕ) (v : S1x768x2048.Idx → Elt F .f32) : UHeld c X j v ⊢ UFree c X j := by
  unfold UFree
  iintro H
  iexists v
  iexact H

theorem uissue {α : Type} {Q : α → sProp 𝕄} (j : ℕ) (e : ℕ)
    {o₄ : Fin 4 → ℕ} {h₄} {o₁ : Fin 1 → ℕ} {h₁} {o₃ : Fin 3 → ℕ} {h₃} {hsrc hdst hsem}
    {k : PUnit → Prog (TpuEff nD τ sig (Elt F) Λ₀ .tc) α}
    (e₄ : o₄ = ![j % 2, 0, 0, 0]) (e₁ : o₁ = ![j % 2]) (e₃ : o₃ = ![e % 8, 0, 0]) :
    UFree (F := F) c X j
      ⊢ iprop((UFly c X j e -∗ WP c (k ⟨⟩) Q)
          -∗ WP c (.op (.enqueueDmaAs (ublk o₃ h₃) (.here (uslot o₄ h₄)) .same (.dma (ucell o₁ h₁)) hsrc hdst hsem) k) Q) := by
  subst e₄ e₁ e₃
  unfold UFree
  iintro ⟨%v, H⟩
  iapply (show UHeld (F := F) c X j v ⊢ _ from
    wp_issue (F := F) c (dst := uslotAt j) (src := ublkAt e) (sm := .dma (ucellAt j)) (q := half j) (X := X) (v := v)
      (hsrc := hsrc) (hdst := hdst) (hsem := hsem) (View.amount_pos _ _ (by decide))) $$ H

theorem uawait {α : Type} {Q : α → sProp 𝕄} (j : ℕ) (e : ℕ)
    {o₄ : Fin 4 → ℕ} {h₄} {o₁ : Fin 1 → ℕ} {h₁} {o₃ : Fin 3 → ℕ} {h₃} {hsrc hdst}
    {k : PUnit → Prog (TpuEff nD τ sig (Elt F) Λ₀ .tc) α}
    (e₁ : o₁ = ![j % 2]) :
    iprop(UFly (F := F) c X j e ∗ Owe c)
      ⊢ iprop((UHeld c X j (uval X e) ∗ Owe c -∗ WP c (k ⟨⟩) Q)
          -∗ WP c (.op (.waitDma2 (ucell o₁ h₁) (ublk o₃ h₃) (uslot o₄ h₄) hsrc hdst) k) Q) := by
  subst e₁
  exact (wp_await (F := F) c (dst := uslotAt j) (src := ublkAt e) (sem := ucellAt j) (q := half j) (X := X) (srcw := ublk o₃ h₃) (dstw := uslot o₄ h₄) rfl)
end

/-! ### the second weights -/

/-- A slot of the ring. -/
abbrev vslot (o : Fin 4 → ℕ) (h : ∀ a, o a + S1x1x768x2048.size a ≤ S2x1x768x2048.size a) : Memref sig .tc .vmem S1x768x2048 .f32 :=
  ((Memref.whole cc0_scoped6).slice (Rect.unit (s := S2x1x768x2048) o S1x1x768x2048.size h) (fun _ => rfl)).squeeze S1x768x2048 squeezes_S1x1x768x2048_S1x768x2048

/-- A cell of the ring. -/
abbrev vcell (o : Fin 1 → ℕ) (h : ∀ a, o a + S1.size a ≤ S2.size a) : DmaSem sig :=
  ((cc0_scoped7.slice (Rect.unit (s := S2) o S1.size h)).squeeze S_ squeezes_S1_S_).sem

/-- A block of the array. -/
abbrev vblk (o : Fin 3 → ℕ) (h : ∀ a, o a + S1x768x2048.size a ≤ S8x768x2048.size a) : Memref sig .tc .hbm S1x768x2048 .f32 :=
  (Memref.whole main_arg4).slice (Rect.unit (s := S8x768x2048) o S1x768x2048.size h) (fun _ => rfl)

theorem inb_vslot (j : ℕ) : ∀ a, (![j % 2, 0, 0, 0] : Fin 4 → ℕ) a + S1x1x768x2048.size a ≤ S2x1x768x2048.size a := by
  intro a
  fin_cases a
  · show j % 2 + 1 ≤ 2; omega
  · show 0 + 1 ≤ 1; omega
  · show 0 + 768 ≤ 768; omega
  · show 0 + 2048 ≤ 2048; omega

theorem inb_vblk (e : ℕ) : ∀ a, (![e % 8, 0, 0] : Fin 3 → ℕ) a + S1x768x2048.size a ≤ S8x768x2048.size a := by
  intro a
  fin_cases a
  · show e % 8 + 1 ≤ 8; omega
  · show 0 + 768 ≤ 768; omega
  · show 0 + 2048 ≤ 2048; omega

/-- The slot, the cell and the block of an index. -/
abbrev vslotAt (j : ℕ) := vslot _ (inb_vslot j)
abbrev vcellAt (j : ℕ) := vcell _ (inb_cell j)
abbrev vblkAt (e : ℕ) := vblk _ (inb_vblk e)

section
variable (c : Dev nD) (X : (main_arg4 : Ref sig .tc).ty.Contents (Elt F))

/-- The block of the array's contents. -/
def vval (e : ℕ) : S1x768x2048.Idx → Elt F .f32 := (vblkAt e).view.read (Elt F) X

/-- Slot `j` at rest. -/
def VHeld (j : ℕ) (v : S1x768x2048.Idx → Elt F .f32) : sProp 𝕄 :=
  Held (F := F) c (vslotAt j) (.dma (vcellAt j)) (vblkAt 0) (half j) X v

/-- Slot `j` at rest with anything in it. -/
def VFree (j : ℕ) : sProp 𝕄 := iprop(∃ v, VHeld c X j v)

/-- Slot `j` with a block on its way. -/
def VFly (j : ℕ) (e : ℕ) : sProp 𝕄 :=
  Fly (F := F) c (vslotAt j) (.dma (vcellAt j)) (vblkAt e) (half j) X

theorem VHeld_congr {j j' : ℕ} (h : j % 2 = j' % 2) (v : S1x768x2048.Idx → Elt F .f32) : VHeld c X j v = VHeld c X j' v := by
  unfold VHeld half vslotAt vcellAt
  simp only [h]

theorem VFree_congr {j j' : ℕ} (h : j % 2 = j' % 2) : VFree c X j = VFree c X j' := by
  unfold VFree
  simp only [VHeld_congr c X h]

theorem VFly_congr {j j' : ℕ} (h : j % 2 = j' % 2) (e : ℕ) : VFly c X j e = VFly c X j' e := by
  unfold VFly half vslotAt vcellAt
  simp only [h]

theorem VHeld_free (j : ℕ) (v : S1x768x2048.Idx → Elt F .f32) : VHeld c X j v ⊢ VFree c X j := by
  unfold VFree
  iintro H
  iexists v
  iexact H

theorem vissue {α : Type} {Q : α → sProp 𝕄} (j : ℕ) (e : ℕ)
    {o₄ : Fin 4 → ℕ} {h₄} {o₁ : Fin 1 → ℕ} {h₁} {o₃ : Fin 3 → ℕ} {h₃} {hsrc hdst hsem}
    {k : PUnit → Prog (TpuEff nD τ sig (Elt F) Λ₀ .tc) α}
    (e₄ : o₄ = ![j % 2, 0, 0, 0]) (e₁ : o₁ = ![j % 2]) (e₃ : o₃ = ![e % 8, 0, 0]) :
    VFree (F := F) c X j
      ⊢ iprop((VFly c X j e -∗ WP c (k ⟨⟩) Q)
          -∗ WP c (.op (.enqueueDmaAs (vblk o₃ h₃) (.here (vslot o₄ h₄)) .same (.dma (vcell o₁ h₁)) hsrc hdst hsem) k) Q) := by
  subst e₄ e₁ e₃
  unfold VFree
  iintro ⟨%v, H⟩
  iapply (show VHeld (F := F) c X j v ⊢ _ from
    wp_issue (F := F) c (dst := vslotAt j) (src := vblkAt e) (sm := .dma (vcellAt j)) (q := half j) (X := X) (v := v)
      (hsrc := hsrc) (hdst := hdst) (hsem := hsem) (View.amount_pos _ _ (by decide))) $$ H

theorem vawait {α : Type} {Q : α → sProp 𝕄} (j : ℕ) (e : ℕ)
    {o₄ : Fin 4 → ℕ} {h₄} {o₁ : Fin 1 → ℕ} {h₁} {o₃ : Fin 3 → ℕ} {h₃} {hsrc hdst}
    {k : PUnit → Prog (TpuEff nD τ sig (Elt F) Λ₀ .tc) α}
    (e₁ : o₁ = ![j % 2]) :
    iprop(VFly (F := F) c X j e ∗ Owe c)
      ⊢ iprop((VHeld c X j (vval X e) ∗ Owe c -∗ WP c (k ⟨⟩) Q)
          -∗ WP c (.op (.waitDma2 (vcell o₁ h₁) (vblk o₃ h₃) (vslot o₄ h₄) hsrc hdst) k) Q) := by
  subst e₁
  exact (wp_await (F := F) c (dst := vslotAt j) (src := vblkAt e) (sem := vcellAt j) (q := half j) (X := X) (srcw := vblk o₃ h₃) (dstw := vslot o₄ h₄) rfl)
end

/-! ### the last weights -/

/-- A slot of the ring. -/
abbrev wslot (o : Fin 4 → ℕ) (h : ∀ a, o a + S1x1x2048x768.size a ≤ S2x1x2048x768.size a) : Memref sig .tc .vmem S1x2048x768 .f32 :=
  ((Memref.whole cc0_scoped8).slice (Rect.unit (s := S2x1x2048x768) o S1x1x2048x768.size h) (fun _ => rfl)).squeeze S1x2048x768 squeezes_S1x1x2048x768_S1x2048x768

/-- A cell of the ring. -/
abbrev wcell (o : Fin 1 → ℕ) (h : ∀ a, o a + S1.size a ≤ S2.size a) : DmaSem sig :=
  ((cc0_scoped9.slice (Rect.unit (s := S2) o S1.size h)).squeeze S_ squeezes_S1_S_).sem

/-- A block of the array. -/
abbrev wblk (o : Fin 3 → ℕ) (h : ∀ a, o a + S1x2048x768.size a ≤ S8x2048x768.size a) : Memref sig .tc .hbm S1x2048x768 .f32 :=
  (Memref.whole main_arg3).slice (Rect.unit (s := S8x2048x768) o S1x2048x768.size h) (fun _ => rfl)

theorem inb_wslot (j : ℕ) : ∀ a, (![j % 2, 0, 0, 0] : Fin 4 → ℕ) a + S1x1x2048x768.size a ≤ S2x1x2048x768.size a := by
  intro a
  fin_cases a
  · show j % 2 + 1 ≤ 2; omega
  · show 0 + 1 ≤ 1; omega
  · show 0 + 2048 ≤ 2048; omega
  · show 0 + 768 ≤ 768; omega

theorem inb_wblk (e : ℕ) : ∀ a, (![e % 8, 0, 0] : Fin 3 → ℕ) a + S1x2048x768.size a ≤ S8x2048x768.size a := by
  intro a
  fin_cases a
  · show e % 8 + 1 ≤ 8; omega
  · show 0 + 2048 ≤ 2048; omega
  · show 0 + 768 ≤ 768; omega

/-- The slot, the cell and the block of an index. -/
abbrev wslotAt (j : ℕ) := wslot _ (inb_wslot j)
abbrev wcellAt (j : ℕ) := wcell _ (inb_cell j)
abbrev wblkAt (e : ℕ) := wblk _ (inb_wblk e)

section
variable (c : Dev nD) (X : (main_arg3 : Ref sig .tc).ty.Contents (Elt F))

/-- The block of the array's contents. -/
def wval (e : ℕ) : S1x2048x768.Idx → Elt F .f32 := (wblkAt e).view.read (Elt F) X

/-- Slot `j` at rest. -/
def WHeld (j : ℕ) (v : S1x2048x768.Idx → Elt F .f32) : sProp 𝕄 :=
  Held (F := F) c (wslotAt j) (.dma (wcellAt j)) (wblkAt 0) (half j) X v

/-- Slot `j` at rest with anything in it. -/
def WFree (j : ℕ) : sProp 𝕄 := iprop(∃ v, WHeld c X j v)

/-- Slot `j` with a block on its way. -/
def WFly (j : ℕ) (e : ℕ) : sProp 𝕄 :=
  Fly (F := F) c (wslotAt j) (.dma (wcellAt j)) (wblkAt e) (half j) X

theorem WHeld_congr {j j' : ℕ} (h : j % 2 = j' % 2) (v : S1x2048x768.Idx → Elt F .f32) : WHeld c X j v = WHeld c X j' v := by
  unfold WHeld half wslotAt wcellAt
  simp only [h]

theorem WFree_congr {j j' : ℕ} (h : j % 2 = j' % 2) : WFree c X j = WFree c X j' := by
  unfold WFree
  simp only [WHeld_congr c X h]

theorem WFly_congr {j j' : ℕ} (h : j % 2 = j' % 2) (e : ℕ) : WFly c X j e = WFly c X j' e := by
  unfold WFly half wslotAt wcellAt
  simp only [h]

theorem WHeld_free (j : ℕ) (v : S1x2048x768.Idx → Elt F .f32) : WHeld c X j v ⊢ WFree c X j := by
  unfold WFree
  iintro H
  iexists v
  iexact H

theorem wissue {α : Type} {Q : α → sProp 𝕄} (j : ℕ) (e : ℕ)
    {o₄ : Fin 4 → ℕ} {h₄} {o₁ : Fin 1 → ℕ} {h₁} {o₃ : Fin 3 → ℕ} {h₃} {hsrc hdst hsem}
    {k : PUnit → Prog (TpuEff nD τ sig (Elt F) Λ₀ .tc) α}
    (e₄ : o₄ = ![j % 2, 0, 0, 0]) (e₁ : o₁ = ![j % 2]) (e₃ : o₃ = ![e % 8, 0, 0]) :
    WFree (F := F) c X j
      ⊢ iprop((WFly c X j e -∗ WP c (k ⟨⟩) Q)
          -∗ WP c (.op (.enqueueDmaAs (wblk o₃ h₃) (.here (wslot o₄ h₄)) .same (.dma (wcell o₁ h₁)) hsrc hdst hsem) k) Q) := by
  subst e₄ e₁ e₃
  unfold WFree
  iintro ⟨%v, H⟩
  iapply (show WHeld (F := F) c X j v ⊢ _ from
    wp_issue (F := F) c (dst := wslotAt j) (src := wblkAt e) (sm := .dma (wcellAt j)) (q := half j) (X := X) (v := v)
      (hsrc := hsrc) (hdst := hdst) (hsem := hsem) (View.amount_pos _ _ (by decide))) $$ H

theorem wawait {α : Type} {Q : α → sProp 𝕄} (j : ℕ) (e : ℕ)
    {o₄ : Fin 4 → ℕ} {h₄} {o₁ : Fin 1 → ℕ} {h₁} {o₃ : Fin 3 → ℕ} {h₃} {hsrc hdst}
    {k : PUnit → Prog (TpuEff nD τ sig (Elt F) Λ₀ .tc) α}
    (e₁ : o₁ = ![j % 2]) :
    iprop(WFly (F := F) c X j e ∗ Owe c)
      ⊢ iprop((WHeld c X j (wval X e) ∗ Owe c -∗ WP c (k ⟨⟩) Q)
          -∗ WP c (.op (.waitDma2 (wcell o₁ h₁) (wblk o₃ h₃) (wslot o₄ h₄) hsrc hdst) k) Q) := by
  subst e₁
  exact (wp_await (F := F) c (dst := wslotAt j) (src := wblkAt e) (sem := wcellAt j) (q := half j) (X := X) (srcw := wblk o₃ h₃) (dstw := wslot o₄ h₄) rfl)
end

/-! ### the results -/

/-- A slot of the ring. -/
abbrev oslot (o : Fin 4 → ℕ) (h : ∀ a, o a + S1x1x2048x768.size a ≤ S2x1x2048x768.size a) : Memref sig .tc .vmem S1x2048x768 .f32 :=
  ((Memref.whole cc0_scoped10).slice (Rect.unit (s := S2x1x2048x768) o S1x1x2048x768.size h) (fun _ => rfl)).squeeze S1x2048x768 squeezes_S1x1x2048x768_S1x2048x768

/-- A cell of the ring. -/
abbrev ocell (o : Fin 1 → ℕ) (h : ∀ a, o a + S1.size a ≤ S2.size a) : DmaSem sig :=
  ((cc0_scoped11.slice (Rect.unit (s := S2) o S1.size h)).squeeze S_ squeezes_S1_S_).sem

/-- A block of the array. -/
abbrev oblk (o : Fin 3 → ℕ) (h : ∀ a, o a + S1x2048x768.size a ≤ S2x2048x768.size a) : Memref sig .tc .hbm S1x2048x768 .f32 :=
  (Memref.whole main_v0_1).slice (Rect.unit (s := S2x2048x768) o S1x2048x768.size h) (fun _ => rfl)

theorem inb_oslot (j : ℕ) : ∀ a, (![j % 2, 0, 0, 0] : Fin 4 → ℕ) a + S1x1x2048x768.size a ≤ S2x1x2048x768.size a := by
  intro a
  fin_cases a
  · show j % 2 + 1 ≤ 2; omega
  · show 0 + 1 ≤ 1; omega
  · show 0 + 2048 ≤ 2048; omega
  · show 0 + 768 ≤ 768; omega

theorem inb_oblk (b : ℕ) : ∀ a, (![b % 2, 0, 0] : Fin 3 → ℕ) a + S1x2048x768.size a ≤ S2x2048x768.size a := by
  intro a
  fin_cases a
  · show b % 2 + 1 ≤ 2; omega
  · show 0 + 2048 ≤ 2048; omega
  · show 0 + 768 ≤ 768; omega

/-- The slot, the cell and the block of an index. -/
abbrev oslotAt (j : ℕ) := oslot _ (inb_oslot j)
abbrev ocellAt (j : ℕ) := ocell _ (inb_cell j)
abbrev oblkAt (b : ℕ) := oblk _ (inb_oblk b)

section
variable (c : Dev nD)

/-- The result with block `b` written. -/
def owrite (b : ℕ) (G : (main_v0_1 : Ref sig .tc).ty.Contents (Elt F)) (d : S1x2048x768.Idx → Elt F .f32) :
    (main_v0_1 : Ref sig .tc).ty.Contents (Elt F) := (oblkAt b).view.write (Elt F) G d Finset.univ

/-- Slot `j` of the results' ring holding `d`. -/
def OSlot (j : ℕ) (d : S1x2048x768.Idx → Elt F .f32) : sProp 𝕄 := owns (c : Thread nD τ) (oslotAt j) fullShare d

/-- Cell `j` of the results' ring at zero. -/
def OCell (j : ℕ) : sProp 𝕄 := semVal ((c : Thread nD τ), .dma (ocellAt j)) 0

/-- The result as a whole. -/
def OArr (G : (main_v0_1 : Ref sig .tc).ty.Contents (Elt F)) : sProp 𝕄 :=
  iprop(((Memref.whole main_v0_1 : Memref sig .tc .hbm S2x2048x768 .f32).view.loc (c : Thread nD τ) ↦{fullShare} G))

/-- Slot `j`, holding `d`, on its way into block `b` of the result. -/
def OFly (j b : ℕ) (G : (main_v0_1 : Ref sig .tc).ty.Contents (Elt F)) (d : S1x2048x768.Idx → Elt F .f32) : sProp 𝕄 :=
  Flight (EC (F := F)) (c : Thread nD τ) (.dma (ocellAt j)) () ((oblkAt b).view.amount (.dma (ocellAt j)))
    iprop(OSlot c j d ∗ OArr c (owrite b G d))

theorem OSlot_congr {j j' : ℕ} (h : j % 2 = j' % 2) (d : S1x2048x768.Idx → Elt F .f32) : OSlot c j d = OSlot c j' d := by
  unfold OSlot oslotAt
  simp only [h]

theorem OCell_congr {j j' : ℕ} (h : j % 2 = j' % 2) : OCell (F := F) c j = OCell c j' := by
  unfold OCell ocellAt
  simp only [h]

theorem OFly_congr {j j' : ℕ} (h : j % 2 = j' % 2) (b : ℕ) (G : (main_v0_1 : Ref sig .tc).ty.Contents (Elt F))
    (d : S1x2048x768.Idx → Elt F .f32) : OFly c j b G d = OFly c j' b G d := by
  unfold OFly OSlot oslotAt ocellAt
  simp only [h]

theorem oissue {α : Type} {Q : α → sProp 𝕄} (j b : ℕ) (G : (main_v0_1 : Ref sig .tc).ty.Contents (Elt F))
    (d : S1x2048x768.Idx → Elt F .f32)
    {o₄ : Fin 4 → ℕ} {h₄} {o₁ : Fin 1 → ℕ} {h₁} {o₃ : Fin 3 → ℕ} {h₃} {hsrc hdst hsem}
    {k : PUnit → Prog (TpuEff nD τ sig (Elt F) Λ₀ .tc) α}
    (e₄ : o₄ = ![j % 2, 0, 0, 0]) (e₁ : o₁ = ![j % 2]) (e₃ : o₃ = ![b % 2, 0, 0]) :
    iprop(OSlot (F := F) c j d ∗ OCell c j ∗ OArr c G)
      ⊢ iprop((OFly c j b G d -∗ WP c (k ⟨⟩) Q)
          -∗ WP c (.op (.enqueueDmaAs (oslot o₄ h₄) (.here (oblk o₃ h₃)) .same (.dma (ocell o₁ h₁)) hsrc hdst hsem) k) Q) := by
  subst e₄ e₁ e₃
  unfold OSlot owns
  iintro ⟨⟨%f, %hf, Hd⟩, Hs, Hx⟩
  iintro Hk
  subst hf
  iapply (wp_dmaLocal (EC (F := F)) Variants.none (c : Thread nD τ) none () (src := oslotAt j) (dst := oblkAt b) (via := .same)
    (sm := .dma (ocellAt j)) (hsrc := hsrc) (hdst := hdst) (hsem := hsem)
    (N := (oblkAt b).view.amount (.dma (ocellAt j))) rfl
    (View.amount_pos _ _ (by decide)) (Finset.subset_univ _) (fs := f) (fd := G) (q := fullShare)) $$ [Hx Hd Hs]
  · isplitl [Hd]; · iexact Hd
    isplitl [Hx]; · unfold OArr; iexact Hx
    unfold OCell; iexact Hs
  · iintro Hf
    iapply Hk
    unfold OFly
    iapply (Flight_mono (EC (F := F)) ?_) $$ Hf
    iintro ⟨Hx, Hd⟩
    isplitl [Hd]
    · unfold OSlot owns
      iexists f
      isplitr
      · ipureintro; rfl
      · iexact Hd
    · unfold OArr owrite; iexact Hx

theorem oawait {α : Type} {Q : α → sProp 𝕄} (j b : ℕ) (G : (main_v0_1 : Ref sig .tc).ty.Contents (Elt F))
    (d : S1x2048x768.Idx → Elt F .f32)
    {o₄ : Fin 4 → ℕ} {h₄} {o₁ : Fin 1 → ℕ} {h₁} {o₃ : Fin 3 → ℕ} {h₃} {hsrc hdst}
    {k : PUnit → Prog (TpuEff nD τ sig (Elt F) Λ₀ .tc) α}
    (e₁ : o₁ = ![j % 2]) :
    iprop(OFly (F := F) c j b G d ∗ Owe c)
      ⊢ iprop((((OSlot c j d ∗ OArr c (owrite b G d)) ∗ OCell c j) ∗ Owe c -∗ WP c (k ⟨⟩) Q)
          -∗ WP c (.op (.waitDma2 (ocell o₁ h₁) (oslot o₄ h₄) (oblk o₃ h₃) hsrc hdst) k) Q) := by
  subst e₁
  unfold OFly Owe
  iintro ⟨Hf, ⟨%W, Ho⟩⟩
  iintro Hk
  iapply (wp_waitLocal (EC (F := F)) Variants.none (c : Thread nD τ) none () (sem := ocellAt j)
    (srcw := oslot o₄ h₄) (dstw := oblk o₃ h₃) (hsrc := hsrc) (hdst := hdst) (N := (oblkAt b).view.amount (.dma (ocellAt j))) rfl) $$ [Hf Ho]
  · isplitl [Hf]; · iexact Hf
    iexact Ho
  · iintro ⟨Hd, Hs, Ho⟩
    iapply Hk
    isplitr [Ho]
    · isplitl [Hd]; · iexact Hd
      unfold OCell; iexact Hs
    · iexists _; iexact Ho
end

end Cert.KernelIdeal.Hand
-- ==== Proof.Words.lean ====
/-
  The words of the expert pass by trip: where a trip's batch row, expert rank and row tile stand, the expert
  of a trip, and what the kernel's conditions and offsets come to at them.
-/
module

public import proofs.«01_k».proof.Proof.Slots
public import Idealize.ShloMosaic.Lib.WordCmp
public import Idealize.ShloMosaic.Lib.WordArith

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The batch row, the expert rank and the row tile of trip `t`. -/
def bw (t : ℕ) : BitVec 32 := BitVec.ofNat 32 (t / 8 % 2)
def kw (t : ℕ) : BitVec 32 := BitVec.ofNat 32 (t / 4 % 2)
def lw (t : ℕ) : BitVec 32 := BitVec.ofNat 32 (t % 4)

/-- How many row tiles have been asked for before trip `t`. -/
def xw (t : ℕ) : BitVec 32 := BitVec.ofNat 32 (min (t + 1) 16)

def pb (t : ℕ) : BitVec 1 := if t / 8 % 2 = 0 then 1#1 else 0#1
def pk (t : ℕ) : BitVec 1 := if t / 4 % 2 = 0 then 1#1 else 0#1

/-- The expert of trip `t`, of the first experts `a₀ a₁` and the second experts `b₀ b₁` of the two batch rows. -/
def ew (a₀ a₁ b₀ b₁ : BitVec 32) (t : ℕ) : BitVec 32 :=
  Scalar.select (pk t) (Scalar.select (pb t) a₀ a₁) (Scalar.select (pb t) b₀ b₁)

theorem trips2 : k0_t2_loop.trips = 16 := by decide

theorem ew_lt {a₀ a₁ b₀ b₁ : BitVec 32} (h : a₀.toNat < 8 ∧ a₁.toNat < 8 ∧ b₀.toNat < 8 ∧ b₁.toNat < 8) (t : ℕ) :
    (ew a₀ a₁ b₀ b₁ t).toNat < 8 := by
  obtain ⟨h₁, h₂, h₃, h₄⟩ := h
  unfold ew Scalar.select
  split <;> split <;> assumption

theorem ew_add16 (a₀ a₁ b₀ b₁ : BitVec 32) (t : ℕ) : ew a₀ a₁ b₀ b₁ (t + 16) = ew a₀ a₁ b₀ b₁ t := by
  have h₁ : pk (t + 16) = pk t := by unfold pk; congr 2; omega
  have h₂ : pb (t + 16) = pb t := by unfold pb; congr 2; omega
  unfold ew
  rw [h₁, h₂]

theorem rem2 (n : ℕ) : (Scalar.remui (BitVec.ofNat 32 n) 2#32).toNat = n % 2 := by
  rw [WordArith.remui_of_ne_zero _ _ (by decide), BitVec.toNat_umod]
  simp only [BitVec.toNat_ofNat, Nat.reducePow, Nat.reduceMod]
  omega

theorem slot_eq (n : ℕ) : (![(Scalar.remui (BitVec.ofNat 32 n) 2#32).toNat, 0, 0, 0] : Fin 4 → ℕ) = ![n % 2, 0, 0, 0] := by
  rw [rem2]

theorem cell_eq (n : ℕ) : (![(Scalar.remui (BitVec.ofNat 32 n) 2#32).toNat] : Fin 1 → ℕ) = ![n % 2] := by
  rw [rem2]

theorem inb_of {n : ℕ} {o o' s S : Fin n → ℕ} (e : o = o') (h : ∀ a, o' a + s a ≤ S a) : ∀ a, o a + s a ≤ S a := by
  subst e; exact h

theorem muli1 (w : BitVec 32) : Scalar.muli 1#32 w = w := by
  unfold Scalar.muli IntOp.muli
  exact BitVec.one_mul w

theorem ne_iff (x y : BitVec 32) : (Scalar.cmpi .ne x y = 1#1) ↔ x ≠ y := by
  show BitVec.ofBool (x != y) = 1#1 ↔ _
  rw [← bne_iff_ne]
  cases (x != y) <;> decide

/-- The condition under which the next trip's expert is asked for. -/
theorem cond_next {P Q P' Q' R p q p' q' : BitVec 1} (a₀ a₁ b₀ b₁ : BitVec 32)
    (hP : P = p) (hQ : Q = q) (hP' : P' = p') (hQ' : Q' = q') :
    (Scalar.cmpi .ne (Scalar.extui (Scalar.andi (Scalar.andi
      (Scalar.cmpi .ne (Scalar.select P (Scalar.select Q a₀ a₁) (Scalar.select Q b₀ b₁))
        (Scalar.select P' (Scalar.select Q' a₀ a₁) (Scalar.select Q' b₀ b₁))) R) 1#1)) 0#32 = 1#1)
      ↔ (Scalar.select p (Scalar.select q a₀ a₁) (Scalar.select q b₀ b₁)
          ≠ Scalar.select p' (Scalar.select q' a₀ a₁) (Scalar.select q' b₀ b₁)) ∧ R = 1#1 := by
  subst hP hQ hP' hQ'
  generalize Scalar.select P (Scalar.select Q a₀ a₁) (Scalar.select Q b₀ b₁) = x
  generalize Scalar.select P' (Scalar.select Q' a₀ a₁) (Scalar.select Q' b₀ b₁) = y
  have h : ∀ Z R : BitVec 1, (Scalar.cmpi .ne (Scalar.extui (Scalar.andi (Scalar.andi Z R) 1#1)) 0#32 = 1#1)
      ↔ Z = 1#1 ∧ R = 1#1 := by decide
  rw [h, ne_iff]

/-- The condition under which the trip's expert is waited for. -/
theorem cond_this {P Q P' Q' R T p q p' q' : BitVec 1} (a₀ a₁ b₀ b₁ : BitVec 32)
    (hP : P = p) (hQ : Q = q) (hP' : P' = p') (hQ' : Q' = q') (hT : T = 1#1) :
    (Scalar.cmpi .ne (Scalar.extui (Scalar.andi (Scalar.ori
      (Scalar.cmpi .ne (Scalar.select P (Scalar.select Q a₀ a₁) (Scalar.select Q b₀ b₁))
        (Scalar.select P' (Scalar.select Q' a₀ a₁) (Scalar.select Q' b₀ b₁))) R) T)) 0#32 = 1#1)
      ↔ (Scalar.select p (Scalar.select q a₀ a₁) (Scalar.select q b₀ b₁)
          ≠ Scalar.select p' (Scalar.select q' a₀ a₁) (Scalar.select q' b₀ b₁)) ∨ R = 1#1 := by
  subst hP hQ hP' hQ' hT
  generalize Scalar.select P (Scalar.select Q a₀ a₁) (Scalar.select Q b₀ b₁) = x
  generalize Scalar.select P' (Scalar.select Q' a₀ a₁) (Scalar.select Q' b₀ b₁) = y
  have h : ∀ Z R : BitVec 1, (Scalar.cmpi .ne (Scalar.extui (Scalar.andi (Scalar.ori Z R) 1#1)) 0#32 = 1#1)
      ↔ Z = 1#1 ∨ R = 1#1 := by decide
  rw [h, ne_iff]

/-- The block of an expert. -/
theorem blk_eq {P Q p q : BitVec 1} (a₀ a₁ b₀ b₁ : BitVec 32) (hP : P = p) (hQ : Q = q) :
    (![(Scalar.muli 1#32 (Scalar.select P (Scalar.select Q a₀ a₁) (Scalar.select Q b₀ b₁))).toNat, 0, 0] : Fin 3 → ℕ)
      = ![(Scalar.select p (Scalar.select q a₀ a₁) (Scalar.select q b₀ b₁)).toNat, 0, 0] := by
  subst hP hQ
  rw [muli1]

theorem sel_eq {P Q p q : BitVec 1} (a₀ a₁ b₀ b₁ : BitVec 32) (hP : P = p) (hQ : Q = q) :
    Scalar.select P (Scalar.select Q a₀ a₁) (Scalar.select Q b₀ b₁)
      = Scalar.select p (Scalar.select q a₀ a₁) (Scalar.select q b₀ b₁) := by
  subst hP hQ
  rfl

/-- How many blocks of experts have been asked for, and how many are done with, before trip `t`. -/
def stp (a₀ a₁ b₀ b₁ : BitVec 32) (t : ℕ) : ℕ := if ew a₀ a₁ b₀ b₁ t ≠ ew a₀ a₁ b₀ b₁ (t + 1) ∧ t < 15 then 1 else 0
def stq (a₀ a₁ b₀ b₁ : BitVec 32) (t : ℕ) : ℕ := if ew a₀ a₁ b₀ b₁ t ≠ ew a₀ a₁ b₀ b₁ (t + 1) ∨ t = 15 then 1 else 0
def cin (a₀ a₁ b₀ b₁ : BitVec 32) : ℕ → ℕ
  | 0 => 1
  | t + 1 => cin a₀ a₁ b₀ b₁ t + stp a₀ a₁ b₀ b₁ t
def cnt (a₀ a₁ b₀ b₁ : BitVec 32) : ℕ → ℕ
  | 0 => 0
  | t + 1 => cnt a₀ a₁ b₀ b₁ t + stq a₀ a₁ b₀ b₁ t

theorem cin_eq (a₀ a₁ b₀ b₁ : BitVec 32) (t : ℕ) (h : t ≤ 15) : cin a₀ a₁ b₀ b₁ t = cnt a₀ a₁ b₀ b₁ t + 1 := by
  induction t with
  | zero => rfl
  | succ t ih =>
    have ih := ih (by omega)
    show cin a₀ a₁ b₀ b₁ t + stp a₀ a₁ b₀ b₁ t = cnt a₀ a₁ b₀ b₁ t + stq a₀ a₁ b₀ b₁ t + 1
    have : stp a₀ a₁ b₀ b₁ t = stq a₀ a₁ b₀ b₁ t := by
      unfold stp stq
      congr 1
      simp only [eq_iff_iff]
      constructor
      · exact fun h => Or.inl h.1
      · rintro (h | h)
        · exact ⟨h, by omega⟩
        · omega
    omega

theorem inc_in {R r : BitVec 1} (x y : BitVec 32) (n : ℕ) {P : Prop} [Decidable P] (hR : (R = 1#1) ↔ P) :
    Scalar.select (Scalar.andi (Scalar.andi (Scalar.cmpi .ne x y) R) 1#1) (Scalar.addi (BitVec.ofNat 32 n) 1#32) (BitVec.ofNat 32 n)
      = BitVec.ofNat 32 (n + if x ≠ y ∧ P then 1 else 0) := by
  have h : ∀ Z R : BitVec 1, Scalar.andi (Scalar.andi Z R) 1#1 = 1#1 ↔ Z = 1#1 ∧ R = 1#1 := by decide
  unfold Scalar.select
  simp only [show (1 : BitVec 1) = 1#1 from rfl, h, ne_iff, hR]
  split
  · exact (BitVec.ofNat_add n 1).symm
  · rfl

theorem inc_out {R : BitVec 1} (x y : BitVec 32) (n : ℕ) {P : Prop} [Decidable P] (hR : (R = 1#1) ↔ P) :
    Scalar.select (Scalar.ori (Scalar.cmpi .ne x y) R) (Scalar.addi (BitVec.ofNat 32 n) 1#32) (BitVec.ofNat 32 n)
      = BitVec.ofNat 32 (n + if x ≠ y ∨ P then 1 else 0) := by
  have h : ∀ Z R : BitVec 1, Scalar.ori Z R = 1#1 ↔ Z = 1#1 ∨ R = 1#1 := by decide
  unfold Scalar.select
  simp only [show (1 : BitVec 1) = 1#1 from rfl, h, ne_iff, hR]
  split
  · exact (BitVec.ofNat_add n 1).symm
  · rfl

section
variable (t : Fin k0_t2_loop.trips) (a₀ a₁ b₀ b₁ : BitVec 32)

theorem cond8_iff : k0_cond8 t (bw t) (kw t) (lw t) a₀ a₁ b₀ b₁ a₀ a₁ b₀ b₁ = 1#1
    ↔ ew a₀ a₁ b₀ b₁ t ≠ ew a₀ a₁ b₀ b₁ (t + 1) ∧ (t : ℕ) < 15 := by
  refine (cond_next (p := pk t) (q := pb t) (p' := pk (t + 1)) (q' := pb (t + 1)) a₀ a₁ b₀ b₁ ?_ ?_ ?_ ?_).trans
    (and_congr Iff.rfl ?_)
  all_goals (revert t; decide +kernel)

theorem cond9_iff : k0_cond9 t (bw t) (kw t) (lw t) a₀ a₁ b₀ b₁ a₀ a₁ b₀ b₁ = 1#1
    ↔ ew a₀ a₁ b₀ b₁ t ≠ ew a₀ a₁ b₀ b₁ (t + 1) ∧ (t : ℕ) < 15 := by
  refine (cond_next (p := pk t) (q := pb t) (p' := pk (t + 1)) (q' := pb (t + 1)) a₀ a₁ b₀ b₁ ?_ ?_ ?_ ?_).trans
    (and_congr Iff.rfl ?_)
  all_goals (revert t; decide +kernel)

theorem cond10_iff : k0_cond10 t (bw t) (kw t) (lw t) a₀ a₁ b₀ b₁ a₀ a₁ b₀ b₁ = 1#1
    ↔ ew a₀ a₁ b₀ b₁ t ≠ ew a₀ a₁ b₀ b₁ (t + 1) ∧ (t : ℕ) < 15 := by
  refine (cond_next (p := pk t) (q := pb t) (p' := pk (t + 1)) (q' := pb (t + 1)) a₀ a₁ b₀ b₁ ?_ ?_ ?_ ?_).trans
    (and_congr Iff.rfl ?_)
  all_goals (revert t; decide +kernel)

theorem cond12_iff : k0_cond12 t (bw t) (kw t) (lw t) a₀ a₁ b₀ b₁ a₀ a₁ b₀ b₁ = 1#1
    ↔ ew a₀ a₁ b₀ b₁ t ≠ ew a₀ a₁ b₀ b₁ (t + 15) ∨ (t : ℕ) = 0 := by
  refine (cond_this (p := pk t) (q := pb t) (p' := pk (t + 15)) (q' := pb (t + 15)) a₀ a₁ b₀ b₁ ?_ ?_ ?_ ?_ ?_).trans
    (or_congr Iff.rfl ?_)
  all_goals (revert t; decide +kernel)

theorem cond13_iff : k0_cond13 t (bw t) (kw t) (lw t) a₀ a₁ b₀ b₁ a₀ a₁ b₀ b₁ = 1#1
    ↔ ew a₀ a₁ b₀ b₁ t ≠ ew a₀ a₁ b₀ b₁ (t + 15) ∨ (t : ℕ) = 0 := by
  refine (cond_this (p := pk t) (q := pb t) (p' := pk (t + 15)) (q' := pb (t + 15)) a₀ a₁ b₀ b₁ ?_ ?_ ?_ ?_ ?_).trans
    (or_congr Iff.rfl ?_)
  all_goals (revert t; decide +kernel)

theorem cond14_iff : k0_cond14 t (bw t) (kw t) (lw t) a₀ a₁ b₀ b₁ a₀ a₁ b₀ b₁ = 1#1
    ↔ ew a₀ a₁ b₀ b₁ t ≠ ew a₀ a₁ b₀ b₁ (t + 15) ∨ (t : ℕ) = 0 := by
  refine (cond_this (p := pk t) (q := pb t) (p' := pk (t + 15)) (q' := pb (t + 15)) a₀ a₁ b₀ b₁ ?_ ?_ ?_ ?_ ?_).trans
    (or_congr Iff.rfl ?_)
  all_goals (revert t; decide +kernel)

theorem cond7_iff : k0_cond7 t (bw t) (kw t) (lw t) = 1#1 ↔ (t : ℕ) < 15 := by
  revert t; decide +kernel

theorem cond11_iff : k0_cond11 t (bw t) (kw t) (lw t) = 1#1 ↔ True := by
  revert t; decide +kernel

theorem cond22_iff : k0_cond22 t (bw t) (kw t) (lw t) = 1#1 ↔ (t : ℕ) = 7 ∨ (t : ℕ) = 15 := by
  revert t; decide +kernel

theorem cond27_iff : k0_cond27 t (bw t) (kw t) (lw t) = 1#1 ↔ (t : ℕ) = 8 := by
  revert t; decide +kernel

theorem cond16_iff : k0_cond16 (kw t) = 1#1 ↔ (t : ℕ) / 4 % 2 = 0 := by
  revert t; decide +kernel

theorem cond17_iff : k0_cond17 (kw t) = 1#1 ↔ ¬ (t : ℕ) / 4 % 2 = 0 := by
  revert t; decide +kernel

theorem off24_eq : k0_off24 (bw t) (kw t) (lw t) a₀ a₁ b₀ b₁ = ![(ew a₀ a₁ b₀ b₁ (t + 1)).toNat, 0, 0] := by
  refine blk_eq (p := pk (t + 1)) (q := pb (t + 1)) a₀ a₁ b₀ b₁ ?_ ?_
  all_goals (revert t; decide +kernel)

theorem off27_eq : k0_off27 (bw t) (kw t) (lw t) a₀ a₁ b₀ b₁ = ![(ew a₀ a₁ b₀ b₁ (t + 1)).toNat, 0, 0] := by
  refine blk_eq (p := pk (t + 1)) (q := pb (t + 1)) a₀ a₁ b₀ b₁ ?_ ?_
  all_goals (revert t; decide +kernel)

theorem off30_eq : k0_off30 (bw t) (kw t) (lw t) a₀ a₁ b₀ b₁ = ![(ew a₀ a₁ b₀ b₁ (t + 1)).toNat, 0, 0] := by
  refine blk_eq (p := pk (t + 1)) (q := pb (t + 1)) a₀ a₁ b₀ b₁ ?_ ?_
  all_goals (revert t; decide +kernel)

theorem off36_eq : k0_off36 (bw t) (kw t) a₀ a₁ b₀ b₁ = ![(ew a₀ a₁ b₀ b₁ t).toNat, 0, 0] := by
  refine blk_eq (p := pk t) (q := pb t) a₀ a₁ b₀ b₁ ?_ ?_
  all_goals (revert t; decide +kernel)

theorem off39_eq : k0_off39 (bw t) (kw t) a₀ a₁ b₀ b₁ = ![(ew a₀ a₁ b₀ b₁ t).toNat, 0, 0] := by
  refine blk_eq (p := pk t) (q := pb t) a₀ a₁ b₀ b₁ ?_ ?_
  all_goals (revert t; decide +kernel)

theorem off42_eq : k0_off42 (bw t) (kw t) a₀ a₁ b₀ b₁ = ![(ew a₀ a₁ b₀ b₁ t).toNat, 0, 0] := by
  refine blk_eq (p := pk t) (q := pb t) a₀ a₁ b₀ b₁ ?_ ?_
  all_goals (revert t; decide +kernel)

theorem off21_eq : k0_off21 (bw t) (kw t) (lw t) = ![((t : ℕ) + 1) / 8 % 2, 512 * (((t : ℕ) + 1) % 4), 0] := by
  revert t; decide +kernel

theorem off48_eq : k0_off48 (lw t) = ![0, 512 * ((t : ℕ) % 4), 0] := by
  revert t; decide +kernel

theorem off50_eq : k0_off50 (lw t) = ![0, 512 * ((t : ℕ) % 4), 0] := by
  revert t; decide +kernel

theorem off52_eq : k0_off52 (bw t) = ![(t : ℕ) / 8 % 2, 0, 0] := by
  revert t; decide +kernel

theorem chk6_ok : k0_chk6 t (BitVec.ofNat 32 (t + 1)) (BitVec.ofNat 32 t) (BitVec.ofNat 32 (t / 8)) (BitVec.ofNat 32 ((t - 1) / 8)) (bw t) (kw t) (lw t) := by
  revert t; decide +kernel

theorem chk23_ok : k0_chk23 (BitVec.ofNat 32 (t / 8)) (kw t) := by
  revert t; decide +kernel

theorem chk19_ok (n : ℕ) : k0_chk19 (BitVec.ofNat 32 n) := by
  exact inb_of (slot_eq n) (inb_xslot n)

theorem chk20_ok (n : ℕ) : k0_chk20 (BitVec.ofNat 32 n) := by
  exact inb_of (slot_eq n) (inb_uslot n)

theorem chk7_ok (n : ℕ) (e₁ e₂ e₃ e₄ e₅ e₆ e₇ e₈ : BitVec 32) :
    k0_chk7 t (BitVec.ofNat 32 n) (bw t) (kw t) (lw t) e₁ e₂ e₃ e₄ e₅ e₆ e₇ e₈ :=
  ⟨fun _ => inb_of (cell_eq n) (inb_cell n), fun _ => inb_of (slot_eq n) (inb_uslot n)⟩

theorem chk13_ok (n : ℕ) (e₁ e₂ e₃ e₄ e₅ e₆ e₇ e₈ : BitVec 32) :
    k0_chk13 t (BitVec.ofNat 32 n) (bw t) (kw t) (lw t) e₁ e₂ e₃ e₄ e₅ e₆ e₇ e₈ :=
  ⟨fun _ => inb_of (cell_eq n) (inb_cell n), fun _ => inb_of (slot_eq n) (inb_uslot n)⟩

theorem chk21_ok (n : ℕ) : k0_chk21 (BitVec.ofNat 32 n) := by
  exact inb_of (slot_eq n) (inb_vslot n)

theorem chk9_ok (n : ℕ) (e₁ e₂ e₃ e₄ e₅ e₆ e₇ e₈ : BitVec 32) :
    k0_chk9 t (BitVec.ofNat 32 n) (bw t) (kw t) (lw t) e₁ e₂ e₃ e₄ e₅ e₆ e₇ e₈ :=
  ⟨fun _ => inb_of (cell_eq n) (inb_cell n), fun _ => inb_of (slot_eq n) (inb_vslot n)⟩

theorem chk15_ok (n : ℕ) (e₁ e₂ e₃ e₄ e₅ e₆ e₇ e₈ : BitVec 32) :
    k0_chk15 t (BitVec.ofNat 32 n) (bw t) (kw t) (lw t) e₁ e₂ e₃ e₄ e₅ e₆ e₇ e₈ :=
  ⟨fun _ => inb_of (cell_eq n) (inb_cell n), fun _ => inb_of (slot_eq n) (inb_vslot n)⟩

theorem chk22_ok (n : ℕ) : k0_chk22 (BitVec.ofNat 32 n) := by
  exact inb_of (slot_eq n) (inb_wslot n)

theorem chk11_ok (n : ℕ) (e₁ e₂ e₃ e₄ e₅ e₆ e₇ e₈ : BitVec 32) :
    k0_chk11 t (BitVec.ofNat 32 n) (bw t) (kw t) (lw t) e₁ e₂ e₃ e₄ e₅ e₆ e₇ e₈ :=
  ⟨fun _ => inb_of (cell_eq n) (inb_cell n), fun _ => inb_of (slot_eq n) (inb_wslot n)⟩

theorem chk17_ok (n : ℕ) (e₁ e₂ e₃ e₄ e₅ e₆ e₇ e₈ : BitVec 32) :
    k0_chk17 t (BitVec.ofNat 32 n) (bw t) (kw t) (lw t) e₁ e₂ e₃ e₄ e₅ e₆ e₇ e₈ :=
  ⟨fun _ => inb_of (cell_eq n) (inb_cell n), fun _ => inb_of (slot_eq n) (inb_wslot n)⟩

variable (h : a₀.toNat < 8 ∧ a₁.toNat < 8 ∧ b₀.toNat < 8 ∧ b₁.toNat < 8)

include h

/-- The block of an expert below eight. -/
theorem ew_mod (t : ℕ) : (![(ew a₀ a₁ b₀ b₁ t).toNat, 0, 0] : Fin 3 → ℕ) = ![(ew a₀ a₁ b₀ b₁ t).toNat % 8, 0, 0] := by
  rw [Nat.mod_eq_of_lt (ew_lt h t)]

theorem chk8_ok (e₁ e₂ e₃ e₄ e₅ e₆ e₇ e₈ : BitVec 32) :
    k0_chk8 t (bw t) (kw t) (lw t) e₁ e₂ e₃ e₄ e₅ e₆ e₇ e₈ a₀ a₁ b₀ b₁ :=
  fun _ a => (congrFun ((off24_eq t a₀ a₁ b₀ b₁).trans (ew_mod a₀ a₁ b₀ b₁ h _)) a).symm ▸ inb_ublk _ a

theorem chk14_ok (e₁ e₂ e₃ e₄ e₅ e₆ e₇ e₈ : BitVec 32) :
    k0_chk14 t (bw t) (kw t) (lw t) e₁ e₂ e₃ e₄ e₅ e₆ e₇ e₈ a₀ a₁ b₀ b₁ :=
  fun _ a => (congrFun ((off36_eq t a₀ a₁ b₀ b₁).trans (ew_mod a₀ a₁ b₀ b₁ h _)) a).symm ▸ inb_ublk _ a

theorem chk10_ok (e₁ e₂ e₃ e₄ e₅ e₆ e₇ e₈ : BitVec 32) :
    k0_chk10 t (bw t) (kw t) (lw t) e₁ e₂ e₃ e₄ e₅ e₆ e₇ e₈ a₀ a₁ b₀ b₁ :=
  fun _ a => (congrFun ((off27_eq t a₀ a₁ b₀ b₁).trans (ew_mod a₀ a₁ b₀ b₁ h _)) a).symm ▸ inb_vblk _ a

theorem chk16_ok (e₁ e₂ e₃ e₄ e₅ e₆ e₇ e₈ : BitVec 32) :
    k0_chk16 t (bw t) (kw t) (lw t) e₁ e₂ e₃ e₄ e₅ e₆ e₇ e₈ a₀ a₁ b₀ b₁ :=
  fun _ a => (congrFun ((off39_eq t a₀ a₁ b₀ b₁).trans (ew_mod a₀ a₁ b₀ b₁ h _)) a).symm ▸ inb_vblk _ a

theorem chk12_ok (e₁ e₂ e₃ e₄ e₅ e₆ e₇ e₈ : BitVec 32) :
    k0_chk12 t (bw t) (kw t) (lw t) e₁ e₂ e₃ e₄ e₅ e₆ e₇ e₈ a₀ a₁ b₀ b₁ :=
  fun _ a => (congrFun ((off30_eq t a₀ a₁ b₀ b₁).trans (ew_mod a₀ a₁ b₀ b₁ h _)) a).symm ▸ inb_wblk _ a

theorem chk18_ok (e₁ e₂ e₃ e₄ e₅ e₆ e₇ e₈ : BitVec 32) :
    k0_chk18 t (bw t) (kw t) (lw t) e₁ e₂ e₃ e₄ e₅ e₆ e₇ e₈ a₀ a₁ b₀ b₁ :=
  fun _ a => (congrFun ((off42_eq t a₀ a₁ b₀ b₁).trans (ew_mod a₀ a₁ b₀ b₁ h _)) a).symm ▸ inb_wblk _ a

end

end Cert.KernelIdeal.Hand
-- ==== Proof.Parts.lean ====
/-
  One trip of the expert pass, part by part: what each part needs, what it leaves, and the words it hands on.
-/
module

public import proofs.«01_k».proof.Proof.Words
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

section
variable (c : Dev nD) {α : Type}

theorem WP_assume {Q : α → sProp 𝕄} {P : Prop} {dec : Decidable P} {k : PLift P → Prog (TpuEff nD τ sig (Elt F) Λ₀ .tc) α} (h : P) :
    WP (F := F) c (k ⟨h⟩) Q ⊢ WP c (.op (.assume P dec) k) Q := by
  iintro H
  iapply (wp_assume Variants.none (c : Thread nD τ) none Set.univ h)
  iexact H

theorem WP_pos {Q : α → sProp 𝕄} {P : Prop} [Decidable P] (h : P) {f : P → Prog (TpuEff nD τ sig (Elt F) Λ₀ .tc) α}
    {g : ¬P → Prog (TpuEff nD τ sig (Elt F) Λ₀ .tc) α} :
    WP (F := F) c (f h) Q ⊢ WP c (dite P f g) Q := by
  rw [dif_pos h]

theorem WP_neg {Q : α → sProp 𝕄} {P : Prop} [Decidable P] (h : ¬P) {f : P → Prog (TpuEff nD τ sig (Elt F) Λ₀ .tc) α}
    {g : ¬P → Prog (TpuEff nD τ sig (Elt F) Λ₀ .tc) α} :
    WP (F := F) c (g h) Q ⊢ WP c (dite P f g) Q := by
  rw [dif_neg h]

/-- A branch that does nothing either way. -/
theorem WP_skip {Q : α → sProp 𝕄} {P : Prop} [Decidable P] {p : Prog (TpuEff nD τ sig (Elt F) Λ₀ .tc) α} :
    WP (F := F) c p Q ⊢ WP c (if P then p else p) Q := by
  split <;> exact .rfl

theorem WP_ret {Q : α → sProp 𝕄} {a b : α} (h : a = b) : Q b ⊢ WP (F := F) c (.ret a) Q := by
  subst h
  exact le_wp_ret _ _ _ a Q

end

theorem mk_eq {α : Sort _} {β : Sort _} {a a' : α} {b b' : β} (h : a = a') (h' : b = b') :
    (⟨a, b⟩ : Σ' _ : α, β) = ⟨a', b'⟩ := by
  subst h h'; rfl

/-- A rectangle that is all of its shape. -/
theorem full_emb {s : Shape} (h) (i : s.Idx) : (Rect.unit (s := s) (fun _ => 0) s.size h).emb i = i := by
  funext a
  apply Fin.ext
  simp [Rect.emb, Rect.unit]

theorem full_read {s : Shape} {o : Fin s.rank → ℕ} {h} {α : Type} (v : s.Idx → α) (ho : o = fun _ => 0) :
    (fun i => v ((Rect.unit (s := s) o s.size h).emb i)) = v := by
  subst ho
  funext i
  rw [full_emb]

/-- The contents after a rectangle of them was replaced. -/
def put {s : Shape} {α : Type} (r : Rect s) (w : r.shape.Idx → α) (v : s.Idx → α) : s.Idx → α :=
  fun y => open Classical in if h : ∃ i, r.emb i = y then w h.choose else v y

theorem put_in {s : Shape} {α : Type} (r : Rect s) (w : r.shape.Idx → α) (v : s.Idx → α) (i) : put r w v (r.emb i) = w i := by
  have h : ∃ j, r.emb j = r.emb i := ⟨i, rfl⟩
  unfold put
  rw [dif_pos h]
  exact congrArg w (r.emb.injective h.choose_spec)

theorem put_out {s : Shape} {α : Type} (r : Rect s) (w : r.shape.Idx → α) (v : s.Idx → α) (y) (h : ∀ i, r.emb i ≠ y) :
    put r w v y = v y := by
  unfold put
  rw [dif_neg (fun ⟨i, hi⟩ => h i hi)]

theorem inb_slab (l : ℕ) : ∀ a, (![0, 512 * (l % 4), 0] : Fin 3 → ℕ) a + S1x512x768.size a ≤ S1x2048x768.size a := by
  intro a
  fin_cases a
  · show 0 + 1 ≤ 1; omega
  · show 512 * (l % 4) + 512 ≤ 2048; omega
  · show 0 + 768 ≤ 768; omega

/-- The rows a trip computes. -/
abbrev slab (l : ℕ) : Rect S1x2048x768 := Rect.unit (s := S1x2048x768) ![0, 512 * (l % 4), 0] S1x512x768.size (inb_slab l)

section
variable (c : Dev nD)

theorem oget {α : Type} {Q : α → sProp 𝕄} (j l : ℕ) {d : S1x2048x768.Idx → Elt F .f32} {o₄ : Fin 4 → ℕ} {h₄} {o₃ : Fin 3 → ℕ} {h₃} {hl}
    {k : _ → Prog (TpuEff nD τ sig (Elt F) Λ₀ .tc) α} (e₄ : o₄ = ![j % 2, 0, 0, 0]) (e₃ : o₃ = ![0, 512 * (l % 4), 0]) :
    OSlot (F := F) c j d
      ⊢ iprop((OSlot c j d -∗ WP c (k fun i => d ((slab l).emb i)) Q)
          -∗ WP c (.op (.load (oslot o₄ h₄) (Rect.unit (s := S1x2048x768) o₃ S1x512x768.size h₃).toLoadRect hl) k) Q) := by
  subst e₄ e₃
  exact wp_get (F := F) c

theorem oput {α : Type} {Q : α → sProp 𝕄} (j l : ℕ) {d : S1x2048x768.Idx → Elt F .f32} {o₄ : Fin 4 → ℕ} {h₄} {o₃ : Fin 3 → ℕ} {h₃}
    {w : S1x512x768.Idx → Elt F .f32} {hl hm}
    {k : _ → Prog (TpuEff nD τ sig (Elt F) Λ₀ .tc) α} (e₄ : o₄ = ![j % 2, 0, 0, 0]) (e₃ : o₃ = ![0, 512 * (l % 4), 0]) :
    OSlot (F := F) c j d
      ⊢ iprop((OSlot c j (put (slab l) w d) -∗ WP c (k ⟨⟩) Q)
          -∗ WP c (.op (.store (oslot o₄ h₄) (Rect.unit (s := S1x2048x768) o₃ S1x512x768.size h₃) w Finset.univ hl hm) k) Q) := by
  subst e₄ e₃
  exact wp_put (F := F) c (fun i => put_in (slab l) w d i) fun y hy => put_out _ _ _ _ fun i hi => hy (by
    rw [← hi]; exact (slab l).toLoadRect.idx_mem i)

theorem xget {α : Type} {Q : α → sProp 𝕄} (X : (main_arg0 : Ref sig .tc).ty.Contents (Elt F)) (j : ℕ) {v : S1x512x768.Idx → Elt F .f32}
    {o₄ : Fin 4 → ℕ} {h₄} {h₃} {hl} {k : _ → Prog (TpuEff nD τ sig (Elt F) Λ₀ .tc) α} (e₄ : o₄ = ![j % 2, 0, 0, 0]) :
    XHeld (F := F) c X j v
      ⊢ iprop((XHeld c X j v -∗ WP c (k v) Q)
          -∗ WP c (.op (.load (xslot o₄ h₄) (Rect.unit (s := S1x512x768) ![0, 0, 0] S1x512x768.size h₃).toLoadRect hl) k) Q) := by
  subst e₄
  unfold XHeld Held
  iintro ⟨H, Hr⟩
  iintro Hk
  iapply (wp_get (F := F) c) $$ H
  iintro H
  rw [full_read v (by funext a; fin_cases a <;> rfl)]
  iapply Hk
  isplitl [H] <;> iassumption

theorem uget {α : Type} {Q : α → sProp 𝕄} (X : (main_arg2 : Ref sig .tc).ty.Contents (Elt F)) (j : ℕ) {v : S1x768x2048.Idx → Elt F .f32}
    {o₄ : Fin 4 → ℕ} {h₄} {h₃} {hl} {k : _ → Prog (TpuEff nD τ sig (Elt F) Λ₀ .tc) α} (e₄ : o₄ = ![j % 2, 0, 0, 0]) :
    UHeld (F := F) c X j v
      ⊢ iprop((UHeld c X j v -∗ WP c (k v) Q)
          -∗ WP c (.op (.load (uslot o₄ h₄) (Rect.unit (s := S1x768x2048) ![0, 0, 0] S1x768x2048.size h₃).toLoadRect hl) k) Q) := by
  subst e₄
  unfold UHeld Held
  iintro ⟨H, Hr⟩
  iintro Hk
  iapply (wp_get (F := F) c) $$ H
  iintro H
  rw [full_read v (by funext a; fin_cases a <;> rfl)]
  iapply Hk
  isplitl [H] <;> iassumption

theorem vget {α : Type} {Q : α → sProp 𝕄} (X : (main_arg4 : Ref sig .tc).ty.Contents (Elt F)) (j : ℕ) {v : S1x768x2048.Idx → Elt F .f32}
    {o₄ : Fin 4 → ℕ} {h₄} {h₃} {hl} {k : _ → Prog (TpuEff nD τ sig (Elt F) Λ₀ .tc) α} (e₄ : o₄ = ![j % 2, 0, 0, 0]) :
    VHeld (F := F) c X j v
      ⊢ iprop((VHeld c X j v -∗ WP c (k v) Q)
          -∗ WP c (.op (.load (vslot o₄ h₄) (Rect.unit (s := S1x768x2048) ![0, 0, 0] S1x768x2048.size h₃).toLoadRect hl) k) Q) := by
  subst e₄
  unfold VHeld Held
  iintro ⟨H, Hr⟩
  iintro Hk
  iapply (wp_get (F := F) c) $$ H
  iintro H
  rw [full_read v (by funext a; fin_cases a <;> rfl)]
  iapply Hk
  isplitl [H] <;> iassumption

theorem wget {α : Type} {Q : α → sProp 𝕄} (X : (main_arg3 : Ref sig .tc).ty.Contents (Elt F)) (j : ℕ) {v : S1x2048x768.Idx → Elt F .f32}
    {o₄ : Fin 4 → ℕ} {h₄} {h₃} {hl} {k : _ → Prog (TpuEff nD τ sig (Elt F) Λ₀ .tc) α} (e₄ : o₄ = ![j % 2, 0, 0, 0]) :
    WHeld (F := F) c X j v
      ⊢ iprop((WHeld c X j v -∗ WP c (k v) Q)
          -∗ WP c (.op (.load (wslot o₄ h₄) (Rect.unit (s := S1x2048x768) ![0, 0, 0] S1x2048x768.size h₃).toLoadRect hl) k) Q) := by
  subst e₄
  unfold WHeld Held
  iintro ⟨H, Hr⟩
  iintro Hk
  iapply (wp_get (F := F) c) $$ H
  iintro H
  rw [full_read v (by funext a; fin_cases a <;> rfl)]
  iapply Hk
  isplitl [H] <;> iassumption
end

/-- The two words of a pair. -/
def x0 (v : IVec S2 32) : BitVec 32 := extractAt ![0] (k0_pay1 v) inpos_S1_p0
def x1 (v : IVec S2 32) : BitVec 32 := extractAt ![0] (k0_pay2 v) inpos_S1_p0

/-- The expert of a trip, of the two ranks' experts. -/
def ee (v24 v36 : IVec S2 32) (t : ℕ) : BitVec 32 := ew (x0 v24) (x1 v24) (x0 v36) (x1 v36) t

def z0 (t : ℕ) : BitVec 1 := if t = 0 then 1#1 else 0#1
def z7 (t : ℕ) : BitVec 1 := if t % 8 = 7 then 1#1 else 0#1
def z15 (t : ℕ) : BitVec 1 := if t = 15 then 1#1 else 0#1

section
variable (c : Dev nD)

/-- The ring of rows after its next block was asked for: the next trip's, if there is one. -/
def XNext (X : (main_arg0 : Ref sig .tc).ty.Contents (Elt F)) (t : ℕ) : sProp 𝕄 :=
  if t < 15 then XFly c X (t + 1) ((t + 1) / 8) (t + 1) else XFree c X (t + 1)

/-- A ring of experts after the next one was asked for, if the next trip changes expert. -/
def UNext (X : (main_arg2 : Ref sig .tc).ty.Contents (Elt F)) (e e' : BitVec 32) (n t : ℕ) : sProp 𝕄 :=
  if e ≠ e' ∧ t < 15 then UFly c X n e'.toNat else UFree c X n

/-- A ring of experts before the trip's one was waited for. -/
def UThis (X : (main_arg2 : Ref sig .tc).ty.Contents (Elt F)) (e e' : BitVec 32) (n t : ℕ) : sProp 𝕄 :=
  if e ≠ e' ∨ t = 0 then UFly c X n e.toNat else UHeld c X n (uval X e.toNat)

/-- A ring of experts after the next one was asked for, if the next trip changes expert. -/
def VNext (X : (main_arg4 : Ref sig .tc).ty.Contents (Elt F)) (e e' : BitVec 32) (n t : ℕ) : sProp 𝕄 :=
  if e ≠ e' ∧ t < 15 then VFly c X n e'.toNat else VFree c X n

/-- A ring of experts before the trip's one was waited for. -/
def VThis (X : (main_arg4 : Ref sig .tc).ty.Contents (Elt F)) (e e' : BitVec 32) (n t : ℕ) : sProp 𝕄 :=
  if e ≠ e' ∨ t = 0 then VFly c X n e.toNat else VHeld c X n (vval X e.toNat)

/-- A ring of experts after the next one was asked for, if the next trip changes expert. -/
def WNext (X : (main_arg3 : Ref sig .tc).ty.Contents (Elt F)) (e e' : BitVec 32) (n t : ℕ) : sProp 𝕄 :=
  if e ≠ e' ∧ t < 15 then WFly c X n e'.toNat else WFree c X n

/-- A ring of experts before the trip's one was waited for. -/
def WThis (X : (main_arg3 : Ref sig .tc).ty.Contents (Elt F)) (e e' : BitVec 32) (n t : ℕ) : sProp 𝕄 :=
  if e ≠ e' ∨ t = 0 then WFly c X n e.toNat else WHeld c X n (wval X e.toNat)

end

section
variable (a0 : Memref sig .tc .vmem S768x8 .f32) (h0 : a0.IsWhole) (a5 : Memref sig .tc .vmem S2x8 .f32) (h5 : a5.IsWhole)

abbrev part1At := k0_part1 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part2At := k0_part2 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part3At := k0_part3 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part4At := k0_part4 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part5At := k0_part5 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part6At := k0_part6 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part7At := k0_part7 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part8At := k0_part8 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part9At := k0_part9 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part10At := k0_part10 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part11At := k0_part11 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part12At := k0_part12 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part13At := k0_part13 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part14At := k0_part14 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part15At := k0_part15 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part16At := k0_part16 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part17At := k0_part17 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part18At := k0_part18 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
abbrev part19At := k0_part19 (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11

variable (c : Dev nD) (t : Fin k0_t2_loop.trips)

theorem part2_spec (n : ℕ) {Q : _ → sProp 𝕄} :
    iprop(Q ⟨chk23_ok t, chk22_ok n, chk21_ok n, chk20_ok n, chk19_ok t, chk6_ok t, BitVec.ofNat 32 t, z0 t, z15 t, bw t, kw t, lw t,
        bw (t + 15), kw (t + 15), lw (t + 15), lw (t + 1), z7 t, kw (t + 1)⟩)
    ⊢ WP c (part2At (F := F) a0 h0 a5 h5 0#32 1#32 t (BitVec.ofNat 32 (t + 1)) (BitVec.ofNat 32 t) (BitVec.ofNat 32 n) (BitVec.ofNat 32 n) (BitVec.ofNat 32 n)
        (BitVec.ofNat 32 (t / 8)) (BitVec.ofNat 32 ((t - 1) / 8)) (bw t) (kw t) (lw t)) Q := by
  unfold part2At
  rw [k0_part2_eq_skeleton]
  unfold k0_part2_skel
  dsimp only [Prog.bind_lift, Prog.pure_eq_ret]
  iintro H
  iapply (WP_assume (F := F) c (chk23_ok t))
  iapply (WP_assume (F := F) c (chk22_ok n))
  iapply (WP_assume (F := F) c (chk21_ok n))
  iapply (WP_assume (F := F) c (chk20_ok n))
  iapply (WP_assume (F := F) c (chk19_ok t))
  iapply (WP_assume (F := F) c (chk6_ok t))
  iapply (WP_ret (F := F) c ?_)
  pick_goal 2
  · iexact H
  · clear Q
    repeat' apply mk_eq
    iterate 6 rfl
    all_goals ( revert t; decide +kernel)

theorem part3_spec (X : (main_arg0 : Ref sig .tc).ty.Contents (Elt F)) (h6) {Q : _ → sProp 𝕄} :
    iprop(XFree (F := F) c X (t + 1)
      ∗ (XNext c X t -∗ Q ⟨bw (t + 1), kw (t + 1), lw (t + 1), xw (t + 1)⟩))
    ⊢ WP c (part3At (F := F) a0 h0 a5 h5 t (BitVec.ofNat 32 (t + 1)) (BitVec.ofNat 32 t) (BitVec.ofNat 32 (t / 8)) (BitVec.ofNat 32 ((t - 1) / 8)) (bw t) (kw t) (lw t) h6
        (BitVec.ofNat 32 t) (bw t) (lw t) (lw (t + 1)) (z7 t) (kw (t + 1))) Q := by
  unfold part3At
  rw [k0_part3_eq_skeleton]
  unfold k0_part3_skel
  iintro ⟨H, Hk⟩
  dsimp only [Prog.bind_lift, Prog.pure_eq_ret]
  by_cases h : (t : ℕ) < 15
  · iapply (WP_pos (F := F) c ((cond7_iff t).2 h))
    iapply (xissue (F := F) c X (t + 1) ((t + 1) / 8) (t + 1) (slot_eq _) (cell_eq _) (off21_eq t)) $$ H
    iintro H
    iapply (WP_ret (F := F) c ?_)
    pick_goal 2
    · iapply Hk
      unfold XNext
      rw [if_pos h]
      iexact H
    · repeat' apply mk_eq
      all_goals (clear h; clear h6; revert t; decide +kernel)
  · iapply (WP_neg (F := F) c (fun hh => h ((cond7_iff t).1 hh)))
    iapply (WP_ret (F := F) c ?_)
    pick_goal 2
    · iapply Hk
      unfold XNext
      rw [if_neg h]
      iexact H
    · repeat' apply mk_eq
      all_goals (clear h; clear h6; revert t; decide +kernel)

variable (v24 v36 : IVec S2 32) (hv : (x0 v24).toNat < 8 ∧ (x1 v24).toNat < 8 ∧ (x0 v36).toNat < 8 ∧ (x1 v36).toNat < 8)

/-- The words that two trips' experts are chosen by. -/
theorem ee_eq {P Q R : BitVec 1} {t : ℕ} (hP : P = pk t) (hQ : Q = pb t) (hR : R = pb t) :
    Scalar.select P (Scalar.select Q (x0 v24) (x1 v24)) (Scalar.select R (x0 v36) (x1 v36)) = ee v24 v36 t := by
  subst hP hQ hR; rfl

theorem next_in (n : ℕ) {R : BitVec 1} {x y : BitVec 32} (hx : x = ee v24 v36 t) (hy : y = ee v24 v36 (t + 1)) (hR : (R = 1#1) ↔ (t : ℕ) < 15) :
    Scalar.select (Scalar.andi (Scalar.andi (Scalar.cmpi .ne x y) R) 1#1) (Scalar.addi (BitVec.ofNat 32 n) 1#32) (BitVec.ofNat 32 n)
      = BitVec.ofNat 32 (n + stp (x0 v24) (x1 v24) (x0 v36) (x1 v36) t) := by
  subst hx hy
  exact inc_in (r := R) _ _ n hR

include hv in
theorem part4_spec (X : (main_arg2 : Ref sig .tc).ty.Contents (Elt F)) (n : ℕ) {Q : _ → sProp 𝕄} :
    iprop(UFree (F := F) c X (n + 1)
      ∗ (UNext c X (ee v24 v36 t) (ee v24 v36 (t + 1)) (n + 1) t -∗ Q ⟨x0 v24, x1 v24, x0 v36, x1 v36, ee v24 v36 t, ee v24 v36 (t + 1), BitVec.ofNat 32 (n + 1 + stp (x0 v24) (x1 v24) (x0 v36) (x1 v36) t), x0 v24, x1 v24, Scalar.select (pb t) (x0 v24) (x1 v24), 0#32⟩))
    ⊢ WP c (part4At (F := F) a0 h0 a5 h5 v24 v36 t (BitVec.ofNat 32 (n + 1)) (bw t) (kw t) (lw t) (BitVec.ofNat 32 t)
        (bw t) (kw t) (bw (t + 1)) (kw (t + 1))) Q := by
  unfold part4At
  rw [k0_part4_eq_skeleton]
  unfold k0_part4_skel
  iintro ⟨H, Hk⟩
  dsimp only [Prog.bind_lift, Prog.pure_eq_ret]
  iapply (WP_assume (F := F) c (chk7_ok t (n + 1) _ _ _ _ _ _ _ _))
  by_cases h : ee v24 v36 t ≠ ee v24 v36 (t + 1) ∧ (t : ℕ) < 15
  · iapply (WP_pos (F := F) c ((cond8_iff t (x0 v24) (x1 v24) (x0 v36) (x1 v36)).2 h))
    iapply (WP_assume (F := F) c (chk8_ok t (x0 v24) (x1 v24) (x0 v36) (x1 v36) hv _ _ _ _ _ _ _ _))
    iapply (uissue (F := F) c X (n + 1) (ee v24 v36 (t + 1)).toNat (slot_eq _) (cell_eq _)
      ((off24_eq t (x0 v24) (x1 v24) (x0 v36) (x1 v36)).trans (ew_mod _ _ _ _ hv _))) $$ H
    iintro H
    iapply (WP_ret (F := F) c ?_)
    pick_goal 2
    · iapply Hk
      unfold UNext
      rw [if_pos h]
      iexact H
    · repeat' apply mk_eq
      · rfl
      · rfl
      · rfl
      · rfl
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · exact next_in t v24 v36 _ (ee_eq v24 v36 (by clear h; revert t; decide +kernel) (by clear h; revert t; decide +kernel) (by clear h; revert t; decide +kernel)) (ee_eq v24 v36 (by clear h; revert t; decide +kernel) (by clear h; revert t; decide +kernel) (by clear h; revert t; decide +kernel)) (by clear h; revert t; decide +kernel)
      · rfl
      · rfl
      · congr 1; clear h; revert t; decide +kernel
      · rfl
  · iapply (WP_neg (F := F) c (fun hh => h ((cond8_iff t (x0 v24) (x1 v24) (x0 v36) (x1 v36)).1 hh)))
    iapply (WP_ret (F := F) c ?_)
    pick_goal 2
    · iapply Hk
      unfold UNext
      rw [if_neg h]
      iexact H
    · repeat' apply mk_eq
      · rfl
      · rfl
      · rfl
      · rfl
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · exact next_in t v24 v36 _ (ee_eq v24 v36 (by clear h; revert t; decide +kernel) (by clear h; revert t; decide +kernel) (by clear h; revert t; decide +kernel)) (ee_eq v24 v36 (by clear h; revert t; decide +kernel) (by clear h; revert t; decide +kernel) (by clear h; revert t; decide +kernel)) (by clear h; revert t; decide +kernel)
      · rfl
      · rfl
      · congr 1; clear h; revert t; decide +kernel
      · rfl

include hv in
theorem part5_spec (X : (main_arg4 : Ref sig .tc).ty.Contents (Elt F)) (n : ℕ) {Q : _ → sProp 𝕄} :
    iprop(VFree (F := F) c X (n + 1)
      ∗ (VNext c X (ee v24 v36 t) (ee v24 v36 (t + 1)) (n + 1) t -∗ Q ⟨x0 v36, x1 v36, ee v24 v36 t, ee v24 v36 (t + 1), BitVec.ofNat 32 (n + 1 + stp (x0 v24) (x1 v24) (x0 v36) (x1 v36) t), x0 v24, x1 v24, Scalar.select (pb t) (x0 v24) (x1 v24), x0 v36, x1 v36, Scalar.select (pb t) (x0 v36) (x1 v36), pk t⟩))
    ⊢ WP c (part5At (F := F) a0 h0 a5 h5 v24 v36 t (BitVec.ofNat 32 (n + 1)) (bw t) (kw t) (lw t) (BitVec.ofNat 32 t)
        (bw t) (kw t) (bw (t + 1)) (kw (t + 1)) (x0 v24) (x1 v24) (Scalar.select (pb t) (x0 v24) (x1 v24)) 0#32) Q := by
  unfold part5At
  rw [k0_part5_eq_skeleton]
  unfold k0_part5_skel
  iintro ⟨H, Hk⟩
  dsimp only [Prog.bind_lift, Prog.pure_eq_ret]
  iapply (WP_assume (F := F) c (chk9_ok t (n + 1) _ _ _ _ _ _ _ _))
  by_cases h : ee v24 v36 t ≠ ee v24 v36 (t + 1) ∧ (t : ℕ) < 15
  · iapply (WP_pos (F := F) c ((cond9_iff t (x0 v24) (x1 v24) (x0 v36) (x1 v36)).2 h))
    iapply (WP_assume (F := F) c (chk10_ok t (x0 v24) (x1 v24) (x0 v36) (x1 v36) hv _ _ _ _ _ _ _ _))
    iapply (vissue (F := F) c X (n + 1) (ee v24 v36 (t + 1)).toNat (slot_eq _) (cell_eq _)
      ((off27_eq t (x0 v24) (x1 v24) (x0 v36) (x1 v36)).trans (ew_mod _ _ _ _ hv _))) $$ H
    iintro H
    iapply (WP_ret (F := F) c ?_)
    pick_goal 2
    · iapply Hk
      unfold VNext
      rw [if_pos h]
      iexact H
    · repeat' apply mk_eq
      · rfl
      · rfl
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · exact next_in t v24 v36 _ (ee_eq v24 v36 (by clear h; revert t; decide +kernel) (by clear h; revert t; decide +kernel) (by clear h; revert t; decide +kernel)) (ee_eq v24 v36 (by clear h; revert t; decide +kernel) (by clear h; revert t; decide +kernel) (by clear h; revert t; decide +kernel)) (by clear h; revert t; decide +kernel)
      · rfl
      · rfl
      · congr 1; clear h; revert t; decide +kernel
      · rfl
      · rfl
      · congr 1; clear h; revert t; decide +kernel
      · clear h; revert t; decide +kernel
  · iapply (WP_neg (F := F) c (fun hh => h ((cond9_iff t (x0 v24) (x1 v24) (x0 v36) (x1 v36)).1 hh)))
    iapply (WP_ret (F := F) c ?_)
    pick_goal 2
    · iapply Hk
      unfold VNext
      rw [if_neg h]
      iexact H
    · repeat' apply mk_eq
      · rfl
      · rfl
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · exact next_in t v24 v36 _ (ee_eq v24 v36 (by clear h; revert t; decide +kernel) (by clear h; revert t; decide +kernel) (by clear h; revert t; decide +kernel)) (ee_eq v24 v36 (by clear h; revert t; decide +kernel) (by clear h; revert t; decide +kernel) (by clear h; revert t; decide +kernel)) (by clear h; revert t; decide +kernel)
      · rfl
      · rfl
      · congr 1; clear h; revert t; decide +kernel
      · rfl
      · rfl
      · congr 1; clear h; revert t; decide +kernel
      · clear h; revert t; decide +kernel

include hv in
theorem part6_spec (X : (main_arg0 : Ref sig .tc).ty.Contents (Elt F)) (W : (main_arg3 : Ref sig .tc).ty.Contents (Elt F)) (n : ℕ)
    (h6) (v214 : BitVec 1) (v218 v233 : BitVec 32) {Q : _ → sProp 𝕄} :
    iprop(WFree (F := F) c W (n + 1) ∗ XFly c X t (t / 8) t ∗ Owe c
      ∗ (WNext c W (ee v24 v36 t) (ee v24 v36 (t + 1)) (n + 1) t ∗ XHeld c X t (xval X (t / 8) t) ∗ Owe c -∗ Q ⟨ee v24 v36 t, ee v24 v36 (t + 1), BitVec.ofNat 32 (n + 1 + stp (x0 v24) (x1 v24) (x0 v36) (x1 v36) t), x0 v24, x1 v24, Scalar.select (pb (t + 15)) (x0 v24) (x1 v24)⟩))
    ⊢ WP c (part6At (F := F) a0 h0 a5 h5 v24 v36 t (BitVec.ofNat 32 (t + 1)) (BitVec.ofNat 32 t) (BitVec.ofNat 32 (n + 1)) (BitVec.ofNat 32 (t / 8)) (BitVec.ofNat 32 ((t - 1) / 8)) (bw t) (kw t) (lw t) h6 (BitVec.ofNat 32 t)
        v214 (bw t) v218 (bw (t + 15)) v233 (bw (t + 1)) (kw (t + 1)) (x0 v24) (x1 v24) (Scalar.select (pb t) (x0 v24) (x1 v24))
        (x0 v36) (x1 v36) (Scalar.select (pb t) (x0 v36) (x1 v36)) (pk t)) Q := by
  unfold part6At
  rw [k0_part6_eq_skeleton]
  unfold k0_part6_skel
  iintro ⟨H, Hx, Ho, Hk⟩
  dsimp only [Prog.bind_lift, Prog.pure_eq_ret]
  iapply (WP_assume (F := F) c (chk11_ok t (n + 1) _ _ _ _ _ _ _ _))
  by_cases h : ee v24 v36 t ≠ ee v24 v36 (t + 1) ∧ (t : ℕ) < 15
  · iapply (WP_pos (F := F) c ((cond10_iff t (x0 v24) (x1 v24) (x0 v36) (x1 v36)).2 h))
    iapply (WP_assume (F := F) c (chk12_ok t (x0 v24) (x1 v24) (x0 v36) (x1 v36) hv _ _ _ _ _ _ _ _))
    iapply (wissue (F := F) c W (n + 1) (ee v24 v36 (t + 1)).toNat (slot_eq _) (cell_eq _)
      ((off30_eq t (x0 v24) (x1 v24) (x0 v36) (x1 v36)).trans (ew_mod _ _ _ _ hv _))) $$ H
    iintro H
    iapply (WP_pos (F := F) c ((cond11_iff t).2 trivial))
    iapply (xawait (F := F) c X t (t / 8) t (cell_eq _)) $$ [Hx Ho]
    · isplitl [Hx] <;> iassumption
    iintro Hx
    iapply (WP_ret (F := F) c ?_)
    pick_goal 2
    · iapply Hk
      isplitl [H]
      · unfold WNext
        rw [if_pos h]
        iexact H
      · iexact Hx
    · clear h6
      repeat' apply mk_eq
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · exact next_in t v24 v36 _ (ee_eq v24 v36 (by clear h; revert t; decide +kernel) (by clear h; revert t; decide +kernel) (by clear h; revert t; decide +kernel)) (ee_eq v24 v36 (by clear h; revert t; decide +kernel) (by clear h; revert t; decide +kernel) (by clear h; revert t; decide +kernel)) (by clear h; revert t; decide +kernel)
      · rfl
      · rfl
      · congr 1; clear h; revert t; decide +kernel
  · iapply (WP_neg (F := F) c (fun hh => h ((cond10_iff t (x0 v24) (x1 v24) (x0 v36) (x1 v36)).1 hh)))
    iapply (WP_pos (F := F) c ((cond11_iff t).2 trivial))
    iapply (xawait (F := F) c X t (t / 8) t (cell_eq _)) $$ [Hx Ho]
    · isplitl [Hx] <;> iassumption
    iintro Hx
    iapply (WP_ret (F := F) c ?_)
    pick_goal 2
    · iapply Hk
      isplitl [H]
      · unfold WNext
        rw [if_neg h]
        iexact H
      · iexact Hx
    · clear h6
      repeat' apply mk_eq
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · exact next_in t v24 v36 _ (ee_eq v24 v36 (by clear h; revert t; decide +kernel) (by clear h; revert t; decide +kernel) (by clear h; revert t; decide +kernel)) (ee_eq v24 v36 (by clear h; revert t; decide +kernel) (by clear h; revert t; decide +kernel) (by clear h; revert t; decide +kernel)) (by clear h; revert t; decide +kernel)
      · rfl
      · rfl
      · congr 1; clear h; revert t; decide +kernel

include hv in
theorem part7_spec (X : (main_arg2 : Ref sig .tc).ty.Contents (Elt F)) (Y : (main_arg4 : Ref sig .tc).ty.Contents (Elt F)) (n : ℕ)
    (v214 : BitVec 1) {Q : _ → sProp 𝕄} :
    iprop(UThis (F := F) c X (ee v24 v36 t) (ee v24 v36 (t + 15)) n t ∗ VThis c Y (ee v24 v36 t) (ee v24 v36 (t + 15)) n t ∗ Owe c
      ∗ (UHeld c X n (uval X (ee v24 v36 t).toNat) ∗ VHeld c Y n (vval Y (ee v24 v36 t).toNat) ∗ Owe c
        -∗ Q ⟨ee v24 v36 (t + 15), ee v24 v36 (t + 15), x0 v24, x1 v24, Scalar.select (pb (t + 15)) (x0 v24) (x1 v24), pb (t + 15), x0 v36, x1 v36⟩))
    ⊢ WP c (part7At (F := F) a0 h0 a5 h5 v24 v36 t (BitVec.ofNat 32 n) (BitVec.ofNat 32 n) (bw t) (kw t) (lw t) (BitVec.ofNat 32 t)
        v214 (bw t) (kw t) (bw (t + 15)) (kw (t + 15)) (x0 v24) (x1 v24) (x0 v36) (x1 v36) (ee v24 v36 t)
        (x0 v24) (x1 v24) (x0 v36) (x1 v36) (ee v24 v36 t) (x0 v24) (x1 v24) (Scalar.select (pb (t + 15)) (x0 v24) (x1 v24))) Q := by
  unfold part7At
  rw [k0_part7_eq_skeleton]
  unfold k0_part7_skel
  dsimp only [Prog.bind_lift, Prog.pure_eq_ret]
  by_cases h : ee v24 v36 t ≠ ee v24 v36 (t + 15) ∨ (t : ℕ) = 0
  · unfold UThis VThis
    rw [if_pos h, if_pos h]
    iintro ⟨Hu, Hv, Ho, Hk⟩
    iapply (WP_assume (F := F) c (chk13_ok t n _ _ _ _ _ _ _ _))
    iapply (WP_pos (F := F) c ((cond12_iff t (x0 v24) (x1 v24) (x0 v36) (x1 v36)).2 h))
    iapply (WP_assume (F := F) c (chk14_ok t (x0 v24) (x1 v24) (x0 v36) (x1 v36) hv _ _ _ _ _ _ _ _))
    iapply (uawait (F := F) c X n (ee v24 v36 t).toNat (cell_eq _)) $$ [Hu Ho]
    · isplitl [Hu] <;> iassumption
    iintro ⟨Hu, Ho⟩
    iapply (WP_assume (F := F) c (chk15_ok t n _ _ _ _ _ _ _ _))
    iapply (WP_pos (F := F) c ((cond13_iff t (x0 v24) (x1 v24) (x0 v36) (x1 v36)).2 h))
    iapply (WP_assume (F := F) c (chk16_ok t (x0 v24) (x1 v24) (x0 v36) (x1 v36) hv _ _ _ _ _ _ _ _))
    iapply (vawait (F := F) c Y n (ee v24 v36 t).toNat (cell_eq _)) $$ [Hv Ho]
    · isplitl [Hv] <;> iassumption
    iintro ⟨Hv, Ho⟩
    iapply (WP_ret (F := F) c ?_)
    pick_goal 2
    · iapply Hk
      isplitl [Hu]; · iexact Hu
      isplitl [Hv]; · iexact Hv
      iexact Ho
    · repeat' apply mk_eq
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · rfl
      · rfl
      · congr 1; clear h; revert t; decide +kernel
      · clear h; revert t; decide +kernel
      · rfl
      · rfl
  · unfold UThis VThis
    rw [if_neg h, if_neg h]
    iintro ⟨Hu, Hv, Ho, Hk⟩
    iapply (WP_assume (F := F) c (chk13_ok t n _ _ _ _ _ _ _ _))
    iapply (WP_neg (F := F) c (fun hh => h ((cond12_iff t (x0 v24) (x1 v24) (x0 v36) (x1 v36)).1 hh)))
    iapply (WP_assume (F := F) c (chk15_ok t n _ _ _ _ _ _ _ _))
    iapply (WP_neg (F := F) c (fun hh => h ((cond13_iff t (x0 v24) (x1 v24) (x0 v36) (x1 v36)).1 hh)))
    iapply (WP_ret (F := F) c ?_)
    pick_goal 2
    · iapply Hk
      isplitl [Hu]; · iexact Hu
      isplitl [Hv]; · iexact Hv
      iexact Ho
    · repeat' apply mk_eq
      · exact ee_eq v24 v36 (by clear h; revert t; decide +kernel) (by clear h; revert t; decide +kernel) (by clear h; revert t; decide +kernel)
      · exact ee_eq v24 v36 (by clear h; revert t; decide +kernel) (by clear h; revert t; decide +kernel) (by clear h; revert t; decide +kernel)
      · rfl
      · rfl
      · congr 1; clear h; revert t; decide +kernel
      · clear h; revert t; decide +kernel
      · rfl
      · rfl

include hv in
theorem part8_spec (X : (main_arg0 : Ref sig .tc).ty.Contents (Elt F)) (U : (main_arg2 : Ref sig .tc).ty.Contents (Elt F))
    (W : (main_arg3 : Ref sig .tc).ty.Contents (Elt F)) (n : ℕ) (xv : S1x512x768.Idx → Elt F .f32) (uv : S1x768x2048.Idx → Elt F .f32)
    (v214 : BitVec 1) (h₁ h₂ h₃) {Q : _ → sProp 𝕄} :
    iprop(WThis (F := F) c W (ee v24 v36 t) (ee v24 v36 (t + 15)) n t ∗ XHeld c X t xv ∗ UHeld c U n uv ∗ Owe c
      ∗ (WHeld c W n (wval W (ee v24 v36 t).toNat) ∗ XHeld c X t xv ∗ UHeld c U n uv ∗ Owe c
        -∗ Q ⟨ee v24 v36 (t + 15), k0_pay61 xv, k0_pay62 xv uv⟩))
    ⊢ WP c (part8At (F := F) a0 h0 a5 h5 v24 v36 t (BitVec.ofNat 32 t) (BitVec.ofNat 32 n) (BitVec.ofNat 32 n) (BitVec.ofNat 32 n)
        (BitVec.ofNat 32 (t / 8)) (bw t) (kw t) (lw t) h₁ h₂ h₃ (BitVec.ofNat 32 t)
        v214 (bw t) (kw t) (bw (t + 15)) (kw (t + 15)) (x0 v24) (x1 v24) (x0 v36) (x1 v36) (ee v24 v36 t)
        (x0 v24) (x1 v24) (Scalar.select (pb (t + 15)) (x0 v24) (x1 v24)) (pb (t + 15)) (x0 v36) (x1 v36)) Q := by
  unfold part8At
  rw [k0_part8_eq_skeleton]
  unfold k0_part8_skel
  dsimp only [Prog.bind_lift, Prog.pure_eq_ret]
  by_cases h : ee v24 v36 t ≠ ee v24 v36 (t + 15) ∨ (t : ℕ) = 0
  · unfold WThis
    rw [if_pos h]
    iintro ⟨Hw, Hx, Hu, Ho, Hk⟩
    iapply (WP_assume (F := F) c (chk17_ok t n _ _ _ _ _ _ _ _))
    iapply (WP_pos (F := F) c ((cond14_iff t (x0 v24) (x1 v24) (x0 v36) (x1 v36)).2 h))
    iapply (WP_assume (F := F) c (chk18_ok t (x0 v24) (x1 v24) (x0 v36) (x1 v36) hv _ _ _ _ _ _ _ _))
    iapply (wawait (F := F) c W n (ee v24 v36 t).toNat (cell_eq _)) $$ [Hw Ho]
    · isplitl [Hw] <;> iassumption
    iintro ⟨Hw, Ho⟩
    iapply (WP_skip (F := F) c)
    iapply (xget (F := F) c X t (slot_eq _)) $$ Hx
    iintro Hx
    iapply (uget (F := F) c U n (slot_eq _)) $$ Hu
    iintro Hu
    iapply (WP_ret (F := F) c ?_)
    pick_goal 2
    · iapply Hk
      isplitl [Hw]; · iexact Hw
      isplitl [Hx]; · iexact Hx
      isplitl [Hu]; · iexact Hu
      iexact Ho
    · repeat' apply mk_eq
      · exact ee_eq v24 v36 (by clear h; revert t; decide +kernel) (by clear h; revert t; decide +kernel) (by clear h; revert t; decide +kernel)
      · rfl
      · rfl
  · unfold WThis
    rw [if_neg h]
    iintro ⟨Hw, Hx, Hu, Ho, Hk⟩
    iapply (WP_assume (F := F) c (chk17_ok t n _ _ _ _ _ _ _ _))
    iapply (WP_neg (F := F) c (fun hh => h ((cond14_iff t (x0 v24) (x1 v24) (x0 v36) (x1 v36)).1 hh)))
    iapply (WP_skip (F := F) c)
    iapply (xget (F := F) c X t (slot_eq _)) $$ Hx
    iintro Hx
    iapply (uget (F := F) c U n (slot_eq _)) $$ Hu
    iintro Hu
    iapply (WP_ret (F := F) c ?_)
    pick_goal 2
    · iapply Hk
      isplitl [Hw]; · iexact Hw
      isplitl [Hx]; · iexact Hx
      isplitl [Hu]; · iexact Hu
      iexact Ho
    · repeat' apply mk_eq
      · exact ee_eq v24 v36 (by clear h; revert t; decide +kernel) (by clear h; revert t; decide +kernel) (by clear h; revert t; decide +kernel)
      · rfl
      · rfl

/-- What a trip leaves in its slot of the results' ring. -/
def odone (v18 v30 : FVec F S2 .f32) (t : ℕ) (p : FVec F S512x768 .f32) (p' : FVec F S512x2048 .f32)
    (vv : S1x768x2048.Idx → Elt F .f32) (wv : S1x2048x768.Idx → Elt F .f32) (d : S1x2048x768.Idx → Elt F .f32) :
    S1x2048x768.Idx → Elt F .f32 :=
  if t / 4 % 2 = 0 then put (slab t) (k0_pay65 v18 v30 (bw t) (kw t) p p' vv wv) d
  else put (slab t) (k0_pay66 v18 v30 (bw t) (kw t) p p' vv wv fun i => d ((slab t).emb i)) d

theorem part9_spec (V : (main_arg4 : Ref sig .tc).ty.Contents (Elt F))
    (W : (main_arg3 : Ref sig .tc).ty.Contents (Elt F)) (n : ℕ) (v18 v30 : FVec F S2 .f32) (vv : S1x768x2048.Idx → Elt F .f32) (wv : S1x2048x768.Idx → Elt F .f32)
    (d : S1x2048x768.Idx → Elt F .f32) (p : FVec F S512x768 .f32) (p' : FVec F S512x2048 .f32)
    (h₁ h₂ h₃ h6) {Q : _ → sProp 𝕄} :
    iprop(VHeld (F := F) c V n vv ∗ WHeld c W n wv ∗ OSlot c (t / 8) d
      ∗ (VHeld (F := F) c V n vv ∗ WHeld c W n wv ∗ OSlot c (t / 8) (odone v18 v30 t p p' vv wv d) -∗ Q ⟨1#1, 1#1⟩))
    ⊢ WP c (part9At (F := F) a0 h0 a5 h5 v18 v30 t (BitVec.ofNat 32 (t + 1)) (BitVec.ofNat 32 t) (BitVec.ofNat 32 n) (BitVec.ofNat 32 n) (BitVec.ofNat 32 (t / 8)) (BitVec.ofNat 32 ((t - 1) / 8)) (bw t) (kw t) (lw t)
        h₁ h₂ h₃ h6 (z15 t) (bw t) (kw t) (lw t) (bw (t + 1)) (lw (t + 1)) p p') Q := by
  unfold part9At
  rw [k0_part9_eq_skeleton]
  unfold k0_part9_skel
  dsimp only [Prog.bind_lift, Prog.pure_eq_ret]
  iintro ⟨Hv, Hw, Hd, Hk⟩
  iapply (vget (F := F) c V n (slot_eq _)) $$ Hv
  iintro Hv
  iapply (wget (F := F) c W n (slot_eq _)) $$ Hw
  iintro Hw
  by_cases h : (t : ℕ) / 4 % 2 = 0
  · unfold odone
    rw [if_pos h]
    iapply (WP_pos (F := F) c ((cond16_iff t).2 h))
    iapply (oget (F := F) c (t / 8) t (slot_eq _) (off48_eq t)) $$ Hd
    iintro Hd
    iapply (oput (F := F) c (t / 8) t (slot_eq _) (off48_eq t)) $$ Hd
    iintro Hd
    iapply (WP_neg (F := F) c (fun hh => ((cond17_iff t).1 hh) h))
    iapply (WP_ret (F := F) c ?_)
    pick_goal 2
    · iapply Hk
      isplitl [Hv]; · iexact Hv
      isplitl [Hw]; · iexact Hw
      iexact Hd
    · clear h6
      repeat' apply mk_eq
      all_goals (clear h; revert t; decide +kernel)
  · unfold odone
    rw [if_neg h]
    iapply (WP_neg (F := F) c (fun hh => h ((cond16_iff t).1 hh)))
    iapply (WP_pos (F := F) c ((cond17_iff t).2 h))
    iapply (oget (F := F) c (t / 8) t (slot_eq _) (off50_eq t)) $$ Hd
    iintro Hd
    iapply (oget (F := F) c (t / 8) t (slot_eq _) (off50_eq t)) $$ Hd
    iintro Hd
    iapply (oput (F := F) c (t / 8) t (slot_eq _) (off50_eq t)) $$ Hd
    iintro Hd
    iapply (WP_ret (F := F) c ?_)
    pick_goal 2
    · iapply Hk
      isplitl [Hv]; · iexact Hv
      isplitl [Hw]; · iexact Hw
      iexact Hd
    · clear h6
      repeat' apply mk_eq
      all_goals (clear h; revert t; decide +kernel)

theorem part10_skip (v233 e₁ e₂ e₃ e₄ e₅ e₆ e₇ : BitVec 32) (h6) {Q : _ → sProp 𝕄} (h : ¬ ((t : ℕ) = 7 ∨ (t : ℕ) = 15)) :
    iprop((Q (BitVec.ofNat 32 ((t + 1) / 8))))
    ⊢ WP c (part10At (F := F) a0 h0 a5 h5 t (BitVec.ofNat 32 (t + 1)) (BitVec.ofNat 32 t) (BitVec.ofNat 32 (t / 8)) (BitVec.ofNat 32 ((t - 1) / 8)) (bw t) (kw t) (lw t) h6 (z0 t) (z15 t) (bw t) (lw t) (bw (t + 15)) v233 (bw (t + 1))
        e₁ e₂ e₃ e₄ e₅ e₆ e₇ 1#1 1#1) Q := by
  unfold part10At
  rw [k0_part10_eq_skeleton]
  unfold k0_part10_skel
  dsimp only [Prog.bind_lift, Prog.pure_eq_ret]
  iintro Hk
  iapply (WP_skip (F := F) c)
  iapply (WP_skip (F := F) c)
  iapply (WP_skip (F := F) c)
  iapply (WP_skip (F := F) c)
  iapply (WP_neg (F := F) c (fun hh => h ((cond22_iff t).1 hh)))
  iapply (WP_skip (F := F) c)
  iapply (WP_skip (F := F) c)
  iapply (WP_ret (F := F) c ?_)
  pick_goal 2
  · iexact Hk
  · clear h h6
    revert t; decide +kernel

theorem part10_send (v233 e₁ e₂ e₃ e₄ e₅ e₆ e₇ : BitVec 32) (h6) {Q : _ → sProp 𝕄} (G : (main_v0_1 : Ref sig .tc).ty.Contents (Elt F)) (d : S1x2048x768.Idx → Elt F .f32) (h : (t : ℕ) = 7 ∨ (t : ℕ) = 15) :
    iprop((OSlot (F := F) c (t / 8) d ∗ OCell c (t / 8) ∗ OArr c G) ∗ (OFly c (t / 8) (t / 8) G d -∗ Q (BitVec.ofNat 32 ((t + 1) / 8))))
    ⊢ WP c (part10At (F := F) a0 h0 a5 h5 t (BitVec.ofNat 32 (t + 1)) (BitVec.ofNat 32 t) (BitVec.ofNat 32 (t / 8)) (BitVec.ofNat 32 ((t - 1) / 8)) (bw t) (kw t) (lw t) h6 (z0 t) (z15 t) (bw t) (lw t) (bw (t + 15)) v233 (bw (t + 1))
        e₁ e₂ e₃ e₄ e₅ e₆ e₇ 1#1 1#1) Q := by
  unfold part10At
  rw [k0_part10_eq_skeleton]
  unfold k0_part10_skel
  dsimp only [Prog.bind_lift, Prog.pure_eq_ret]
  iintro ⟨Hd, Hk⟩
  iapply (WP_skip (F := F) c)
  iapply (WP_skip (F := F) c)
  iapply (WP_skip (F := F) c)
  iapply (WP_skip (F := F) c)
  iapply (WP_pos (F := F) c ((cond22_iff t).2 h))
  iapply (oissue (F := F) c (t / 8) (t / 8) G d (slot_eq _) (cell_eq _) (off52_eq t)) $$ Hd
  iintro Hd
  iapply (WP_skip (F := F) c)
  iapply (WP_skip (F := F) c)
  iapply (WP_ret (F := F) c ?_)
  pick_goal 2
  · iapply Hk; iexact Hd
  · clear h h6
    revert t; decide +kernel

theorem part11_skip (n : ℕ) (e₁ e₂ : BitVec 32) (h6) {Q : _ → sProp 𝕄} (h : ¬ (t : ℕ) = 8) :
    iprop((Q ⟨BitVec.ofNat 32 (t / 8), BitVec.ofNat 32 (t + 1), BitVec.ofNat 32 (n + stq (x0 v24) (x1 v24) (x0 v36) (x1 v36) t), BitVec.ofNat 32 (n + stq (x0 v24) (x1 v24) (x0 v36) (x1 v36) t), BitVec.ofNat 32 (n + stq (x0 v24) (x1 v24) (x0 v36) (x1 v36) t), BitVec.ofNat 32 (t % 4 + 1), 4#32⟩))
    ⊢ WP c (part11At (F := F) a0 h0 a5 h5 t (BitVec.ofNat 32 (t + 1)) (BitVec.ofNat 32 t) (BitVec.ofNat 32 n) (BitVec.ofNat 32 n) (BitVec.ofNat 32 n) (BitVec.ofNat 32 (t / 8)) (BitVec.ofNat 32 ((t - 1) / 8)) (bw t) (kw t) (lw t) h6 (z0 t) (z15 t) (bw t) (lw t) (bw (t + 15)) (bw (t + 1)) (lw (t + 1))
        (ee v24 v36 t) (ee v24 v36 (t + 1)) (ee v24 v36 t) (ee v24 v36 (t + 1)) (ee v24 v36 t) (ee v24 v36 (t + 1)) e₁ e₂) Q := by
  unfold part11At
  rw [k0_part11_eq_skeleton]
  unfold k0_part11_skel
  dsimp only [Prog.bind_lift, Prog.pure_eq_ret]
  iintro Hk
  iapply (WP_skip (F := F) c)
  iapply (WP_skip (F := F) c)
  iapply (WP_neg (F := F) c (fun hh => h ((cond27_iff t).1 hh)))
  iapply (WP_ret (F := F) c ?_)
  pick_goal 2
  · iexact Hk
  · clear h h6
    have hz : (z15 t = 1#1) ↔ (t : ℕ) = 15 := by revert t; decide +kernel
    repeat' apply mk_eq
    · revert t; decide +kernel
    · revert t; decide +kernel
    · exact inc_out _ _ n hz
    · exact inc_out _ _ n hz
    · exact inc_out _ _ n hz
    · revert t; decide +kernel
    · rfl

theorem part11_wait (n : ℕ) (e₁ e₂ : BitVec 32) (h6) {Q : _ → sProp 𝕄} (G : (main_v0_1 : Ref sig .tc).ty.Contents (Elt F)) (d : S1x2048x768.Idx → Elt F .f32) (h : (t : ℕ) = 8) :
    iprop((OFly (F := F) c 0 0 G d ∗ Owe c) ∗ (((OSlot c 0 d ∗ OArr c (owrite 0 G d)) ∗ OCell c 0) ∗ Owe c -∗ Q ⟨BitVec.ofNat 32 (t / 8), BitVec.ofNat 32 (t + 1), BitVec.ofNat 32 (n + stq (x0 v24) (x1 v24) (x0 v36) (x1 v36) t), BitVec.ofNat 32 (n + stq (x0 v24) (x1 v24) (x0 v36) (x1 v36) t), BitVec.ofNat 32 (n + stq (x0 v24) (x1 v24) (x0 v36) (x1 v36) t), BitVec.ofNat 32 (t % 4 + 1), 4#32⟩))
    ⊢ WP c (part11At (F := F) a0 h0 a5 h5 t (BitVec.ofNat 32 (t + 1)) (BitVec.ofNat 32 t) (BitVec.ofNat 32 n) (BitVec.ofNat 32 n) (BitVec.ofNat 32 n) (BitVec.ofNat 32 (t / 8)) (BitVec.ofNat 32 ((t - 1) / 8)) (bw t) (kw t) (lw t) h6 (z0 t) (z15 t) (bw t) (lw t) (bw (t + 15)) (bw (t + 1)) (lw (t + 1))
        (ee v24 v36 t) (ee v24 v36 (t + 1)) (ee v24 v36 t) (ee v24 v36 (t + 1)) (ee v24 v36 t) (ee v24 v36 (t + 1)) e₁ e₂) Q := by
  unfold part11At
  rw [k0_part11_eq_skeleton]
  unfold k0_part11_skel
  dsimp only [Prog.bind_lift, Prog.pure_eq_ret]
  iintro ⟨Hd, Hk⟩
  iapply (WP_skip (F := F) c)
  iapply (WP_skip (F := F) c)
  iapply (WP_pos (F := F) c ((cond27_iff t).2 h))
  iapply (oawait (F := F) c 0 0 G d ((cell_eq ((t - 1) / 8)).trans (by rw [h]))) $$ Hd
  iintro Hd
  iapply (WP_ret (F := F) c ?_)
  pick_goal 2
  · iapply Hk; iexact Hd
  · clear h h6
    have hz : (z15 t = 1#1) ↔ (t : ℕ) = 15 := by revert t; decide +kernel
    repeat' apply mk_eq
    · revert t; decide +kernel
    · revert t; decide +kernel
    · exact inc_out _ _ n hz
    · exact inc_out _ _ n hz
    · exact inc_out _ _ n hz
    · revert t; decide +kernel
    · rfl

end

end Cert.KernelIdeal.Hand
-- ==== Proof.Trip.lean ====
/-
  A trip of the expert pass as a whole: the rings before it, the rings after it, and the words it yields.
-/
module

public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The arrays the pass reads, what the result held, the two ranks' scales and experts. -/
structure Src (F : FTy → Type) where
  X : (main_arg0 : Ref sig .tc).ty.Contents (Elt F)
  U : (main_arg2 : Ref sig .tc).ty.Contents (Elt F)
  W : (main_arg3 : Ref sig .tc).ty.Contents (Elt F)
  V : (main_arg4 : Ref sig .tc).ty.Contents (Elt F)
  G : (main_v0_1 : Ref sig .tc).ty.Contents (Elt F)
  s₀ : FVec F S2 .f32
  i₀ : IVec S2 32
  s₁ : FVec F S2 .f32
  i₁ : IVec S2 32

namespace Src

variable (s : Src F)

def e (t : ℕ) : BitVec 32 := ee s.i₀ s.i₁ t
def n (t : ℕ) : ℕ := cnt (x0 s.i₀) (x1 s.i₀) (x0 s.i₁) (x1 s.i₁) t
def m (t : ℕ) : ℕ := cin (x0 s.i₀) (x1 s.i₀) (x0 s.i₁) (x1 s.i₁) t

/-- What a trip leaves in its slot of the results' ring. -/
def step (t : ℕ) (d : S1x2048x768.Idx → Elt F .f32) : S1x2048x768.Idx → Elt F .f32 :=
  odone s.s₀ s.s₁ t (k0_pay61 (xval s.X (t / 8) t)) (k0_pay62 (xval s.X (t / 8) t) (uval s.U (s.e t).toNat))
    (vval s.V (s.e t).toNat) (wval s.W (s.e t).toNat) d

/-- What the first `τ` trips over batch row `b` leave there. -/
def acc (b : ℕ) : ℕ → (S1x2048x768.Idx → Elt F .f32) → S1x2048x768.Idx → Elt F .f32
  | 0, d => d
  | τ + 1, d => s.step (8 * b + τ) (acc b τ d)

theorem acc_step (t : ℕ) (d : S1x2048x768.Idx → Elt F .f32) : s.step t (s.acc (t / 8) (t % 8) d) = s.acc (t / 8) (t % 8 + 1) d := by
  show _ = s.step (8 * (t / 8) + t % 8) _
  rw [Nat.div_add_mod]

theorem e_add (t : ℕ) : s.e (t + 16) = s.e t := ew_add16 _ _ _ _ t

theorem n_succ (t : ℕ) : s.n (t + 1) = s.n t + stq (x0 s.i₀) (x1 s.i₀) (x0 s.i₁) (x1 s.i₁) t := rfl
theorem m_eq (t : ℕ) (h : t ≤ 15) : s.m t = s.n t + 1 := cin_eq _ _ _ _ t h
theorem m_succ (t : ℕ) (h : t ≤ 15) : s.m (t + 1) = s.n t + 1 + stp (x0 s.i₀) (x1 s.i₀) (x0 s.i₁) (x1 s.i₁) t := by
  rw [← s.m_eq t h]; rfl

/-- The words before trip `t`. -/
def words (t : ℕ) : BitVec 32 × BitVec 32 × BitVec 32 × BitVec 32 × BitVec 32 × BitVec 32 × BitVec 32 × BitVec 32 × BitVec 32 × BitVec 32 × BitVec 32 × BitVec 32 × BitVec 32 :=
  (xw t, BitVec.ofNat 32 t, BitVec.ofNat 32 (s.m t), BitVec.ofNat 32 (s.n t), BitVec.ofNat 32 (s.m t), BitVec.ofNat 32 (s.n t),
    BitVec.ofNat 32 (s.m t), BitVec.ofNat 32 (s.n t), BitVec.ofNat 32 (t / 8), BitVec.ofNat 32 ((t - 1) / 8), bw t, kw t, lw t)

end Src

section
variable (c : Dev nD) (s : Src F)

/-- The ring of rows before trip `t`. -/
def XI (t : ℕ) : sProp 𝕄 :=
  if t < 16 then iprop(XFly c s.X t (t / 8) t ∗ XFree c s.X (t + 1)) else iprop(XFree c s.X t ∗ XFree c s.X (t + 1))

theorem XI_now (t : ℕ) (h : t < 16) : XI c s t ⊢ iprop(XFly c s.X t (t / 8) t ∗ XFree c s.X (t + 1)) := by
  unfold XI
  rw [if_pos h]

theorem XI_next (t : ℕ) (h : t < 16) (v) : iprop(XNext c s.X t ∗ XHeld c s.X t v) ⊢ XI c s (t + 1) := by
  unfold XNext XI
  rw [← XFree_congr c s.X (show t % 2 = (t + 1 + 1) % 2 by omega)]
  by_cases h' : t < 15
  · rw [if_pos h', if_pos (show t + 1 < 16 by omega)]
    iintro ⟨H, Hh⟩
    ihave Hh := XHeld_free c s.X t v $$ Hh
    isplitl [H] <;> iassumption
  · rw [if_neg h', if_neg (show ¬ t + 1 < 16 by omega)]
    iintro ⟨H, Hh⟩
    ihave Hh := XHeld_free c s.X t v $$ Hh
    isplitl [H] <;> iassumption

/-- A ring of experts before trip `t`. -/
def UI (t : ℕ) : sProp 𝕄 :=
  if t < 16 then iprop(UThis c s.U (s.e t) (s.e (t + 15)) (s.n t) t ∗ UFree c s.U (s.n t + 1))
  else iprop(UFree c s.U (s.n t) ∗ UFree c s.U (s.n t + 1))

theorem UI_now (t : ℕ) (h : t < 16) :
    UI c s t ⊢ iprop(UThis c s.U (s.e t) (s.e (t + 15)) (s.n t) t ∗ UFree c s.U (s.n t + 1)) := by
  unfold UI
  rw [if_pos h]

theorem UI_next (t : ℕ) (h : t < 16) :
    iprop(UNext c s.U (s.e t) (s.e (t + 1)) (s.n t + 1) t ∗ UHeld c s.U (s.n t) (uval s.U (s.e t).toNat)) ⊢ UI c s (t + 1) := by
  unfold UNext UI UThis
  rw [s.n_succ, show t + 1 + 15 = t + 16 from rfl, s.e_add]
  have hq : stq (x0 s.i₀) (x1 s.i₀) (x0 s.i₁) (x1 s.i₁) t = if s.e t ≠ s.e (t + 1) ∨ t = 15 then 1 else 0 := rfl
  rw [hq]
  by_cases h' : t < 15
  · by_cases he : s.e t ≠ s.e (t + 1)
    · rw [if_pos ⟨he, h'⟩, if_pos (show t + 1 < 16 by omega), if_pos (Or.inl he.symm), if_pos (Or.inl he),
        ← UFree_congr c s.U (show s.n t % 2 = (s.n t + 1 + 1) % 2 by omega)]
      iintro ⟨H, Hh⟩
      ihave Hh := UHeld_free c s.U _ _ $$ Hh
      isplitl [H] <;> iassumption
    · rw [if_neg (fun hh => he hh.1), if_pos (show t + 1 < 16 by omega),
        if_neg (fun hh => hh.elim (fun h => he h.symm) (fun h => by omega)),
        if_neg (fun hh => hh.elim he (fun h => by omega)), ← not_not.1 he]
      iintro ⟨H, Hh⟩
      isplitl [Hh] <;> iassumption
  · rw [if_neg (fun hh => h' hh.2), if_neg (show ¬ t + 1 < 16 by omega), if_pos (Or.inr (show t = 15 by omega)),
      ← UFree_congr c s.U (show s.n t % 2 = (s.n t + 1 + 1) % 2 by omega)]
    iintro ⟨H, Hh⟩
    ihave Hh := UHeld_free c s.U _ _ $$ Hh
    isplitl [H] <;> iassumption

/-- A ring of experts before trip `t`. -/
def VI (t : ℕ) : sProp 𝕄 :=
  if t < 16 then iprop(VThis c s.V (s.e t) (s.e (t + 15)) (s.n t) t ∗ VFree c s.V (s.n t + 1))
  else iprop(VFree c s.V (s.n t) ∗ VFree c s.V (s.n t + 1))

theorem VI_now (t : ℕ) (h : t < 16) :
    VI c s t ⊢ iprop(VThis c s.V (s.e t) (s.e (t + 15)) (s.n t) t ∗ VFree c s.V (s.n t + 1)) := by
  unfold VI
  rw [if_pos h]

theorem VI_next (t : ℕ) (h : t < 16) :
    iprop(VNext c s.V (s.e t) (s.e (t + 1)) (s.n t + 1) t ∗ VHeld c s.V (s.n t) (vval s.V (s.e t).toNat)) ⊢ VI c s (t + 1) := by
  unfold VNext VI VThis
  rw [s.n_succ, show t + 1 + 15 = t + 16 from rfl, s.e_add]
  have hq : stq (x0 s.i₀) (x1 s.i₀) (x0 s.i₁) (x1 s.i₁) t = if s.e t ≠ s.e (t + 1) ∨ t = 15 then 1 else 0 := rfl
  rw [hq]
  by_cases h' : t < 15
  · by_cases he : s.e t ≠ s.e (t + 1)
    · rw [if_pos ⟨he, h'⟩, if_pos (show t + 1 < 16 by omega), if_pos (Or.inl he.symm), if_pos (Or.inl he),
        ← VFree_congr c s.V (show s.n t % 2 = (s.n t + 1 + 1) % 2 by omega)]
      iintro ⟨H, Hh⟩
      ihave Hh := VHeld_free c s.V _ _ $$ Hh
      isplitl [H] <;> iassumption
    · rw [if_neg (fun hh => he hh.1), if_pos (show t + 1 < 16 by omega),
        if_neg (fun hh => hh.elim (fun h => he h.symm) (fun h => by omega)),
        if_neg (fun hh => hh.elim he (fun h => by omega)), ← not_not.1 he]
      iintro ⟨H, Hh⟩
      isplitl [Hh] <;> iassumption
  · rw [if_neg (fun hh => h' hh.2), if_neg (show ¬ t + 1 < 16 by omega), if_pos (Or.inr (show t = 15 by omega)),
      ← VFree_congr c s.V (show s.n t % 2 = (s.n t + 1 + 1) % 2 by omega)]
    iintro ⟨H, Hh⟩
    ihave Hh := VHeld_free c s.V _ _ $$ Hh
    isplitl [H] <;> iassumption

/-- A ring of experts before trip `t`. -/
def WI (t : ℕ) : sProp 𝕄 :=
  if t < 16 then iprop(WThis c s.W (s.e t) (s.e (t + 15)) (s.n t) t ∗ WFree c s.W (s.n t + 1))
  else iprop(WFree c s.W (s.n t) ∗ WFree c s.W (s.n t + 1))

theorem WI_now (t : ℕ) (h : t < 16) :
    WI c s t ⊢ iprop(WThis c s.W (s.e t) (s.e (t + 15)) (s.n t) t ∗ WFree c s.W (s.n t + 1)) := by
  unfold WI
  rw [if_pos h]

theorem WI_next (t : ℕ) (h : t < 16) :
    iprop(WNext c s.W (s.e t) (s.e (t + 1)) (s.n t + 1) t ∗ WHeld c s.W (s.n t) (wval s.W (s.e t).toNat)) ⊢ WI c s (t + 1) := by
  unfold WNext WI WThis
  rw [s.n_succ, show t + 1 + 15 = t + 16 from rfl, s.e_add]
  have hq : stq (x0 s.i₀) (x1 s.i₀) (x0 s.i₁) (x1 s.i₁) t = if s.e t ≠ s.e (t + 1) ∨ t = 15 then 1 else 0 := rfl
  rw [hq]
  by_cases h' : t < 15
  · by_cases he : s.e t ≠ s.e (t + 1)
    · rw [if_pos ⟨he, h'⟩, if_pos (show t + 1 < 16 by omega), if_pos (Or.inl he.symm), if_pos (Or.inl he),
        ← WFree_congr c s.W (show s.n t % 2 = (s.n t + 1 + 1) % 2 by omega)]
      iintro ⟨H, Hh⟩
      ihave Hh := WHeld_free c s.W _ _ $$ Hh
      isplitl [H] <;> iassumption
    · rw [if_neg (fun hh => he hh.1), if_pos (show t + 1 < 16 by omega),
        if_neg (fun hh => hh.elim (fun h => he h.symm) (fun h => by omega)),
        if_neg (fun hh => hh.elim he (fun h => by omega)), ← not_not.1 he]
      iintro ⟨H, Hh⟩
      isplitl [Hh] <;> iassumption
  · rw [if_neg (fun hh => h' hh.2), if_neg (show ¬ t + 1 < 16 by omega), if_pos (Or.inr (show t = 15 by omega)),
      ← WFree_congr c s.W (show s.n t % 2 = (s.n t + 1 + 1) % 2 by omega)]
    iintro ⟨H, Hh⟩
    ihave Hh := WHeld_free c s.W _ _ $$ Hh
    isplitl [H] <;> iassumption

/-- The result after the first batch row was copied out. -/
def G₀ (d : S1x2048x768.Idx → Elt F .f32) := owrite 0 s.G (s.acc 0 8 d)

/-- The ring of results, and the result, before trip `t`. -/
def OI (t : ℕ) : sProp 𝕄 :=
  if t < 8 then iprop(∃ d, OSlot c 0 (s.acc 0 t d) ∗ OCell c 0 ∗ (∃ e, OSlot c 1 e) ∗ OCell c 1 ∗ OArr c s.G)
  else if t = 8 then iprop(∃ d, OFly c 0 0 s.G (s.acc 0 8 d) ∗ (∃ e, OSlot c 1 e) ∗ OCell c 1)
  else if t < 16 then iprop(∃ d e, (∃ f, OSlot c 0 f) ∗ OCell c 0 ∗ OSlot c 1 (s.acc 1 (t - 8) e) ∗ OCell c 1 ∗ OArr c (G₀ s d))
  else iprop(∃ d e, (∃ f, OSlot c 0 f) ∗ OCell c 0 ∗ OFly c 1 1 (G₀ s d) (s.acc 1 8 e))

/-- The same without the slot being filled. -/
def ORest (t : ℕ) : sProp 𝕄 :=
  if t < 8 then iprop(OCell c 0 ∗ (∃ e, OSlot c 1 e) ∗ OCell c 1 ∗ OArr c s.G)
  else if t = 8 then iprop(∃ d, OFly c 0 0 s.G (s.acc 0 8 d) ∗ OCell c 1)
  else iprop(∃ d, (∃ f, OSlot c 0 f) ∗ OCell c 0 ∗ OCell c 1 ∗ OArr c (G₀ s d))

/-- The same after the full slot, if it was filled, was sent off. -/
def OMid (t : ℕ) (d : S1x2048x768.Idx → Elt F .f32) : sProp 𝕄 :=
  if t = 7 then iprop(OFly c 0 0 s.G d ∗ (∃ e, OSlot c 1 e) ∗ OCell c 1)
  else if t = 15 then iprop(∃ d₀, (∃ f, OSlot c 0 f) ∗ OCell c 0 ∗ OFly c 1 1 (G₀ s d₀) d)
  else iprop(OSlot c (t / 8) d ∗ ORest c s t)

theorem OI_open (t : ℕ) (h : t < 16) : OI c s t ⊢ iprop(∃ d, OSlot c (t / 8) (s.acc (t / 8) (t % 8) d) ∗ ORest c s t) := by
  unfold OI ORest
  by_cases h₁ : t < 8
  · rw [if_pos h₁, if_pos h₁, show t / 8 = 0 by omega, show t % 8 = t by omega]
  by_cases h₂ : t = 8
  · subst h₂
    rw [if_neg h₁, if_neg h₁, if_pos rfl, if_pos rfl]
    iintro ⟨%d, H, ⟨%e, He⟩, Hc⟩
    iexists e
    isplitl [He]; · iexact He
    iexists d
    isplitl [H] <;> iassumption
  · rw [if_neg h₁, if_neg h₁, if_neg h₂, if_neg h₂, if_pos h, show t / 8 = 1 by omega, show t % 8 = t - 8 by omega]
    iintro ⟨%d, %e, Hf, Hc, H, Hd, Ha⟩
    iexists e
    isplitl [H]; · iexact H
    iexists d
    isplitl [Hf]; · iexact Hf
    isplitl [Hc]; · iexact Hc
    isplitl [Hd] <;> iassumption

/-- Before a trip that sends nothing off. -/
theorem OI_mid (t : ℕ) (h : t < 16) (h₇ : t ≠ 7) (h₈ : t ≠ 8) (h₅ : t ≠ 15) (d) :
    iprop(OSlot c (t / 8) (s.acc (t / 8) (t % 8 + 1) d) ∗ ORest c s t) ⊢ OI c s (t + 1) := by
  unfold OI ORest
  by_cases h₁ : t < 8
  · rw [if_pos h₁, if_pos (show t + 1 < 8 by omega), show t / 8 = 0 by omega, show t % 8 = t by omega]
    iintro ⟨H, Hr⟩
    iexists d
    isplitl [H] <;> iassumption
  · rw [if_neg h₁, if_neg h₈, if_neg (show ¬ t + 1 < 8 by omega), if_neg (show ¬ t + 1 = 8 by omega), if_pos (show t + 1 < 16 by omega), show t / 8 = 1 by omega,
      show t % 8 + 1 = t + 1 - 8 by omega]
    iintro ⟨H, %d₀, Hf, Hc, Hd, Ha⟩
    iexists d₀, d
    isplitl [Hf]; · iexact Hf
    isplitl [Hc]; · iexact Hc
    isplitl [H]; · iexact H
    isplitl [Hd] <;> iassumption

theorem OMid_next (t : ℕ) (h : t < 16) (h₈ : t ≠ 8) (d) : OMid c s t (s.acc (t / 8) (t % 8 + 1) d) ⊢ OI c s (t + 1) := by
  unfold OMid
  by_cases h₇ : t = 7
  · subst h₇
    unfold OI
    rw [if_pos rfl, if_neg (by decide), if_pos rfl]
    iintro H
    iexists d
    iexact H
  rw [if_neg h₇]
  by_cases h₅ : t = 15
  · subst h₅
    unfold OI
    rw [if_pos rfl, if_neg (by decide), if_neg (by decide), if_neg (by decide)]
    iintro ⟨%d₀, Hf, Hc, H⟩
    iexists d₀, d
    isplitl [Hf]; · iexact Hf
    isplitl [Hc]; · iexact Hc
    iexact H
  · rw [if_neg h₅]
    exact OI_mid c s t h h₇ h₈ h₅ d

end

section
variable (a0 : Memref sig .tc .vmem S768x8 .f32) (h0 : a0.IsWhole) (a5 : Memref sig .tc .vmem S2x8 .f32) (h5 : a5.IsWhole)
variable (c : Dev nD) (s : Src F) (t : Fin k0_t2_loop.trips)

theorem lt16 : (t : ℕ) < 16 := trips2 ▸ t.2

theorem part10_spec (v233 e₁ e₂ e₃ e₄ e₅ e₆ e₇ : BitVec 32) (h6) (d : S1x2048x768.Idx → Elt F .f32) {Q : _ → sProp 𝕄} :
    iprop((OSlot c (t / 8) d ∗ ORest c s t) ∗ (OMid c s t d -∗ Q (BitVec.ofNat 32 ((t + 1) / 8))))
    ⊢ WP c (part10At (F := F) a0 h0 a5 h5 t (BitVec.ofNat 32 (t + 1)) (BitVec.ofNat 32 t) (BitVec.ofNat 32 (t / 8)) (BitVec.ofNat 32 ((t - 1) / 8))
        (bw t) (kw t) (lw t) h6 (z0 t) (z15 t) (bw t) (lw t) (bw (t + 15)) v233 (bw (t + 1))
        e₁ e₂ e₃ e₄ e₅ e₆ e₇ 1#1 1#1) Q := by
  unfold OMid
  by_cases h₇ : (t : ℕ) = 7
  · rw [if_pos h₇]
    unfold ORest
    rw [if_pos (by omega)]
    iintro ⟨⟨H, Hc, He, Hd, Ha⟩, Hk⟩
    have hj : (t : ℕ) / 8 = 0 := by omega
    iapply (part10_send (F := F) a0 h0 a5 h5 c t v233 e₁ e₂ e₃ e₄ e₅ e₆ e₇ h6 s.G d (Or.inl h₇))
    isplitl [H Hc Ha]
    · rw [hj]
      isplitl [H]; · iexact H
      isplitl [Hc] <;> iassumption
    · iintro H
      iapply Hk
      rw [hj]
      isplitl [H]; · iexact H
      isplitl [He] <;> iassumption
  · rw [if_neg h₇]
    by_cases h₅ : (t : ℕ) = 15
    · rw [if_pos h₅]
      unfold ORest
      rw [if_neg (by omega), if_neg (by omega)]
      iintro ⟨⟨H, %d₀, Hf, Hc, Hd, Ha⟩, Hk⟩
      have hj : (t : ℕ) / 8 = 1 := by omega
      iapply (part10_send (F := F) a0 h0 a5 h5 c t v233 e₁ e₂ e₃ e₄ e₅ e₆ e₇ h6 (G₀ s d₀) d (Or.inr h₅))
      isplitl [H Hd Ha]
      · rw [hj]
        isplitl [H]; · iexact H
        isplitl [Hd] <;> iassumption
      · iintro H
        iapply Hk
        rw [hj]
        iexists d₀
        isplitl [Hf]; · iexact Hf
        isplitl [Hc] <;> iassumption
    · rw [if_neg h₅]
      iintro ⟨H, Hk⟩
      iapply (part10_skip (F := F) a0 h0 a5 h5 c t v233 e₁ e₂ e₃ e₄ e₅ e₆ e₇ h6 (fun hh => hh.elim h₇ h₅))
      iapply Hk
      iexact H

theorem part11_spec (e₁ e₂ : BitVec 32) (h6) (d : S1x2048x768.Idx → Elt F .f32) {Q : _ → sProp 𝕄} :
    iprop((OMid c s t (s.acc (t / 8) (t % 8 + 1) d) ∗ Owe c) ∗ (OI c s (t + 1) ∗ Owe c -∗
        Q ⟨BitVec.ofNat 32 (t / 8), BitVec.ofNat 32 (t + 1), BitVec.ofNat 32 (s.n (t + 1)), BitVec.ofNat 32 (s.n (t + 1)), BitVec.ofNat 32 (s.n (t + 1)), BitVec.ofNat 32 (t % 4 + 1), 4#32⟩))
    ⊢ WP c (part11At (F := F) a0 h0 a5 h5 t (BitVec.ofNat 32 (t + 1)) (BitVec.ofNat 32 t) (BitVec.ofNat 32 (s.n t)) (BitVec.ofNat 32 (s.n t)) (BitVec.ofNat 32 (s.n t))
        (BitVec.ofNat 32 (t / 8)) (BitVec.ofNat 32 ((t - 1) / 8)) (bw t) (kw t) (lw t) h6 (z0 t) (z15 t) (bw t) (lw t) (bw (t + 15)) (bw (t + 1)) (lw (t + 1))
        (s.e t) (s.e (t + 1)) (s.e t) (s.e (t + 1)) (s.e t) (s.e (t + 1)) e₁ e₂) Q := by
  have ht := lt16 t
  rw [s.n_succ]
  by_cases h₈ : (t : ℕ) = 8
  · unfold OMid ORest
    rw [if_neg (show ¬ (t : ℕ) = 7 by omega), if_neg (show ¬ (t : ℕ) = 15 by omega), if_neg (show ¬ (t : ℕ) < 8 by omega), if_pos h₈]
    iintro ⟨⟨⟨H, ⟨%d₀, Hf, Hd⟩⟩, Ho⟩, Hk⟩
    iapply (part11_wait (F := F) a0 h0 a5 h5 c t s.i₀ s.i₁ (s.n t) e₁ e₂ h6 s.G (s.acc 0 8 d₀) h₈)
    isplitl [Hf Ho]
    · isplitl [Hf] <;> iassumption
    · iintro ⟨⟨⟨Hf, Ha⟩, Hc⟩, Ho⟩
      iapply Hk
      isplitr [Ho]
      · unfold OI
        rw [if_neg (by omega), if_neg (by omega), if_pos (by omega), show (t : ℕ) / 8 = 1 by omega,
          show (t : ℕ) % 8 + 1 = t + 1 - 8 by omega]
        iexists d₀, d
        isplitl [Hf]; · iexists (s.acc 0 8 d₀); iexact Hf
        isplitl [Hc]; · iexact Hc
        isplitl [H]; · iexact H
        isplitl [Hd]; · iexact Hd
        iexact Ha
      · iexact Ho
  · iintro ⟨⟨H, Ho⟩, Hk⟩
    iapply (part11_skip (F := F) a0 h0 a5 h5 c t s.i₀ s.i₁ (s.n t) e₁ e₂ h6 h₈)
    iapply Hk
    isplitl [H]
    · iapply (OMid_next c s t ht h₈ d)
      iexact H
    · iexact Ho

theorem pr_eq {α β : Type} {a a' : α} {b b' : β} (h : a = a') (h' : b = b') : (a, b) = (a', b') := by
  subst h h'; rfl

theorem WP_bind {α β : Type} {Q : β → sProp 𝕄} {p : Prog (TpuEff nD τ sig (Elt F) Λ₀ .tc) α} {k : α → Prog (TpuEff nD τ sig (Elt F) Λ₀ .tc) β} :
    WP (F := F) c p (fun a => WP c (k a) Q) ⊢ WP c (p >>= k) Q := by
  unfold WP
  rw [wp_bind]

/-- What a trip is given and what it leaves. -/
def TI (t : ℕ) : sProp 𝕄 := iprop(XI c s t ∗ UI c s t ∗ VI c s t ∗ WI c s t ∗ OI c s t ∗ Owe c)

theorem trip (v87 v106 v125 v144 c₁ c₂ c₃ c₄ : BitVec 32)
    (hv : (x0 s.i₀).toNat < 8 ∧ (x1 s.i₀).toNat < 8 ∧ (x0 s.i₁).toNat < 8 ∧ (x1 s.i₁).toNat < 8) {Q : _ → sProp 𝕄} :
    iprop(TI c s t ∗ (TI c s (t + 1) -∗ Q (s.words (t + 1))))
    ⊢ WP c (k0_t2_body (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 s.s₀ s.i₀ s.s₁ s.i₁ v87 v106 v125 v144 c₁ c₂ c₃ c₄ t (s.words t)) Q := by
  have ht := lt16 t
  unfold TI
  iintro ⟨⟨Hx, Hu, Hv, Hw, Ho, Hb⟩, Hk⟩
  icases OI_open c s t ht $$ Ho with ⟨%d, Hd, Ho⟩
  icases XI_now c s t ht $$ Hx with ⟨Hx, Hx'⟩
  icases UI_now c s t ht $$ Hu with ⟨Hu, Hu'⟩
  icases VI_now c s t ht $$ Hv with ⟨Hv, Hv'⟩
  icases WI_now c s t ht $$ Hw with ⟨Hw, Hw'⟩
  unfold k0_t2_body Src.words
  rw [s.m_eq t (by omega), show xw t = BitVec.ofNat 32 (t + 1) by unfold xw; rw [Nat.min_eq_left (by omega)]]
  dsimp only
  iapply (WP_bind (F := F) c)
  iapply (part2_spec (F := F) a0 h0 a5 h5 c t (s.n t))
  dsimp only
  iapply (WP_bind (F := F) c)
  iapply (part3_spec (F := F) a0 h0 a5 h5 c t s.X)
  isplitl [Hx']; · iexact Hx'
  iintro Hx'
  dsimp only
  iapply (WP_bind (F := F) c)
  iapply (part4_spec (F := F) a0 h0 a5 h5 c t s.i₀ s.i₁ hv s.U (s.n t))
  isplitl [Hu']; · iexact Hu'
  iintro Hu'
  dsimp only
  iapply (WP_bind (F := F) c)
  iapply (part5_spec (F := F) a0 h0 a5 h5 c t s.i₀ s.i₁ hv s.V (s.n t))
  isplitl [Hv']; · iexact Hv'
  iintro Hv'
  dsimp only
  iapply (WP_bind (F := F) c)
  iapply (part6_spec (F := F) a0 h0 a5 h5 c t s.i₀ s.i₁ hv s.X s.W (s.n t))
  isplitl [Hw']; · iexact Hw'
  isplitl [Hx]; · iexact Hx
  isplitl [Hb]; · iexact Hb
  iintro ⟨Hw', Hx, Hb⟩
  dsimp only
  iapply (WP_bind (F := F) c)
  iapply (part7_spec (F := F) a0 h0 a5 h5 c t s.i₀ s.i₁ hv s.U s.V (s.n t))
  isplitl [Hu]; · iexact Hu
  isplitl [Hv]; · iexact Hv
  isplitl [Hb]; · iexact Hb
  iintro ⟨Hu, Hv, Hb⟩
  dsimp only
  iapply (WP_bind (F := F) c)
  iapply (part8_spec (F := F) a0 h0 a5 h5 c t s.i₀ s.i₁ hv s.X s.U s.W (s.n t))
  isplitl [Hw]; · iexact Hw
  isplitl [Hx]; · iexact Hx
  isplitl [Hu]; · iexact Hu
  isplitl [Hb]; · iexact Hb
  iintro ⟨Hw, Hx, Hu, Hb⟩
  dsimp only
  iapply (WP_bind (F := F) c)
  iapply (part9_spec (F := F) a0 h0 a5 h5 c t s.V s.W (s.n t) s.s₀ s.s₁)
  isplitl [Hv]; · iexact Hv
  isplitl [Hw]; · iexact Hw
  isplitl [Hd]; · iexact Hd
  iintro ⟨Hv, Hw, Hd⟩
  dsimp only
  iapply (WP_bind (F := F) c)
  iapply (part10_spec (F := F) a0 h0 a5 h5 c s t)
  isplitl [Hd Ho]
  · isplitl [Hd] <;> iassumption
  iintro Hm
  iapply (WP_bind (F := F) c)
  iapply (part11_spec (F := F) a0 h0 a5 h5 c s t _ _ _ d)
  isplitl [Hm Hb]
  · isplitl [Hm]
    · rw [← Src.acc_step]
      iexact Hm
    · iexact Hb
  iintro ⟨Ho, Hb⟩
  dsimp only
  iapply (WP_ret (F := F) c ?_)
  pick_goal 2
  · iapply Hk
    isplitl [Hx Hx']
    · iapply (XI_next c s t ht _)
      isplitl [Hx'] <;> iassumption
    isplitl [Hu Hu']
    · iapply (UI_next c s t ht)
      isplitl [Hu']; · iexact Hu'
      iexact Hu
    isplitl [Hv Hv']
    · iapply (VI_next c s t ht)
      isplitl [Hv']; · iexact Hv'
      iexact Hv
    isplitl [Hw Hw']
    · iapply (WI_next c s t ht)
      isplitl [Hw']; · iexact Hw'
      iexact Hw
    isplitl [Ho] <;> iassumption
  · rw [s.m_succ t (by omega)]
    clear hv ht Q
    refine pr_eq rfl (pr_eq rfl (pr_eq rfl (pr_eq rfl (pr_eq rfl (pr_eq rfl (pr_eq rfl (pr_eq rfl (pr_eq rfl (pr_eq rfl
      (pr_eq ?_ (pr_eq ?_ ?_)))))))))))
    all_goals (revert t; decide +kernel)

end

end Cert.KernelIdeal.Hand
-- ==== Proof.Router.lean ====
/-
  The router pass: the four tiles of rows, their sum kept in a scratch.
-/
module

public import proofs.«01_k».proof.Proof.Trip
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

theorem trips1 : k0_t1_loop.trips = 4 := by decide

/-- How many tiles have been asked for before trip `t`. -/
def yw (t : ℕ) : BitVec 32 := BitVec.ofNat 32 (min (t + 1) 4)
def z3 (t : ℕ) : BitVec 1 := if t = 3 then 1#1 else 0#1

section
variable (t : Fin k0_t1_loop.trips)

theorem lt4 : (t : ℕ) < 4 := t.isLt.trans_eq trips1

theorem cond1_iff : k0_cond1 t (lw t) = 1#1 ↔ (t : ℕ) < 3 := by revert t; decide +kernel
theorem cond2_iff : k0_cond2 t (lw t) = 1#1 ↔ True := by revert t; decide +kernel
theorem off5_eq : k0_off5 (lw t) = ![0, 512 * (((t : ℕ) + 1) % 4), 0] := by revert t; decide +kernel
theorem first_iff : Scalar.cmpi .ne (Scalar.extui (Scalar.cmpi .eq (lw t) 0#32)) 0#32 = 1#1 ↔ (t : ℕ) = 0 := by
  revert t; decide +kernel
theorem later_iff : Scalar.cmpi .ne (Scalar.extui (Scalar.cmpi .sgt (lw t) 0#32)) 0#32 = 1#1 ↔ ¬ (t : ℕ) = 0 := by
  revert t; decide +kernel
theorem chk1_ok : k0_chk1 t (yw t) (BitVec.ofNat 32 t) (lw t) := by revert t; decide +kernel
theorem chk2_ok : k0_chk2 (BitVec.ofNat 32 t) := by revert t; decide +kernel

end

/-- The tile as it stands in the ring. -/
def rld (v : S2x512x768.Idx → Elt F .f32) : Vec F S1x2x512x768 .f32 := shapeCast S1x2x512x768 v (by decide)

section
variable (c : Dev nD)

theorem rget {α : Type} {Q : α → sProp 𝕄} (X : (main_arg0 : Ref sig .tc).ty.Contents (Elt F)) (j : ℕ) {v : S2x512x768.Idx → Elt F .f32}
    {o₄ : Fin 4 → ℕ} {h₄} {hl} {k : _ → Prog (TpuEff nD τ sig (Elt F) Λ₀ .tc) α} (e₄ : o₄ = ![j % 2, 0, 0, 0]) :
    RHeld (F := F) c X j v
      ⊢ iprop((RHeld c X j v -∗ WP c (k (rld v)) Q)
          -∗ WP c (.op (.load (Memref.whole cc0_scoped0) (Rect.unit (s := S2x2x512x768) o₄ S1x2x512x768.size h₄).toLoadRect hl) k) Q) := by
  subst e₄
  unfold RHeld Held owns
  iintro ⟨⟨%f, %hf, H⟩, Hr⟩
  iintro Hk
  have e : rld v = ((Memref.whole cc0_scoped0).access (Rect.unit (s := S2x2x512x768) _ S1x2x512x768.size h₄)).read (Elt F) f := by
    subst hf
    exact shapeCast_shapeCast (s := S1x2x512x768) (t := S2x512x768)
      (((Memref.whole cc0_scoped0).access (Rect.unit (s := S2x2x512x768) _ S1x2x512x768.size h₄)).read (Elt F) f) (by decide) (by decide)
  iapply (wp_load_rect Variants.none (c : Thread nD τ) none Set.univ
    (Eq.subset (View.set_reshape (v := ((Memref.whole cc0_scoped0).access (Rect.unit (s := S2x2x512x768) _ S1x2x512x768.size h₄))) _).symm)) $$ H
  iintro H
  ihave Hk := Hk $$ [H Hr]
  · isplitl [H]
    · iexists f
      isplitr
      · ipureintro; exact hf
      · iexact H
    · iexact Hr
  iapply (show WP (F := F) c (k (rld v)) Q ⊢ _ by rw [e]) $$ Hk

/-- A store over all of a buffer. -/
theorem put_full {α : Type} {Q : α → sProp 𝕄} {cs : CoreSpace} {s : Shape} {e : EltTy} {m : Memref sig .tc cs s e} {v : s.Idx → Elt F e}
    {o : Fin s.rank → ℕ} {h} {w : s.Idx → Elt F e} {hl hm}
    {k : PUnit → Prog (TpuEff nD τ sig (Elt F) Λ₀ .tc) α} (ho : o = fun _ => 0) :
    owns (c : Thread nD τ) m fullShare v
      ⊢ iprop((owns (c : Thread nD τ) m fullShare w -∗ WP (F := F) c (k ⟨⟩) Q)
          -∗ WP c (.op (.store m (Rect.unit (s := s) o s.size h) w Finset.univ hl hm) k) Q) := by
  subst ho
  exact wp_put (F := F) c (fun i => congrArg w (full_emb h i)) fun y hy => absurd (by
    have := (Rect.unit (s := s) (fun _ => 0) s.size h).toLoadRect.idx_mem y
    rwa [show (Rect.unit (s := s) (fun _ => 0) s.size h).toLoadRect.idx y = y from full_emb h y] at this) hy

/-- A load of all of a buffer. -/
theorem get_full {α : Type} {Q : α → sProp 𝕄} {cs : CoreSpace} {s : Shape} {e : EltTy} {m : Memref sig .tc cs s e} {v : s.Idx → Elt F e}
    {q : PosShare TreeShare} {o : Fin s.rank → ℕ} {h} {hl}
    {k : (s.Idx → Elt F e) → Prog (TpuEff nD τ sig (Elt F) Λ₀ .tc) α} (ho : o = fun _ => 0) :
    owns (c : Thread nD τ) m q v
      ⊢ iprop((owns (c : Thread nD τ) m q v -∗ WP (F := F) c (k v) Q)
          -∗ WP c (.op (.load m (Rect.unit (s := s) o s.size h).toLoadRect hl) k) Q) := by
  iintro H
  iintro Hk
  iapply (wp_get (F := F) c) $$ H
  iintro H
  rw [full_read v ho]
  iapply Hk
  iexact H

end

/-- The sum of the tiles after `τ` of them. -/
def rsum (X : (main_arg0 : Ref sig .tc).ty.Contents (Elt F)) (d : S2x768.Idx → Elt F .f32) : ℕ → S2x768.Idx → Elt F .f32
  | 0 => d
  | τ + 1 => if τ = 0 then k0_pay68 (rld (rval X τ)) else k0_pay69 (rld (rval X τ)) (rsum X d τ)

section
variable (c : Dev nD) (X : (main_arg0 : Ref sig .tc).ty.Contents (Elt F))

/-- The scratch. -/
abbrev Sum (v : S2x768.Idx → Elt F .f32) : sProp 𝕄 := owns (c : Thread nD τ) (Memref.whole cc0_scratch0) fullShare v

/-- The ring after the next tile, if there is one, was asked for. -/
def RNext (t : ℕ) : sProp 𝕄 := if t < 3 then RFly c X (t + 1) (t + 1) else RFree c X (t + 1)

/-- The ring and the sum before trip `t`. -/
def RI (d : S2x768.Idx → Elt F .f32) (t : ℕ) : sProp 𝕄 :=
  iprop((if t < 4 then iprop(RFly c X t t ∗ RFree c X (t + 1)) else iprop(RFree c X t ∗ RFree c X (t + 1)))
    ∗ Sum c (rsum X d t) ∗ Owe c)

theorem RI_open (t : ℕ) (h : t < 4) (d) : RI c X d t ⊢ iprop((RFly c X t t ∗ RFree c X (t + 1)) ∗ Sum c (rsum X d t) ∗ Owe c) := by
  unfold RI
  rw [if_pos h]

theorem RI_next (t : ℕ) (h : t < 4) (d v) : iprop(RNext c X t ∗ RHeld c X t v ∗ Sum c (rsum X d (t + 1)) ∗ Owe c) ⊢ RI c X d (t + 1) := by
  unfold RNext RI
  rw [← RFree_congr c X (show t % 2 = (t + 1 + 1) % 2 by omega)]
  by_cases h' : t < 3
  · rw [if_pos h', if_pos (show t + 1 < 4 by omega)]
    iintro ⟨H, Hh, Hs⟩
    ihave Hh := RHeld_free c X t v $$ Hh
    isplitl [H Hh]
    · isplitl [H] <;> iassumption
    · iexact Hs
  · rw [if_neg h', if_neg (show ¬ t + 1 < 4 by omega)]
    iintro ⟨H, Hh, Hs⟩
    ihave Hh := RHeld_free c X t v $$ Hh
    isplitl [H Hh]
    · isplitl [H] <;> iassumption
    · iexact Hs

variable (a0 : Memref sig .tc .vmem S768x8 .f32) (h0 : a0.IsWhole) (a5 : Memref sig .tc .vmem S2x8 .f32) (h5 : a5.IsWhole)
  (t : Fin k0_t1_loop.trips)

theorem part1_spec {Q : _ → sProp 𝕄} :
    iprop(RFree (F := F) c X (t + 1)
      ∗ (RNext c X t -∗ Q ⟨chk2_ok t, chk1_ok t, z0 t, z3 t, lw t, lw (t + 3), lw (t + 1), yw (t + 1), 1#1, 1#1⟩))
    ⊢ WP c (part1At (F := F) a0 h0 a5 h5 0#32 1#32 t (yw t) (BitVec.ofNat 32 t) (lw t)) Q := by
  unfold part1At
  rw [k0_part1_eq_skeleton]
  unfold k0_part1_skel
  iintro ⟨H, Hk⟩
  dsimp only [Prog.bind_lift, Prog.pure_eq_ret]
  iapply (WP_assume (F := F) c (chk2_ok t))
  iapply (WP_assume (F := F) c (chk1_ok t))
  by_cases h : (t : ℕ) < 3
  · iapply (WP_pos (F := F) c ((cond1_iff t).2 h))
    have e : yw t = BitVec.ofNat 32 (t + 1) := by unfold yw; rw [Nat.min_eq_left (by omega)]
    have e₁ : k0_off3 (yw t) = ![((t : ℕ) + 1) % 2] := by rw [e]; exact cell_eq _
    have e₄ : k0_off4 (yw t) = ![((t : ℕ) + 1) % 2, 0, 0, 0] := by rw [e]; exact slot_eq _
    iapply (rissue (F := F) c X (t + 1) (t + 1) e₄ e₁ (off5_eq t)) $$ H
    iintro H
    iapply (WP_ret (F := F) c ?_)
    pick_goal 2
    · iapply Hk
      unfold RNext
      rw [if_pos h]
      iexact H
    · repeat' apply mk_eq
      iterate 2 rfl
      all_goals (clear h e e₁ e₄ Q; revert t; decide +kernel)
  · iapply (WP_neg (F := F) c (fun hh => h ((cond1_iff t).1 hh)))
    iapply (WP_ret (F := F) c ?_)
    pick_goal 2
    · iapply Hk
      unfold RNext
      rw [if_neg h]
      iexact H
    · repeat' apply mk_eq
      iterate 2 rfl
      all_goals (clear h Q; revert t; decide +kernel)

/-- The words before trip `t`. -/
def rwords (t : ℕ) : BitVec 32 × BitVec 32 × BitVec 32 := (yw t, BitVec.ofNat 32 t, lw t)

theorem rtrip (d : S2x768.Idx → Elt F .f32) {Q : _ → sProp 𝕄} :
    iprop(RI c X d t ∗ (RI c X d (t + 1) -∗ Q (rwords (t + 1))))
    ⊢ WP c (k0_t1_body (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 t (rwords t)) Q := by
  have ht := lt4 t
  have e₁ : k0_off6 (BitVec.ofNat 32 t) = ![(t : ℕ) % 2] := cell_eq _
  have e₄ : k0_off9 (BitVec.ofNat 32 t) = ![(t : ℕ) % 2, 0, 0, 0] := slot_eq _
  have hn : Sum c (k0_pay68 (rld (rval X t))) = Sum c (rsum X d (t + 1)) ∨ ¬ (t : ℕ) = 0 := by
    by_cases h : (t : ℕ) = 0
    · left; show _ = Sum c (if (t : ℕ) = 0 then _ else _); rw [if_pos h]
    · exact Or.inr h
  have hm : Sum c (k0_pay69 (rld (rval X t)) (rsum X d t)) = Sum c (rsum X d (t + 1)) ∨ (t : ℕ) = 0 := by
    by_cases h : (t : ℕ) = 0
    · exact Or.inr h
    · left; show _ = Sum c (if (t : ℕ) = 0 then _ else _); rw [if_neg h]
  have fin : ∀ v, iprop(RNext c X t ∗ RHeld c X t v ∗ Sum c (rsum X d (t + 1)) ∗ Owe c) ⊢ RI c X d (t + 1) := RI_next c X t ht d
  unfold k0_t1_body rwords
  iintro ⟨H, Hk⟩
  icases RI_open c X t ht d $$ H with ⟨⟨Hx, Hx'⟩, Hs, Hb⟩
  dsimp only
  iapply (WP_bind (F := F) c)
  iapply (part1_spec (F := F) c X a0 h0 a5 h5 t)
  isplitl [Hx']; · iexact Hx'
  iintro Hx'
  dsimp only [Prog.bind_lift, Prog.pure_eq_ret]
  iapply (WP_pos (F := F) c ((cond2_iff t).2 trivial))
  iapply (rawait (F := F) c X t t e₁) $$ [Hx Hb]
  · isplitl [Hx] <;> iassumption
  iintro ⟨Hx, Hb⟩
  iapply (rget (F := F) c X t e₄) $$ Hx
  iintro Hx
  by_cases h : (t : ℕ) = 0
  · have hn' := hn.resolve_right (not_not.2 h)
    iapply (WP_pos (F := F) c ((first_iff t).2 h))
    iapply (get_full (F := F) c (o := ![0, 0]) (by funext a; fin_cases a <;> rfl)) $$ Hs
    iintro Hs
    iapply (put_full (F := F) c (o := ![0, 0]) (by funext a; fin_cases a <;> rfl)) $$ Hs
    iintro Hs
    iapply (WP_neg (F := F) c (fun hh => (later_iff t).1 hh h))
    iapply (WP_skip (F := F) c)
    iapply (WP_skip (F := F) c)
    iapply (WP_ret (F := F) c ?_)
    pick_goal 2
    · iapply Hk
      iapply (fin _)
      isplitl [Hx']; · iexact Hx'
      isplitl [Hx]; · iexact Hx
      isplitl [Hs]
      · iapply (show Sum c (k0_pay68 (rld (rval X t))) ⊢ _ by rw [hn']) $$ Hs
      · iexact Hb
    · clear hn' hn h hm fin e₁ e₄ ht Q
      refine pr_eq ?_ (pr_eq ?_ ?_)
      all_goals (revert t; decide +kernel)
  · have hm' := hm.resolve_right h
    iapply (WP_neg (F := F) c (fun hh => h ((first_iff t).1 hh)))
    iapply (WP_pos (F := F) c ((later_iff t).2 h))
    iapply (get_full (F := F) c (o := ![0, 0]) (by funext a; fin_cases a <;> rfl)) $$ Hs
    iintro Hs
    iapply (get_full (F := F) c (o := ![0, 0]) (by funext a; fin_cases a <;> rfl)) $$ Hs
    iintro Hs
    iapply (put_full (F := F) c (o := ![0, 0]) (by funext a; fin_cases a <;> rfl)) $$ Hs
    iintro Hs
    iapply (WP_skip (F := F) c)
    iapply (WP_skip (F := F) c)
    iapply (WP_ret (F := F) c ?_)
    pick_goal 2
    · iapply Hk
      iapply (fin _)
      isplitl [Hx']; · iexact Hx'
      isplitl [Hx]; · iexact Hx
      isplitl [Hs]
      · iapply (show Sum c (k0_pay69 (rld (rval X t)) (rsum X d t)) ⊢ _ by rw [hm']) $$ Hs
      · iexact Hb
    · clear hm' hn h hm fin e₁ e₄ ht Q
      refine pr_eq ?_ (pr_eq ?_ ?_)
      all_goals (revert t; decide +kernel)

end

end Cert.KernelIdeal.Hand
-- ==== Proof.Body.lean ====
/-
  The kernel's body as a whole: the two passes one after the other.
-/
module

public import proofs.«01_k».proof.Proof.Router
public import Idealize.ShloMosaic.Lib.SortNet.Extract

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-! ### The experts chosen are experts -/

theorem foldl_minsi {ι : Type} (g : ι → BitVec 32) (hg : ∀ i, 0 ≤ (g i).toInt ∧ (g i).toInt ≤ 7) (l : List ι) (z : BitVec 32) (hz : 0 ≤ z.toInt) :
    0 ≤ (l.foldl (fun r n => IntOp.minsi r (g n)) z).toInt
      ∧ ((z.toInt ≤ 7 ∨ l ≠ []) → (l.foldl (fun r n => IntOp.minsi r (g n)) z).toInt ≤ 7) := by
  induction l generalizing z with
  | nil => exact ⟨hz, fun h => h.resolve_right fun h => h rfl⟩
  | cons a l ih =>
    have e := SortNet.toInt_minsi z (g a)
    obtain ⟨h, h'⟩ := ih (IntOp.minsi z (g a)) (by rw [e]; exact le_min hz (hg a).1)
    exact ⟨h, fun _ => h' (Or.inl (by rw [e]; exact (min_le_right _ _).trans (hg a).2))⟩

theorem least_lt (f : IVec S2x8 32) (hf : ∀ i, (f i).toNat < 8) (j : S2.Idx) :
    (multiReductionI .minsi [1] S2 f 2147483647#32 reduces_S2x8_S2 rfl j).toNat < 8 := by
  have hne : ((List.finRange S2x8.numel).filter fun n => reduces_S2x8_S2.drop (S2x8.rowMajor.symm n) = j) ≠ [] := by
    revert j; decide +kernel
  obtain ⟨h, h'⟩ := foldl_minsi (fun n => f (S2x8.rowMajor.symm n)) (fun n => by
    have := hf (S2x8.rowMajor.symm n)
    have e := BitVec.toInt_eq_toNat_cond (f (S2x8.rowMajor.symm n))
    omega) ((List.finRange S2x8.numel).filter fun n => reduces_S2x8_S2.drop (S2x8.rowMajor.symm n) = j) 2147483647#32 (by decide)
  have h' := h' (Or.inr hne)
  have e := BitVec.toInt_eq_toNat_cond (multiReductionI .minsi [1] S2 f 2147483647#32 reduces_S2x8_S2 rfl j)
  have b := (multiReductionI .minsi [1] S2 f 2147483647#32 reduces_S2x8_S2 rfl j).isLt
  change 0 ≤ (multiReductionI .minsi [1] S2 f 2147483647#32 reduces_S2x8_S2 rfl j).toInt at h
  change (multiReductionI .minsi [1] S2 f 2147483647#32 reduces_S2x8_S2 rfl j).toInt ≤ 7 at h'
  omega

theorem pick_lt (m : IVec S2x8 1) (i : S2x8.Idx) :
    (select m (iota .tc S2x8 32 [1] iota_S2x8_d1_w32) (broadcast S2x8 7#32) i).toNat < 8 := by
  show (if m i = 1 then _ else _ : BitVec 32).toNat < 8
  split
  · clear * -; revert i; decide +kernel
  · show (7#32 : BitVec 32).toNat < 8; decide

theorem i₀_lt (v12 : FVec F S2x8 .f32) (j : S2.Idx) : (k0_pay74 v12 j).toNat < 8 := least_lt _ (fun i => pick_lt _ i) j
theorem i₁_lt (v12 : FVec F S2x8 .f32) (j : S2.Idx) : (k0_pay77 v12 j).toNat < 8 := least_lt _ (fun i => pick_lt _ i) j

theorem experts_lt (v12 : FVec F S2x8 .f32) : (x0 (k0_pay74 v12)).toNat < 8 ∧ (x1 (k0_pay74 v12)).toNat < 8
    ∧ (x0 (k0_pay77 v12)).toNat < 8 ∧ (x1 (k0_pay77 v12)).toNat < 8 :=
  ⟨i₀_lt v12 _, i₀_lt v12 _, i₁_lt v12 _, i₁_lt v12 _⟩

/-! ### The rings before and after a pass -/

theorem chk25_ok : k0_chk25 0#32 0#32 0#32 := by decide +kernel
theorem chk24_ok : k0_chk24 1#32 := by decide +kernel

theorem halves_split {ℓ : Loc nD τ sig} (X : Buf (Elt F) ℓ) :
    (ℓ ↦{fullShare} X : sProp 𝕄) ⊢ iprop((ℓ ↦{half 0} X) ∗ (ℓ ↦{half 1} X)) :=
  (pointsTo_share (PosShare.mem_left_op_right fullShare)).1

theorem halves_join {ℓ : Loc nD τ sig} {X : Buf (Elt F) ℓ} :
    iprop((ℓ ↦{half 0} X) ∗ (ℓ ↦{half 1} X)) ⊢ (ℓ ↦{fullShare} X : sProp 𝕄) :=
  (pointsTo_share (PosShare.mem_left_op_right fullShare)).2

section
variable (c : Dev nD)

/-- Slot `j` of the ring and its cell, without a share of the array. -/
def RBare (j : ℕ) : sProp 𝕄 :=
  iprop((∃ v, owns (c : Thread nD τ) (rslotAt j) fullShare v) ∗ semVal ((c : Thread nD τ), .dma (rcellAt j)) 0)

theorem RFree_of (X : (main_arg0 : Ref sig .tc).ty.Contents (Elt F)) (j : ℕ) :
    iprop(RBare (F := F) c j ∗ ((Memref.whole main_arg0).view.loc (c : Thread nD τ) ↦{half j} X)) ⊢ RFree c X j := by
  unfold RBare RFree RHeld Held
  iintro ⟨⟨⟨%v, H⟩, Hs⟩, Hx⟩
  iexists v
  isplitl [H]; · iexact H
  isplitl [Hs]; · iexact Hs
  iexact Hx

theorem RFree_to (X : (main_arg0 : Ref sig .tc).ty.Contents (Elt F)) (j : ℕ) :
    RFree (F := F) c X j ⊢ iprop(RBare c j ∗ ((Memref.whole main_arg0).view.loc (c : Thread nD τ) ↦{half j} X)) := by
  unfold RBare RFree RHeld Held
  iintro ⟨%v, H, Hs, Hx⟩
  isplitr [Hx]
  · isplitl [H]
    · iexists v; iexact H
    · iexact Hs
  · iexact Hx

/-- The two slots of the ring with the array, and the two slots free. -/
theorem RFree_both (X : (main_arg0 : Ref sig .tc).ty.Contents (Elt F)) (j j' : ℕ) (h : j % 2 ≠ j' % 2) :
    iprop(RFree (F := F) c X j ∗ RFree c X j')
      ⊢ iprop((RBare c 0 ∗ RBare c 1) ∗ ((Memref.whole main_arg0).view.loc (c : Thread nD τ) ↦{fullShare} X)) := by
  have key : iprop(RFree (F := F) c X 0 ∗ RFree c X 1)
      ⊢ iprop((RBare c 0 ∗ RBare c 1) ∗ ((Memref.whole main_arg0).view.loc (c : Thread nD τ) ↦{fullShare} X)) := by
    iintro ⟨H, H'⟩
    icases RFree_to (F := F) c X 0 $$ H with ⟨H, Hx⟩
    icases RFree_to (F := F) c X 1 $$ H' with ⟨H', Hx'⟩
    isplitl [H H']
    · isplitl [H] <;> iassumption
    · iapply halves_join
      isplitl [Hx] <;> iassumption
  rcases Nat.mod_two_eq_zero_or_one j with e | e
  · rw [RFree_congr c X (show j % 2 = 0 % 2 from e), RFree_congr c X (show j' % 2 = 1 % 2 by omega)]
    exact key
  · rw [RFree_congr c X (show j % 2 = 1 % 2 from e), RFree_congr c X (show j' % 2 = 0 % 2 by omega)]
    iintro ⟨H, H'⟩
    iapply key
    isplitl [H'] <;> iassumption

theorem RFree_make (X : (main_arg0 : Ref sig .tc).ty.Contents (Elt F)) :
    iprop((RBare c 0 ∗ RBare c 1) ∗ ((Memref.whole main_arg0).view.loc (c : Thread nD τ) ↦{fullShare} X))
      ⊢ iprop(RFree (F := F) c X 0 ∗ RFree c X 1) := by
  iintro ⟨⟨H, H'⟩, Hx⟩
  icases halves_split (F := F) (ℓ := (Memref.whole main_arg0).view.loc (c : Thread nD τ)) X $$ Hx with ⟨Hx, Hx'⟩
  isplitl [H Hx]
  · iapply (RFree_of (F := F) c X 0)
    isplitl [H] <;> iassumption
  · iapply (RFree_of (F := F) c X 1)
    isplitl [H'] <;> iassumption

/-- Slot `j` of the ring and its cell, without a share of the array. -/
def XBare (j : ℕ) : sProp 𝕄 :=
  iprop((∃ v, owns (c : Thread nD τ) (xslotAt j) fullShare v) ∗ semVal ((c : Thread nD τ), .dma (xcellAt j)) 0)

theorem XFree_of (X : (main_arg0 : Ref sig .tc).ty.Contents (Elt F)) (j : ℕ) :
    iprop(XBare (F := F) c j ∗ ((Memref.whole main_arg0).view.loc (c : Thread nD τ) ↦{half j} X)) ⊢ XFree c X j := by
  unfold XBare XFree XHeld Held
  iintro ⟨⟨⟨%v, H⟩, Hs⟩, Hx⟩
  iexists v
  isplitl [H]; · iexact H
  isplitl [Hs]; · iexact Hs
  iexact Hx

theorem XFree_to (X : (main_arg0 : Ref sig .tc).ty.Contents (Elt F)) (j : ℕ) :
    XFree (F := F) c X j ⊢ iprop(XBare c j ∗ ((Memref.whole main_arg0).view.loc (c : Thread nD τ) ↦{half j} X)) := by
  unfold XBare XFree XHeld Held
  iintro ⟨%v, H, Hs, Hx⟩
  isplitr [Hx]
  · isplitl [H]
    · iexists v; iexact H
    · iexact Hs
  · iexact Hx

/-- The two slots of the ring with the array, and the two slots free. -/
theorem XFree_both (X : (main_arg0 : Ref sig .tc).ty.Contents (Elt F)) (j j' : ℕ) (h : j % 2 ≠ j' % 2) :
    iprop(XFree (F := F) c X j ∗ XFree c X j')
      ⊢ iprop((XBare c 0 ∗ XBare c 1) ∗ ((Memref.whole main_arg0).view.loc (c : Thread nD τ) ↦{fullShare} X)) := by
  have key : iprop(XFree (F := F) c X 0 ∗ XFree c X 1)
      ⊢ iprop((XBare c 0 ∗ XBare c 1) ∗ ((Memref.whole main_arg0).view.loc (c : Thread nD τ) ↦{fullShare} X)) := by
    iintro ⟨H, H'⟩
    icases XFree_to (F := F) c X 0 $$ H with ⟨H, Hx⟩
    icases XFree_to (F := F) c X 1 $$ H' with ⟨H', Hx'⟩
    isplitl [H H']
    · isplitl [H] <;> iassumption
    · iapply halves_join
      isplitl [Hx] <;> iassumption
  rcases Nat.mod_two_eq_zero_or_one j with e | e
  · rw [XFree_congr c X (show j % 2 = 0 % 2 from e), XFree_congr c X (show j' % 2 = 1 % 2 by omega)]
    exact key
  · rw [XFree_congr c X (show j % 2 = 1 % 2 from e), XFree_congr c X (show j' % 2 = 0 % 2 by omega)]
    iintro ⟨H, H'⟩
    iapply key
    isplitl [H'] <;> iassumption

theorem XFree_make (X : (main_arg0 : Ref sig .tc).ty.Contents (Elt F)) :
    iprop((XBare c 0 ∗ XBare c 1) ∗ ((Memref.whole main_arg0).view.loc (c : Thread nD τ) ↦{fullShare} X))
      ⊢ iprop(XFree (F := F) c X 0 ∗ XFree c X 1) := by
  iintro ⟨⟨H, H'⟩, Hx⟩
  icases halves_split (F := F) (ℓ := (Memref.whole main_arg0).view.loc (c : Thread nD τ)) X $$ Hx with ⟨Hx, Hx'⟩
  isplitl [H Hx]
  · iapply (XFree_of (F := F) c X 0)
    isplitl [H] <;> iassumption
  · iapply (XFree_of (F := F) c X 1)
    isplitl [H'] <;> iassumption

/-- Slot `j` of the ring and its cell, without a share of the array. -/
def UBare (j : ℕ) : sProp 𝕄 :=
  iprop((∃ v, owns (c : Thread nD τ) (uslotAt j) fullShare v) ∗ semVal ((c : Thread nD τ), .dma (ucellAt j)) 0)

theorem UFree_of (X : (main_arg2 : Ref sig .tc).ty.Contents (Elt F)) (j : ℕ) :
    iprop(UBare (F := F) c j ∗ ((Memref.whole main_arg2).view.loc (c : Thread nD τ) ↦{half j} X)) ⊢ UFree c X j := by
  unfold UBare UFree UHeld Held
  iintro ⟨⟨⟨%v, H⟩, Hs⟩, Hx⟩
  iexists v
  isplitl [H]; · iexact H
  isplitl [Hs]; · iexact Hs
  iexact Hx

theorem UFree_to (X : (main_arg2 : Ref sig .tc).ty.Contents (Elt F)) (j : ℕ) :
    UFree (F := F) c X j ⊢ iprop(UBare c j ∗ ((Memref.whole main_arg2).view.loc (c : Thread nD τ) ↦{half j} X)) := by
  unfold UBare UFree UHeld Held
  iintro ⟨%v, H, Hs, Hx⟩
  isplitr [Hx]
  · isplitl [H]
    · iexists v; iexact H
    · iexact Hs
  · iexact Hx

/-- The two slots of the ring with the array, and the two slots free. -/
theorem UFree_both (X : (main_arg2 : Ref sig .tc).ty.Contents (Elt F)) (j j' : ℕ) (h : j % 2 ≠ j' % 2) :
    iprop(UFree (F := F) c X j ∗ UFree c X j')
      ⊢ iprop((UBare c 0 ∗ UBare c 1) ∗ ((Memref.whole main_arg2).view.loc (c : Thread nD τ) ↦{fullShare} X)) := by
  have key : iprop(UFree (F := F) c X 0 ∗ UFree c X 1)
      ⊢ iprop((UBare c 0 ∗ UBare c 1) ∗ ((Memref.whole main_arg2).view.loc (c : Thread nD τ) ↦{fullShare} X)) := by
    iintro ⟨H, H'⟩
    icases UFree_to (F := F) c X 0 $$ H with ⟨H, Hx⟩
    icases UFree_to (F := F) c X 1 $$ H' with ⟨H', Hx'⟩
    isplitl [H H']
    · isplitl [H] <;> iassumption
    · iapply halves_join
      isplitl [Hx] <;> iassumption
  rcases Nat.mod_two_eq_zero_or_one j with e | e
  · rw [UFree_congr c X (show j % 2 = 0 % 2 from e), UFree_congr c X (show j' % 2 = 1 % 2 by omega)]
    exact key
  · rw [UFree_congr c X (show j % 2 = 1 % 2 from e), UFree_congr c X (show j' % 2 = 0 % 2 by omega)]
    iintro ⟨H, H'⟩
    iapply key
    isplitl [H'] <;> iassumption

theorem UFree_make (X : (main_arg2 : Ref sig .tc).ty.Contents (Elt F)) :
    iprop((UBare c 0 ∗ UBare c 1) ∗ ((Memref.whole main_arg2).view.loc (c : Thread nD τ) ↦{fullShare} X))
      ⊢ iprop(UFree (F := F) c X 0 ∗ UFree c X 1) := by
  iintro ⟨⟨H, H'⟩, Hx⟩
  icases halves_split (F := F) (ℓ := (Memref.whole main_arg2).view.loc (c : Thread nD τ)) X $$ Hx with ⟨Hx, Hx'⟩
  isplitl [H Hx]
  · iapply (UFree_of (F := F) c X 0)
    isplitl [H] <;> iassumption
  · iapply (UFree_of (F := F) c X 1)
    isplitl [H'] <;> iassumption

/-- Slot `j` of the ring and its cell, without a share of the array. -/
def VBare (j : ℕ) : sProp 𝕄 :=
  iprop((∃ v, owns (c : Thread nD τ) (vslotAt j) fullShare v) ∗ semVal ((c : Thread nD τ), .dma (vcellAt j)) 0)

theorem VFree_of (X : (main_arg4 : Ref sig .tc).ty.Contents (Elt F)) (j : ℕ) :
    iprop(VBare (F := F) c j ∗ ((Memref.whole main_arg4).view.loc (c : Thread nD τ) ↦{half j} X)) ⊢ VFree c X j := by
  unfold VBare VFree VHeld Held
  iintro ⟨⟨⟨%v, H⟩, Hs⟩, Hx⟩
  iexists v
  isplitl [H]; · iexact H
  isplitl [Hs]; · iexact Hs
  iexact Hx

theorem VFree_to (X : (main_arg4 : Ref sig .tc).ty.Contents (Elt F)) (j : ℕ) :
    VFree (F := F) c X j ⊢ iprop(VBare c j ∗ ((Memref.whole main_arg4).view.loc (c : Thread nD τ) ↦{half j} X)) := by
  unfold VBare VFree VHeld Held
  iintro ⟨%v, H, Hs, Hx⟩
  isplitr [Hx]
  · isplitl [H]
    · iexists v; iexact H
    · iexact Hs
  · iexact Hx

/-- The two slots of the ring with the array, and the two slots free. -/
theorem VFree_both (X : (main_arg4 : Ref sig .tc).ty.Contents (Elt F)) (j j' : ℕ) (h : j % 2 ≠ j' % 2) :
    iprop(VFree (F := F) c X j ∗ VFree c X j')
      ⊢ iprop((VBare c 0 ∗ VBare c 1) ∗ ((Memref.whole main_arg4).view.loc (c : Thread nD τ) ↦{fullShare} X)) := by
  have key : iprop(VFree (F := F) c X 0 ∗ VFree c X 1)
      ⊢ iprop((VBare c 0 ∗ VBare c 1) ∗ ((Memref.whole main_arg4).view.loc (c : Thread nD τ) ↦{fullShare} X)) := by
    iintro ⟨H, H'⟩
    icases VFree_to (F := F) c X 0 $$ H with ⟨H, Hx⟩
    icases VFree_to (F := F) c X 1 $$ H' with ⟨H', Hx'⟩
    isplitl [H H']
    · isplitl [H] <;> iassumption
    · iapply halves_join
      isplitl [Hx] <;> iassumption
  rcases Nat.mod_two_eq_zero_or_one j with e | e
  · rw [VFree_congr c X (show j % 2 = 0 % 2 from e), VFree_congr c X (show j' % 2 = 1 % 2 by omega)]
    exact key
  · rw [VFree_congr c X (show j % 2 = 1 % 2 from e), VFree_congr c X (show j' % 2 = 0 % 2 by omega)]
    iintro ⟨H, H'⟩
    iapply key
    isplitl [H'] <;> iassumption

theorem VFree_make (X : (main_arg4 : Ref sig .tc).ty.Contents (Elt F)) :
    iprop((VBare c 0 ∗ VBare c 1) ∗ ((Memref.whole main_arg4).view.loc (c : Thread nD τ) ↦{fullShare} X))
      ⊢ iprop(VFree (F := F) c X 0 ∗ VFree c X 1) := by
  iintro ⟨⟨H, H'⟩, Hx⟩
  icases halves_split (F := F) (ℓ := (Memref.whole main_arg4).view.loc (c : Thread nD τ)) X $$ Hx with ⟨Hx, Hx'⟩
  isplitl [H Hx]
  · iapply (VFree_of (F := F) c X 0)
    isplitl [H] <;> iassumption
  · iapply (VFree_of (F := F) c X 1)
    isplitl [H'] <;> iassumption

/-- Slot `j` of the ring and its cell, without a share of the array. -/
def WBare (j : ℕ) : sProp 𝕄 :=
  iprop((∃ v, owns (c : Thread nD τ) (wslotAt j) fullShare v) ∗ semVal ((c : Thread nD τ), .dma (wcellAt j)) 0)

theorem WFree_of (X : (main_arg3 : Ref sig .tc).ty.Contents (Elt F)) (j : ℕ) :
    iprop(WBare (F := F) c j ∗ ((Memref.whole main_arg3).view.loc (c : Thread nD τ) ↦{half j} X)) ⊢ WFree c X j := by
  unfold WBare WFree WHeld Held
  iintro ⟨⟨⟨%v, H⟩, Hs⟩, Hx⟩
  iexists v
  isplitl [H]; · iexact H
  isplitl [Hs]; · iexact Hs
  iexact Hx

theorem WFree_to (X : (main_arg3 : Ref sig .tc).ty.Contents (Elt F)) (j : ℕ) :
    WFree (F := F) c X j ⊢ iprop(WBare c j ∗ ((Memref.whole main_arg3).view.loc (c : Thread nD τ) ↦{half j} X)) := by
  unfold WBare WFree WHeld Held
  iintro ⟨%v, H, Hs, Hx⟩
  isplitr [Hx]
  · isplitl [H]
    · iexists v; iexact H
    · iexact Hs
  · iexact Hx

/-- The two slots of the ring with the array, and the two slots free. -/
theorem WFree_both (X : (main_arg3 : Ref sig .tc).ty.Contents (Elt F)) (j j' : ℕ) (h : j % 2 ≠ j' % 2) :
    iprop(WFree (F := F) c X j ∗ WFree c X j')
      ⊢ iprop((WBare c 0 ∗ WBare c 1) ∗ ((Memref.whole main_arg3).view.loc (c : Thread nD τ) ↦{fullShare} X)) := by
  have key : iprop(WFree (F := F) c X 0 ∗ WFree c X 1)
      ⊢ iprop((WBare c 0 ∗ WBare c 1) ∗ ((Memref.whole main_arg3).view.loc (c : Thread nD τ) ↦{fullShare} X)) := by
    iintro ⟨H, H'⟩
    icases WFree_to (F := F) c X 0 $$ H with ⟨H, Hx⟩
    icases WFree_to (F := F) c X 1 $$ H' with ⟨H', Hx'⟩
    isplitl [H H']
    · isplitl [H] <;> iassumption
    · iapply halves_join
      isplitl [Hx] <;> iassumption
  rcases Nat.mod_two_eq_zero_or_one j with e | e
  · rw [WFree_congr c X (show j % 2 = 0 % 2 from e), WFree_congr c X (show j' % 2 = 1 % 2 by omega)]
    exact key
  · rw [WFree_congr c X (show j % 2 = 1 % 2 from e), WFree_congr c X (show j' % 2 = 0 % 2 by omega)]
    iintro ⟨H, H'⟩
    iapply key
    isplitl [H'] <;> iassumption

theorem WFree_make (X : (main_arg3 : Ref sig .tc).ty.Contents (Elt F)) :
    iprop((WBare c 0 ∗ WBare c 1) ∗ ((Memref.whole main_arg3).view.loc (c : Thread nD τ) ↦{fullShare} X))
      ⊢ iprop(WFree (F := F) c X 0 ∗ WFree c X 1) := by
  iintro ⟨⟨H, H'⟩, Hx⟩
  icases halves_split (F := F) (ℓ := (Memref.whole main_arg3).view.loc (c : Thread nD τ)) X $$ Hx with ⟨Hx, Hx'⟩
  isplitl [H Hx]
  · iapply (WFree_of (F := F) c X 0)
    isplitl [H] <;> iassumption
  · iapply (WFree_of (F := F) c X 1)
    isplitl [H'] <;> iassumption

/-- A loop at the head of a program. -/
theorem WP_loop {σ β : Type} {Q : β → sProp 𝕄} {L : Scf.Loop 32} {hok : L.OK} {init : σ}
    {body : Fin L.trips → σ → Prog (TpuEff nD τ sig (Elt F) Λ₀ .tc) σ} {kk : σ → Prog (TpuEff nD τ sig (Elt F) Λ₀ .tc) β}
    (I : ℕ → σ → sProp 𝕄) (hbody : ∀ (k : Fin L.trips) acc, I (k : ℕ) acc ⊢ WP (F := F) c (body k acc) (I (k + 1))) :
    iprop(I 0 init ∗ (∀ acc, I L.trips acc -∗ WP (F := F) c (kk acc) Q)) ⊢ WP c (Scf.Loop.for L hok init body >>= kk) Q := by
  iintro ⟨HI, HK⟩
  iapply (Scf.wp_for_bind frame (wpE (defs₀ (F := F)) Variants.none (c : Thread nD τ) none) Set.univ L.lb L.ub L.st hok init body I hbody) $$ HI
  iexact HK

end

section
variable (a0 : Memref sig .tc .vmem S768x8 .f32) (h0 : a0.IsWhole) (a5 : Memref sig .tc .vmem S2x8 .f32) (h5 : a5.IsWhole)
  (c : Dev nD)

/-- The router pass. -/
theorem part12_spec (X : (main_arg0 : Ref sig .tc).ty.Contents (Elt F)) (d : S2x768.Idx → Elt F .f32) {Q : _ → sProp 𝕄} :
    iprop((RFree (F := F) c X 0 ∗ RFree c X 1) ∗ (Sum c d ∗ Owe c) ∗ (RI c X d 4 -∗ Q 4294967295#32))
    ⊢ WP c (part12At (F := F) a0 h0 a5 h5) Q := by
  unfold part12At
  rw [k0_part12_eq_skeleton]
  unfold k0_part12_skel
  have start : iprop((RFly (F := F) c X 0 0 ∗ RFree c X 1) ∗ Sum c d ∗ Owe c) ⊢ RI c X d 0 := by
    unfold RI
    rw [if_pos (by omega)]
    exact .rfl
  iintro ⟨⟨H, H'⟩, Hs, Hk⟩
  dsimp only [Prog.bind_lift, Prog.pure_eq_ret]
  iapply (rissue (F := F) c X 0 0 (o₄ := k0_off2) (o₁ := k0_off1) (o₃ := ![0, 0, 0]) (by decide) (by decide) (by decide)) $$ H
  iintro H
  iapply (WP_loop (F := F) c (fun k acc => iprop(⌜acc = rwords k⌝ ∗ RI c X d k)) ?hbody)
  case hbody =>
    intro k acc
    iintro ⟨%e, H⟩
    subst e
    iapply (rtrip (F := F) c X a0 h0 a5 h5 k d)
    isplitl [H]; · iexact H
    iintro H
    isplitr
    · ipureintro; rfl
    · iexact H
  isplitl [H H' Hs]
  · isplitr
    · ipureintro; decide
    · iapply start
      isplitl [H H']
      · isplitl [H] <;> iassumption
      · iexact Hs
  iintro %acc ⟨%e, H⟩
  subst e
  iapply (WP_ret (F := F) c (b := 4294967295#32) ?_)
  pick_goal 2
  · iapply Hk
    iexact H
  · decide

/-- The logits. -/
theorem part13_spec (v61 : BitVec 32) (v : S2x768.Idx → Elt F .f32) (r : S768x8.Idx → Elt F .f32) (g : S2x8.Idx → Elt F .f32)
    {q : PosShare TreeShare} {Q : _ → sProp 𝕄} :
    iprop(Sum (F := F) c v ∗ owns (c : Thread nD τ) a0 q r ∗ owns (c : Thread nD τ) a5 fullShare g
      ∗ ((Sum c v ∗ owns (c : Thread nD τ) a0 q r ∗ owns (c : Thread nD τ) a5 fullShare (k0_pay70 v r)) -∗ Q (k0_pay71 v r)))
    ⊢ WP c (part13At (F := F) a0 h0 a5 h5 v61) Q := by
  unfold part13At
  rw [k0_part13_eq_skeleton]
  unfold k0_part13_skel
  iintro ⟨Hs, Hr, Hg, Hk⟩
  dsimp only [Prog.bind_lift, Prog.pure_eq_ret]
  iapply (get_full (F := F) c (o := ![0, 0]) (by funext a; fin_cases a <;> rfl)) $$ Hs
  iintro Hs
  iapply (get_full (F := F) c (o := ![0, 0]) (by funext a; fin_cases a <;> rfl)) $$ Hr
  iintro Hr
  iapply (get_full (F := F) c (o := ![0, 0]) (by funext a; fin_cases a <;> rfl)) $$ Hg
  iintro Hg
  iapply (put_full (F := F) c (o := ![0, 0]) (by funext a; fin_cases a <;> rfl)) $$ Hg
  iintro Hg
  iapply (WP_ret (F := F) c rfl)
  iapply Hk
  isplitl [Hs]; · iexact Hs
  isplitl [Hr]; · iexact Hr
  iexact Hg

variable (s : Src F)

theorem off12_eq (a₀ a₁ b₀ b₁ : BitVec 32) : k0_off12 a₀ a₁ b₀ b₁ = ![(ew a₀ a₁ b₀ b₁ 0).toNat, 0, 0] :=
  blk_eq (P := 1#1) (Q := 1#1) (p := pk 0) (q := pb 0) a₀ a₁ b₀ b₁ (by decide) (by decide)
theorem off15_eq (a₀ a₁ b₀ b₁ : BitVec 32) : k0_off15 a₀ a₁ b₀ b₁ = ![(ew a₀ a₁ b₀ b₁ 0).toNat, 0, 0] :=
  blk_eq (P := 1#1) (Q := 1#1) (p := pk 0) (q := pb 0) a₀ a₁ b₀ b₁ (by decide) (by decide)
theorem off18_eq (a₀ a₁ b₀ b₁ : BitVec 32) : k0_off18 a₀ a₁ b₀ b₁ = ![(ew a₀ a₁ b₀ b₁ 0).toNat, 0, 0] :=
  blk_eq (P := 1#1) (Q := 1#1) (p := pk 0) (q := pb 0) a₀ a₁ b₀ b₁ (by decide) (by decide)

variable (hv : (x0 s.i₀).toNat < 8 ∧ (x1 s.i₀).toNat < 8 ∧ (x0 s.i₁).toNat < 8 ∧ (x1 s.i₁).toNat < 8)
include hv

theorem part16_spec {Q : _ → sProp 𝕄} :
    iprop(XFree (F := F) c s.X 0 ∗ UFree c s.U 0
      ∗ (XFly c s.X 0 0 0 ∗ UFly c s.U 0 (s.e 0).toNat -∗ Q ⟨1#32, 1#32, x0 s.i₀, x1 s.i₀, x0 s.i₀, x0 s.i₁, k0_pay85 s.i₁⟩))
    ⊢ WP c (part16At (F := F) a0 h0 a5 h5 s.i₀ s.i₁) Q := by
  unfold part16At
  rw [k0_part16_eq_skeleton]
  unfold k0_part16_skel
  iintro ⟨Hx, Hu, Hk⟩
  dsimp only [Prog.bind_lift, Prog.pure_eq_ret]
  iapply (xissue (F := F) c s.X 0 0 0 (o₄ := k0_off10) (o₁ := k0_off1) (o₃ := ![0, 0, 0]) (by decide) (by decide) (by decide)) $$ Hx
  iintro Hx
  iapply (WP_assume (F := F) c (inb_of ((off12_eq (x0 s.i₀) (x1 s.i₀) (x0 s.i₁) (x1 s.i₁)).trans (ew_mod _ _ _ _ hv 0)) (inb_ublk _)))
  iapply (uissue (F := F) c s.U 0 (s.e 0).toNat (o₄ := k0_off11) (o₁ := k0_off1) (by decide) (by decide)
    ((off12_eq (x0 s.i₀) (x1 s.i₀) (x0 s.i₁) (x1 s.i₁)).trans (ew_mod _ _ _ _ hv 0))) $$ Hu
  iintro Hu
  iapply (WP_ret (F := F) c (b := (⟨1#32, 1#32, x0 s.i₀, x1 s.i₀, x0 s.i₀, x0 s.i₁, k0_pay85 s.i₁⟩ : (_ : BitVec 32) ×' (_ : BitVec 32) ×' (_ : BitVec 32) ×' (_ : BitVec 32) ×' (_ : BitVec 32) ×' (_ : BitVec 32) ×' IVec S1 32)) ?_)
  pick_goal 2
  · iapply Hk
    isplitl [Hx] <;> iassumption
  · rfl

theorem part17_spec {Q : _ → sProp 𝕄} :
    iprop(VFree (F := F) c s.V 0 ∗ WFree c s.W 0
      ∗ (VFly c s.V 0 (s.e 0).toNat ∗ WFly c s.W 0 (s.e 0).toNat -∗ Q ⟨1#32, 1#32, 0#32, 0#32, 0#32, 0#32⟩))
    ⊢ WP c (part17At (F := F) a0 h0 a5 h5 s.i₀ s.i₁ (x0 s.i₀) (x1 s.i₀) (x0 s.i₀) (x0 s.i₁) (k0_pay85 s.i₁)) Q := by
  unfold part17At
  rw [k0_part17_eq_skeleton]
  unfold k0_part17_skel
  iintro ⟨Hv, Hw, Hk⟩
  dsimp only [Prog.bind_lift, Prog.pure_eq_ret]
  iapply (WP_assume (F := F) c (inb_of ((off15_eq (x0 s.i₀) (x1 s.i₀) (x0 s.i₁) (x1 s.i₁)).trans (ew_mod _ _ _ _ hv 0)) (inb_vblk _)))
  iapply (vissue (F := F) c s.V 0 (s.e 0).toNat (o₄ := k0_off14) (o₁ := k0_off13) (by decide) (by decide)
    ((off15_eq (x0 s.i₀) (x1 s.i₀) (x0 s.i₁) (x1 s.i₁)).trans (ew_mod _ _ _ _ hv 0))) $$ Hv
  iintro Hv
  iapply (WP_assume (F := F) c (inb_of ((off18_eq (x0 s.i₀) (x1 s.i₀) (x0 s.i₁) (x1 s.i₁)).trans (ew_mod _ _ _ _ hv 0)) (inb_wblk _)))
  iapply (wissue (F := F) c s.W 0 (s.e 0).toNat (o₄ := k0_off17) (o₁ := k0_off16) (by decide) (by decide)
    ((off18_eq (x0 s.i₀) (x1 s.i₀) (x0 s.i₁) (x1 s.i₁)).trans (ew_mod _ _ _ _ hv 0))) $$ Hw
  iintro Hw
  iapply (WP_ret (F := F) c (b := (⟨1#32, 1#32, 0#32, 0#32, 0#32, 0#32⟩ : (_ : BitVec 32) ×' (_ : BitVec 32) ×' (_ : BitVec 32) ×' (_ : BitVec 32) ×' (_ : BitVec 32) ×' BitVec 32)) ?_)
  pick_goal 2
  · iapply Hk
    isplitl [Hv] <;> iassumption
  · rfl

/-- The expert pass. -/
theorem part18_spec {Q : _ → sProp 𝕄} :
    iprop(TI c s 0 ∗ (TI c s 16 -∗ Q ⟨1#32, 0#32, 0#32, 0#32, chk25_ok, chk24_ok, 3#32, 1#32, 1#32, 1#32, 2#32, 1#32, 1#32, 4294967295#32⟩))
    ⊢ WP c (part18At (F := F) a0 h0 a5 h5 s.s₀ s.i₀ s.s₁ s.i₁ 1#32 1#32 1#32 1#32 0#32 0#32 0#32 0#32) Q := by
  unfold part18At
  rw [k0_part18_eq_skeleton]
  unfold k0_part18_skel
  iintro ⟨H, Hk⟩
  iapply (WP_loop (F := F) c (fun k acc => iprop(⌜acc = s.words k⌝ ∗ TI c s k)) ?hbody)
  case hbody =>
    intro k acc
    iintro ⟨%e, H⟩
    subst e
    iapply (trip (F := F) a0 h0 a5 h5 c s k _ _ _ _ _ _ _ _ hv)
    isplitl [H]; · iexact H
    iintro H
    isplitr
    · ipureintro; rfl
    · iexact H
  isplitl [H]
  · isplitr
    · ipureintro; rfl
    · iexact H
  iintro %acc ⟨%e, H⟩
  subst e
  rw [trips2]
  unfold Src.words
  dsimp only [Prog.bind_lift, Prog.pure_eq_ret]
  iapply (WP_assume (F := F) c chk25_ok)
  iapply (WP_assume (F := F) c chk24_ok)
  iapply (WP_ret (F := F) c ?_)
  pick_goal 2
  · iapply Hk
    iexact H
  · rfl

end

end Cert.KernelIdeal.Hand
-- ==== Proof.Whole.lean ====
/-
  The kernel's body from its first statement to its last: what it is given, what it leaves.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

section
variable (c : Dev nD) (s : Src F)

/-- What the second pass starts from. -/
theorem TI_zero : iprop((XFly (F := F) c s.X 0 0 0 ∗ XFree c s.X 1) ∗ (UFly c s.U 0 (s.e 0).toNat ∗ UFree c s.U 1)
      ∗ (VFly c s.V 0 (s.e 0).toNat ∗ VFree c s.V 1) ∗ (WFly c s.W 0 (s.e 0).toNat ∗ WFree c s.W 1)
      ∗ ((∃ d, OSlot c 0 d) ∗ OCell c 0 ∗ (∃ e, OSlot c 1 e) ∗ OCell c 1 ∗ OArr c s.G) ∗ Owe c) ⊢ TI c s 0 := by
  unfold TI XI UI VI WI OI UThis VThis WThis
  rw [if_pos (by omega), if_pos (by omega), if_pos (Or.inr rfl), if_pos (by omega), if_pos (Or.inr rfl), if_pos (by omega), if_pos (Or.inr rfl), if_pos (by omega)]
  iintro ⟨Hx, Hu, Hv, Hw, ⟨⟨%d, Ho⟩, Ho'⟩, Hb⟩
  isplitl [Hx]; · iexact Hx
  isplitl [Hu]; · iexact Hu
  isplitl [Hv]; · iexact Hv
  isplitl [Hw]; · iexact Hw
  isplitr [Hb]
  · iexists d
    isplitl [Ho]; · iexact Ho
    iexact Ho'
  · iexact Hb

/-- What it ends with. -/
theorem TI_last : TI (F := F) c s 16 ⊢ iprop((XFree c s.X 16 ∗ XFree c s.X 17) ∗ (UFree c s.U (s.n 16) ∗ UFree c s.U (s.n 16 + 1))
      ∗ (VFree c s.V (s.n 16) ∗ VFree c s.V (s.n 16 + 1)) ∗ (WFree c s.W (s.n 16) ∗ WFree c s.W (s.n 16 + 1))
      ∗ (∃ d e, (∃ f, OSlot c 0 f) ∗ OCell c 0 ∗ OFly c 1 1 (G₀ s d) (s.acc 1 8 e)) ∗ Owe c) := by
  unfold TI XI UI VI WI OI
  rw [if_neg (by omega), if_neg (by omega), if_neg (by omega), if_neg (by omega), if_neg (by omega), if_neg (by omega), if_neg (by omega)]

/-- What the first pass ends with. -/
theorem RI_last (X : (main_arg0 : Ref sig .tc).ty.Contents (Elt F)) (d : S2x768.Idx → Elt F .f32) :
    RI (F := F) c X d 4 ⊢ iprop((RFree c X 4 ∗ RFree c X 5) ∗ Sum c (rsum X d 4) ∗ Owe c) := by
  unfold RI
  rw [if_neg (by omega)]

/-- The slots and cells of the rings. -/
def Rings : sProp 𝕄 := iprop((RBare c 0 ∗ RBare c 1) ∗ (XBare c 0 ∗ XBare c 1) ∗ (UBare c 0 ∗ UBare c 1)
  ∗ (VBare c 0 ∗ VBare c 1) ∗ (WBare c 0 ∗ WBare c 1) ∗ (∃ e, OSlot c 0 e) ∗ OCell c 0 ∗ (∃ e, OSlot c 1 e) ∗ OCell c 1)

/-- The arrays the kernel reads from the large memory. -/
def Arrs : sProp 𝕄 := iprop(((Memref.whole main_arg0).view.loc (c : Thread nD τ) ↦{fullShare} s.X)
  ∗ ((Memref.whole main_arg2).view.loc (c : Thread nD τ) ↦{fullShare} s.U)
  ∗ ((Memref.whole main_arg4).view.loc (c : Thread nD τ) ↦{fullShare} s.V)
  ∗ ((Memref.whole main_arg3).view.loc (c : Thread nD τ) ↦{fullShare} s.W))

end

/-- The arrays, and the scales and experts that the weights `v12` choose. -/
def src (X : (main_arg0 : Ref sig .tc).ty.Contents (Elt F)) (U : (main_arg2 : Ref sig .tc).ty.Contents (Elt F))
    (W : (main_arg3 : Ref sig .tc).ty.Contents (Elt F)) (V : (main_arg4 : Ref sig .tc).ty.Contents (Elt F))
    (G : (main_v0_1 : Ref sig .tc).ty.Contents (Elt F)) (v12 : FVec F S2x8 .f32) : Src F :=
  ⟨X, U, W, V, G, k0_pay73 v12, k0_pay74 v12, k0_pay76 v12, k0_pay77 v12⟩

section
variable (a0 : Memref sig .tc .vmem S768x8 .f32) (h0 : a0.IsWhole) (a5 : Memref sig .tc .vmem S2x8 .f32) (h5 : a5.IsWhole)
  (c : Dev nD)

theorem part14_spec (v12 : FVec F S2x8 .f32) {Q : _ → sProp 𝕄} :
    Q ⟨k0_pay73 v12, k0_pay74 v12, k0_pay76 v12, k0_pay77 v12⟩ ⊢ WP (F := F) c (part14At (F := F) a0 h0 a5 h5 v12) Q := by
  unfold part14At
  rw [k0_part14_eq_skeleton]
  unfold k0_part14_skel
  exact WP_ret (F := F) c rfl

theorem part15_spec {Q : _ → sProp 𝕄} : Q ⟨⟩ ⊢ WP (F := F) c (part15At (F := F) a0 h0 a5 h5) Q := by
  unfold part15At
  rw [k0_part15_eq_skeleton]
  unfold k0_part15_skel
  exact WP_ret (F := F) c rfl

theorem part19_spec (a b d e f g h : BitVec 32) {Q : _ → sProp 𝕄} :
    iprop(∀ w, Q w) ⊢ WP (F := F) c (part19At (F := F) a0 h0 a5 h5 a b d e f g h) Q := by
  unfold part19At
  rw [k0_part19_eq_skeleton]
  unfold k0_part19_skel
  dsimp only [Prog.pure_eq_ret]
  iintro H
  iapply (WP_ret (F := F) c rfl)
  iapply H

variable (X : (main_arg0 : Ref sig .tc).ty.Contents (Elt F)) (U : (main_arg2 : Ref sig .tc).ty.Contents (Elt F))
    (W : (main_arg3 : Ref sig .tc).ty.Contents (Elt F)) (V : (main_arg4 : Ref sig .tc).ty.Contents (Elt F))
    (G : (main_v0_1 : Ref sig .tc).ty.Contents (Elt F))

/-- The whole body. -/
theorem whole (d : S2x768.Idx → Elt F .f32) (r : S768x8.Idx → Elt F .f32) (g : S2x8.Idx → Elt F .f32)
    {q : PosShare TreeShare} {Q : _ → sProp 𝕄} (s : Src F) (hs : s = src X U W V G (k0_pay71 (rsum X d 4) r)) :
    iprop(Rings c ∗ Arrs c s ∗ Sum c d ∗ owns (c : Thread nD τ) a0 q r ∗ owns (c : Thread nD τ) a5 fullShare g ∗ OArr c G ∗ Owe c
      ∗ ((Rings c ∗ Arrs c s ∗ Sum c (rsum X d 4) ∗ owns (c : Thread nD τ) a0 q r
          ∗ owns (c : Thread nD τ) a5 fullShare (k0_pay70 (rsum X d 4) r)
          ∗ (∃ d₀ d₁, OArr c (owrite 1 (G₀ s d₀) (s.acc 1 8 d₁))) ∗ Owe c) -∗ Q ⟨⟩))
    ⊢ WP (F := F) c (cc0__fused_body (F := F) a0 h0 (Memref.whole main_arg0) (Memref.isWhole_whole _) (Memref.whole main_arg2) (Memref.isWhole_whole _) (Memref.whole main_arg4) (Memref.isWhole_whole _) (Memref.whole main_arg3) (Memref.isWhole_whole _) a5 h5 (Memref.whole main_v0_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11) Q := by
  have eX : s.X = X := by rw [hs]; rfl
  have eG : s.G = G := by rw [hs]; rfl
  have hv : (x0 s.i₀).toNat < 8 ∧ (x1 s.i₀).toNat < 8 ∧ (x0 s.i₁).toNat < 8 ∧ (x1 s.i₁).toNat < 8 := by
    rw [hs]; exact experts_lt _
  have e14 : (⟨k0_pay73 (k0_pay71 (rsum X d 4) r), k0_pay74 (k0_pay71 (rsum X d 4) r), k0_pay76 (k0_pay71 (rsum X d 4) r), k0_pay77 (k0_pay71 (rsum X d 4) r)⟩ :
      (_ : FVec F S2 .f32) ×' (_ : IVec S2 32) ×' (_ : FVec F S2 .f32) ×' IVec S2 32) = ⟨s.s₀, s.i₀, s.s₁, s.i₁⟩ := by
    rw [hs]; rfl
  rw [← eG]
  rw [cc0__fused_body_eq_skeleton]
  unfold cc0__fused_body_skel Rings Arrs
  rw [eX]
  iintro ⟨⟨Br, Bx, Bu, Bv, Bw, Bo⟩, ⟨Hx, Hu, Hv, Hw⟩, Hs, Hr, Hg, Ho, Hb, Hk⟩
  iapply (WP_bind (F := F) c)
  iapply (part12_spec (F := F) a0 h0 a5 h5 c X d)
  isplitl [Br Hx]
  · iapply (RFree_make (F := F) c X)
    isplitl [Br] <;> iassumption
  isplitl [Hs Hb]
  · isplitl [Hs] <;> iassumption
  iintro HR
  icases RI_last (F := F) c X d $$ HR with ⟨HR, Hs, Hb⟩
  icases RFree_both (F := F) c X 4 5 (by decide) $$ HR with ⟨Br, Hx⟩
  try dsimp only
  iapply (WP_bind (F := F) c)
  iapply (part13_spec (F := F) a0 h0 a5 h5 c _ (rsum X d 4) r g (q := q))
  isplitl [Hs]; · iexact Hs
  isplitl [Hr]; · iexact Hr
  isplitl [Hg]; · iexact Hg
  iintro ⟨Hs, Hr, Hg⟩
  try dsimp only
  iapply (WP_bind (F := F) c)
  iapply (part14_spec (F := F) a0 h0 a5 h5 c _)
  rw [e14]
  try dsimp only
  iapply (WP_bind (F := F) c)
  iapply (part15_spec (F := F) a0 h0 a5 h5 c)
  icases XFree_make (F := F) c X $$ [Bx Hx] with ⟨Hx, Hx'⟩
  · isplitl [Bx] <;> iassumption
  icases UFree_make (F := F) c s.U $$ [Bu Hu] with ⟨Hu, Hu'⟩
  · isplitl [Bu] <;> iassumption
  icases VFree_make (F := F) c s.V $$ [Bv Hv] with ⟨Hv, Hv'⟩
  · isplitl [Bv] <;> iassumption
  icases WFree_make (F := F) c s.W $$ [Bw Hw] with ⟨Hw, Hw'⟩
  · isplitl [Bw] <;> iassumption
  rw [← eX]
  iapply (WP_bind (F := F) c)
  iapply (part16_spec (F := F) a0 h0 a5 h5 c s hv)
  isplitl [Hx]; · iexact Hx
  isplitl [Hu]; · iexact Hu
  iintro ⟨Hx, Hu⟩
  try dsimp only
  iapply (WP_bind (F := F) c)
  iapply (part17_spec (F := F) a0 h0 a5 h5 c s hv)
  isplitl [Hv]; · iexact Hv
  isplitl [Hw]; · iexact Hw
  iintro ⟨Hv, Hw⟩
  try dsimp only
  iapply (WP_bind (F := F) c)
  iapply (part18_spec (F := F) a0 h0 a5 h5 c s hv)
  isplitl [Hx Hx' Hu Hu' Hv Hv' Hw Hw' Bo Ho Hb]
  · iapply (TI_zero (F := F) c s)
    isplitl [Hx Hx']
    · isplitl [Hx] <;> iassumption
    isplitl [Hu Hu']
    · isplitl [Hu] <;> iassumption
    isplitl [Hv Hv']
    · isplitl [Hv] <;> iassumption
    isplitl [Hw Hw']
    · isplitl [Hw] <;> iassumption
    isplitr [Hb]
    · icases Bo with ⟨B₀, C₀, B₁, C₁⟩
      isplitl [B₀]; · iexact B₀
      isplitl [C₀]; · iexact C₀
      isplitl [B₁]; · iexact B₁
      isplitl [C₁]; · iexact C₁
      iexact Ho
    · iexact Hb
  iintro HT
  icases TI_last (F := F) c s $$ HT with ⟨Hx, Hu, Hv, Hw, ⟨%d₀, %d₁, B₀, C₀, Ho⟩, Hb⟩
  try dsimp only
  iapply (WP_bind (F := F) c)
  iapply (part19_spec (F := F) a0 h0 a5 h5 c _ _ _ _ _ _ _)
  iintro %w
  dsimp only [Prog.bind_lift, Prog.pure_eq_ret]
  iapply (oawait (F := F) c 1 1 _ _ (o₁ := k0_off57 1#32) (by decide)) $$ [Ho Hb]
  · isplitl [Ho] <;> iassumption
  iintro ⟨⟨⟨B₁, Ho⟩, C₁⟩, Hb⟩
  icases XFree_both (F := F) c s.X 16 17 (by decide) $$ Hx with ⟨Bx, Hx⟩
  icases UFree_both (F := F) c s.U (s.n 16) (s.n 16 + 1) (by omega) $$ Hu with ⟨Bu, Hu⟩
  icases VFree_both (F := F) c s.V (s.n 16) (s.n 16 + 1) (by omega) $$ Hv with ⟨Bv, Hv⟩
  icases WFree_both (F := F) c s.W (s.n 16) (s.n 16 + 1) (by omega) $$ Hw with ⟨Bw, Hw⟩
  iapply (WP_ret (F := F) c rfl)
  iapply Hk
  isplitl [Br Bx Bu Bv Bw B₀ C₀ B₁ C₁]
  · isplitl [Br]; · iexact Br
    isplitl [Bx]; · iexact Bx
    isplitl [Bu]; · iexact Bu
    isplitl [Bv]; · iexact Bv
    isplitl [Bw]; · iexact Bw
    isplitl [B₀]; · iexact B₀
    isplitl [C₀]; · iexact C₀
    isplitl [B₁]; · iexists _; iexact B₁
    iexact C₁
  isplitl [Hx Hu Hv Hw]
  · isplitl [Hx]; · iexact Hx
    isplitl [Hu]; · iexact Hu
    isplitl [Hv] <;> iassumption
  isplitl [Hs]; · iexact Hs
  isplitl [Hr]; · iexact Hr
  isplitl [Hg]; · iexact Hg
  isplitl [Ho]
  · iexists d₀, d₁
    iexact Ho
  · iexact Hb

end

end Cert.KernelIdeal.Hand
-- ==== Proof.Result.lean ====
/-
  What the expert pass leaves in the result, entry by entry.
-/
module

public import proofs.«01_k».proof.Proof.Router

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

section
variable (s : Src F)

/-- The rows a trip of rank zero stores. -/
def q₀ (t : ℕ) : S1x512x768.Idx → Elt F .f32 :=
  k0_pay65 s.s₀ s.s₁ (bw t) (kw t) (k0_pay61 (xval s.X (t / 8) t)) (k0_pay62 (xval s.X (t / 8) t) (uval s.U (s.e t).toNat))
    (vval s.V (s.e t).toNat) (wval s.W (s.e t).toNat)

/-- The rows a trip of rank one stores where it finds `w`. -/
def q₁ (t : ℕ) (w : S1x512x768.Idx → Elt F .f32) : S1x512x768.Idx → Elt F .f32 :=
  k0_pay66 s.s₀ s.s₁ (bw t) (kw t) (k0_pay61 (xval s.X (t / 8) t)) (k0_pay62 (xval s.X (t / 8) t) (uval s.U (s.e t).toNat))
    (vval s.V (s.e t).toNat) (wval s.W (s.e t).toNat) w

/-- Entry `i` of slab `l`. -/
abbrev at_ (l : ℕ) (i : S1x512x768.Idx) : S1x2048x768.Idx := (slab l).emb i

theorem at_congr {l l' : ℕ} (h : l % 4 = l' % 4) (i : S1x512x768.Idx) : at_ l i = at_ l' i := by
  funext a
  apply Fin.ext
  show (![0, 512 * (l % 4), 0] : Fin 3 → ℕ) a + 1 * (i a).val = (![0, 512 * (l' % 4), 0] : Fin 3 → ℕ) a + 1 * (i a).val
  rw [h]

theorem at_row (l : ℕ) (i : S1x512x768.Idx) : (at_ l i 1).val = 512 * (l % 4) + 1 * (i 1).val := rfl

theorem at_ne {l l' : ℕ} (h : l % 4 ≠ l' % 4) (i i' : S1x512x768.Idx) : at_ l i ≠ at_ l' i' := by
  intro e
  have e := congrArg (fun y : S1x2048x768.Idx => (y 1).val) e
  have h₁ : (i 1).val < 512 := (i 1).isLt
  have h₂ : (i' 1).val < 512 := (i' 1).isLt
  simp only [at_row] at e
  omega

theorem at_cover (y : S1x2048x768.Idx) : ∃ l, l < 4 ∧ ∃ i, at_ l i = y := by
  have h : (y 1).val < 2048 := (y 1).isLt
  refine ⟨(y 1).val / 512, by omega, ?_⟩
  have hy : y ∈ (slab ((y 1).val / 512)).set := Rect.mem_set_unit.mpr fun a => by
    have b := (y a).isLt
    fin_cases a
    · exact ⟨Nat.zero_le _, b⟩
    · show 512 * ((y 1).val / 512 % 4) ≤ (y 1).val ∧ (y 1).val < 512 * ((y 1).val / 512 % 4) + 512
      omega
    · exact ⟨Nat.zero_le _, by simpa using b⟩
  exact LoadRect.exists_idx_of_mem _ hy

theorem step_out (t l : ℕ) (h : l % 4 ≠ t % 4) (d) (i) : s.step t d (at_ l i) = d (at_ l i) := by
  unfold Src.step odone
  split
  · exact put_out _ _ _ _ fun i' => at_ne (Ne.symm h) i' i
  · exact put_out _ _ _ _ fun i' => at_ne (Ne.symm h) i' i

theorem step_zero (t l : ℕ) (h : l % 4 = t % 4) (hk : t / 4 % 2 = 0) (d) (i) : s.step t d (at_ l i) = q₀ s t i := by
  unfold Src.step odone
  rw [if_pos hk, at_congr h]
  exact put_in _ _ _ _

theorem step_one (t l : ℕ) (h : l % 4 = t % 4) (hk : t / 4 % 2 ≠ 0) (d) (i) :
    s.step t d (at_ l i) = q₁ s t (fun i => d (at_ l i)) i := by
  unfold Src.step odone
  rw [if_neg hk, at_congr h, show (fun i => d (at_ l i)) = fun i => d (at_ t i) from funext fun i => by rw [at_congr h]]
  exact put_in _ _ _ _

/-- What slab `l` of batch row `b` holds in the course of the trips over `b`. -/
theorem acc_at (b l : ℕ) (hl : l < 4) (d) : ∀ τ, τ ≤ 8 →
    (l < τ → τ ≤ l + 4 → ∀ i, s.acc b τ d (at_ l i) = q₀ s (8 * b + l) i)
      ∧ (l + 4 < τ → ∀ i, s.acc b τ d (at_ l i) = q₁ s (8 * b + 4 + l) (q₀ s (8 * b + l)) i) := by
  intro τ
  induction τ with
  | zero => exact fun _ => ⟨fun h => absurd h (by omega), fun h => absurd h (by omega)⟩
  | succ τ ih =>
    intro hτ
    obtain ⟨h₀, h₁⟩ := ih (by omega)
    show (_ → _ → ∀ i, s.step (8 * b + τ) (s.acc b τ d) (at_ l i) = _) ∧ (_ → ∀ i, s.step (8 * b + τ) (s.acc b τ d) (at_ l i) = _)
    refine ⟨fun ha hb i => ?_, fun ha i => ?_⟩
    · rcases Nat.eq_or_lt_of_le (Nat.le_of_lt_succ ha) with e | e
      · subst e
        exact step_zero s _ _ (by omega) (by omega) _ _
      · rw [step_out s _ _ (by omega)]
        exact h₀ e (by omega) i
    · rcases Nat.eq_or_lt_of_le (Nat.le_of_lt_succ ha) with e | e
      · subst e
        rw [step_one s _ _ (by omega) (by omega), show (fun i => s.acc b (l + 4) d (at_ l i)) = q₀ s (8 * b + l) from funext (h₀ (by omega) (by omega)),
          show 8 * b + (l + 4) = 8 * b + 4 + l by omega]
      · rw [step_out s _ _ (by omega)]
        exact h₁ e i

/-- What the trips over batch row `b` leave, whatever the slot held. -/
theorem acc_any (b : ℕ) (d d') : s.acc b 8 d = s.acc b 8 d' := by
  funext y
  obtain ⟨l, hl, i, rfl⟩ := at_cover y
  rw [((acc_at s b l hl d 8 le_rfl).2 (by omega)) i, ((acc_at s b l hl d' 8 le_rfl).2 (by omega)) i]

/-- Batch row `b` of the result. -/
def res (b : ℕ) : S1x2048x768.Idx → Elt F .f32 := s.acc b 8 ((oblkAt 0).view.read (Elt F) s.G)

theorem res_at (b l : ℕ) (hl : l < 4) (i) : res s b (at_ l i) = q₁ s (8 * b + 4 + l) (q₀ s (8 * b + l)) i :=
  ((acc_at s b l hl _ 8 le_rfl).2 (by omega)) i

/-- The result. -/
def outv : (main_v0_1 : Ref sig .tc).ty.Contents (Elt F) := owrite 1 (owrite 0 s.G (res s 0)) (res s 1)

theorem outv_eq (d₀ d₁) : owrite 1 (G₀ s d₀) (s.acc 1 8 d₁) = outv s := by
  unfold outv res G₀
  rw [acc_any s 0 d₀, acc_any s 1 d₁]

/-- Entry `y` of batch row `b` in the result. -/
abbrev row_ (b : ℕ) (y : S1x2048x768.Idx) : S2x2048x768.Idx := (oblkAt b).view.emb y

theorem row_val (b : ℕ) (y : S1x2048x768.Idx) (a) : (row_ b y a).val = (![b % 2, 0, 0] : Fin 3 → ℕ) a + 1 * (y a).val := rfl

theorem outv_at (b : ℕ) (hb : b < 2) (y) : outv s (row_ b y) = res s b y := by
  unfold outv owrite
  rcases (by omega : b = 0 ∨ b = 1) with rfl | rfl
  · rw [View.write_of_not_mem]
    · exact View.write_emb_of_mem _ _ (Finset.mem_univ _)
    · intro h
      obtain ⟨y', -, e⟩ := Finset.mem_map.mp h
      have e := congrArg (fun y : S2x2048x768.Idx => (y 0).val) e
      have h₁ : (y 0).val < 1 := (y 0).isLt
      have h₂ : (y' 0).val < 1 := (y' 0).isLt
      change (row_ 1 y' 0).val = (row_ 0 y 0).val at e
      rw [row_val, row_val] at e
      change 1 + 1 * (y' 0).val = 0 + 1 * (y 0).val at e
      omega
  · exact View.write_emb_of_mem _ _ (Finset.mem_univ _)

theorem row_cover (y : S2x2048x768.Idx) : ∃ b, b < 2 ∧ ∃ z, row_ b z = y := by
  have h : (y 0).val < 2 := (y 0).isLt
  refine ⟨(y 0).val, h, ?_⟩
  have hy : y ∈ (Rect.unit (s := S2x2048x768) ![(y 0).val % 2, 0, 0] S1x2048x768.size (inb_oblk _)).set := Rect.mem_set_unit.mpr fun a => by
    have b := (y a).isLt
    fin_cases a
    · show (y 0).val % 2 ≤ (y 0).val ∧ (y 0).val < (y 0).val % 2 + 1
      omega
    · exact ⟨Nat.zero_le _, by simpa using b⟩
    · exact ⟨Nat.zero_le _, by simpa using b⟩
  exact LoadRect.exists_idx_of_mem _ hy

end

/-- The sum over all the rows, as the router pass makes it. -/
def tot (X : (main_arg0 : Ref sig .tc).ty.Contents (Elt F)) : S2x768.Idx → Elt F .f32 :=
  k0_pay69 (rld (rval X 3)) (k0_pay69 (rld (rval X 2)) (k0_pay69 (rld (rval X 1)) (k0_pay68 (rld (rval X 0)))))

theorem rsum_eq (X : (main_arg0 : Ref sig .tc).ty.Contents (Elt F)) (d) : rsum X d 4 = tot X := by
  unfold tot
  simp only [rsum, if_true, if_false, OfNat.ofNat_ne_zero, Nat.succ_ne_zero]

end Cert.KernelIdeal.Hand
-- ==== Proof.Launch.lean ====
/-
  The launch: the buffers the program is given, cut into the rings' slots, and the program's run.
-/
module

public import proofs.«01_k».proof.Proof.Whole
public import proofs.«01_k».proof.Proof.Result
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

open Idealize.ShloMosaic.Pipeline (Dat Cfg Window BodyObligation cellOf)

/-! ### A ring's buffer is its two slots -/

theorem of_equal {P Q : sProp 𝕄} (e : P = Q) : P ⊢ Q := e ▸ .rfl

theorem owned_some {c : Thread nD τ} {sp : Space} {s : Shape} {e : EltTy} {M : Memref sig c.2.kind sp s e}
    (J : Finset (Idx (M.view.loc c))) (hJ : M.view.set = J) :
    iprop(∃ f, (M.view.loc c ↦[J]{fullShare} f)) ⊢ (iprop(∃ v, owns c M fullShare v) : sProp 𝕄) := by
  subst hJ
  iintro ⟨%f, H⟩
  iexists M.view.read (Elt F) f
  unfold owns
  iexists f
  isplitr
  · ipureintro; rfl
  · iexact H

theorem some_owned {c : Thread nD τ} {sp : Space} {s : Shape} {e : EltTy} {M : Memref sig c.2.kind sp s e}
    (J : Finset (Idx (M.view.loc c))) (hJ : M.view.set = J) :
    iprop(∃ v, owns c M fullShare v) ⊢ (iprop(∃ f, (M.view.loc c ↦[J]{fullShare} f)) : sProp 𝕄) := by
  subst hJ
  unfold owns
  iintro ⟨%v, %f, -, H⟩
  iexists f
  iexact H

theorem lead_off (j : Fin 2) : (![j.val % 2, 0, 0, 0] : Fin 4 → ℕ) 0 = 1 * j.val := by fin_cases j <;> rfl
theorem lead_rest (j : Fin 2) (a : Fin 4) (ha : a ≠ 0) : (![j.val % 2, 0, 0, 0] : Fin 4 → ℕ) a = 0 := by
  fin_cases a <;> first | exact absurd rfl ha | rfl

section
variable (c : Dev nD)

abbrev rset (j : Fin 2) : Finset S2x2x512x768.Idx := (Rect.unit (s := S2x2x512x768) ![j.val % 2, 0, 0, 0] S1x2x512x768.size (inb_rslot j)).set

theorem rset_eq (j : Fin 2) : (rslotAt j).view.set = rset j := by
  simp only [rslotAt, rslot, Memref.view_squeeze, View.set_reshape]
  exact View.set_slice_whole _ _

theorem rset_dis (j j' : Fin 2) (h : j ≠ j') : Disjoint (rset j) (rset j') :=
  Ring.lead_disjoint (s := S2x2x512x768) (0 : Fin 4) 1 (fun j : Fin 2 => (![j.val % 2, 0, 0, 0] : Fin 4 → ℕ)) S1x2x512x768.size (fun j => inb_rslot j) lead_off rfl j j' h

theorem rset_cov : Finset.univ.biUnion rset = Finset.univ :=
  Ring.lead_cover (s := S2x2x512x768) (0 : Fin 4) 1 (fun j : Fin 2 => (![j.val % 2, 0, 0, 0] : Fin 4 → ℕ)) S1x2x512x768.size (fun j => inb_rslot j) lead_off
    lead_rest rfl (fun a ha => by fin_cases a <;> first | exact absurd rfl ha | rfl) rfl

theorem rsplit : iprop(∃ f, ((c : Thread nD τ).loc cc0_scoped0) ↦{fullShare} f)
    ⊢ (iprop((∃ v, owns (c : Thread nD τ) (rslotAt 0) fullShare v) ∗ (∃ v, owns (c : Thread nD τ) (rslotAt 1) fullShare v)) : sProp 𝕄) :=
  (Ring.slots2_split (U := Pipeline.UD sig nD τ) (ℓ := (c : Thread nD τ).loc cc0_scoped0) (q := fullShare) rset rset_dis rset_cov _ _ (fun _ => rfl) (fun _ => rfl)).trans
    (BI.sep_mono (owned_some (c := (c : Thread nD τ)) (M := rslotAt 0) _ (rset_eq 0)) (owned_some (c := (c : Thread nD τ)) (M := rslotAt 1) _ (rset_eq 1)))

theorem rjoin : (iprop((∃ v, owns (c : Thread nD τ) (rslotAt 0) fullShare v) ∗ (∃ v, owns (c : Thread nD τ) (rslotAt 1) fullShare v)) : sProp 𝕄)
    ⊢ iprop(∃ f, ((c : Thread nD τ).loc cc0_scoped0) ↦{fullShare} f) :=
  (BI.sep_mono (some_owned (c := (c : Thread nD τ)) (M := rslotAt 0) _ (rset_eq 0)) (some_owned (c := (c : Thread nD τ)) (M := rslotAt 1) _ (rset_eq 1))).trans
  (Ring.slots2_join (U := Pipeline.UD sig nD τ) (ℓ := (c : Thread nD τ).loc cc0_scoped0) (q := fullShare) rset rset_dis rset_cov _ _ (fun _ => rfl) (fun _ => rfl))

abbrev xset (j : Fin 2) : Finset S2x1x512x768.Idx := (Rect.unit (s := S2x1x512x768) ![j.val % 2, 0, 0, 0] S1x1x512x768.size (inb_xslot j)).set

theorem xset_eq (j : Fin 2) : (xslotAt j).view.set = xset j := by
  simp only [xslotAt, xslot, Memref.view_squeeze, View.set_reshape]
  exact View.set_slice_whole _ _

theorem xset_dis (j j' : Fin 2) (h : j ≠ j') : Disjoint (xset j) (xset j') :=
  Ring.lead_disjoint (s := S2x1x512x768) (0 : Fin 4) 1 (fun j : Fin 2 => (![j.val % 2, 0, 0, 0] : Fin 4 → ℕ)) S1x1x512x768.size (fun j => inb_xslot j) lead_off rfl j j' h

theorem xset_cov : Finset.univ.biUnion xset = Finset.univ :=
  Ring.lead_cover (s := S2x1x512x768) (0 : Fin 4) 1 (fun j : Fin 2 => (![j.val % 2, 0, 0, 0] : Fin 4 → ℕ)) S1x1x512x768.size (fun j => inb_xslot j) lead_off
    lead_rest rfl (fun a ha => by fin_cases a <;> first | exact absurd rfl ha | rfl) rfl

theorem xsplit : iprop(∃ f, ((c : Thread nD τ).loc cc0_scoped2) ↦{fullShare} f)
    ⊢ (iprop((∃ v, owns (c : Thread nD τ) (xslotAt 0) fullShare v) ∗ (∃ v, owns (c : Thread nD τ) (xslotAt 1) fullShare v)) : sProp 𝕄) :=
  (Ring.slots2_split (U := Pipeline.UD sig nD τ) (ℓ := (c : Thread nD τ).loc cc0_scoped2) (q := fullShare) xset xset_dis xset_cov _ _ (fun _ => rfl) (fun _ => rfl)).trans
    (BI.sep_mono (owned_some (c := (c : Thread nD τ)) (M := xslotAt 0) _ (xset_eq 0)) (owned_some (c := (c : Thread nD τ)) (M := xslotAt 1) _ (xset_eq 1)))

theorem xjoin : (iprop((∃ v, owns (c : Thread nD τ) (xslotAt 0) fullShare v) ∗ (∃ v, owns (c : Thread nD τ) (xslotAt 1) fullShare v)) : sProp 𝕄)
    ⊢ iprop(∃ f, ((c : Thread nD τ).loc cc0_scoped2) ↦{fullShare} f) :=
  (BI.sep_mono (some_owned (c := (c : Thread nD τ)) (M := xslotAt 0) _ (xset_eq 0)) (some_owned (c := (c : Thread nD τ)) (M := xslotAt 1) _ (xset_eq 1))).trans
  (Ring.slots2_join (U := Pipeline.UD sig nD τ) (ℓ := (c : Thread nD τ).loc cc0_scoped2) (q := fullShare) xset xset_dis xset_cov _ _ (fun _ => rfl) (fun _ => rfl))

abbrev uset (j : Fin 2) : Finset S2x1x768x2048.Idx := (Rect.unit (s := S2x1x768x2048) ![j.val % 2, 0, 0, 0] S1x1x768x2048.size (inb_uslot j)).set

theorem uset_eq (j : Fin 2) : (uslotAt j).view.set = uset j := by
  simp only [uslotAt, uslot, Memref.view_squeeze, View.set_reshape]
  exact View.set_slice_whole _ _

theorem uset_dis (j j' : Fin 2) (h : j ≠ j') : Disjoint (uset j) (uset j') :=
  Ring.lead_disjoint (s := S2x1x768x2048) (0 : Fin 4) 1 (fun j : Fin 2 => (![j.val % 2, 0, 0, 0] : Fin 4 → ℕ)) S1x1x768x2048.size (fun j => inb_uslot j) lead_off rfl j j' h

theorem uset_cov : Finset.univ.biUnion uset = Finset.univ :=
  Ring.lead_cover (s := S2x1x768x2048) (0 : Fin 4) 1 (fun j : Fin 2 => (![j.val % 2, 0, 0, 0] : Fin 4 → ℕ)) S1x1x768x2048.size (fun j => inb_uslot j) lead_off
    lead_rest rfl (fun a ha => by fin_cases a <;> first | exact absurd rfl ha | rfl) rfl

theorem usplit : iprop(∃ f, ((c : Thread nD τ).loc cc0_scoped4) ↦{fullShare} f)
    ⊢ (iprop((∃ v, owns (c : Thread nD τ) (uslotAt 0) fullShare v) ∗ (∃ v, owns (c : Thread nD τ) (uslotAt 1) fullShare v)) : sProp 𝕄) :=
  (Ring.slots2_split (U := Pipeline.UD sig nD τ) (ℓ := (c : Thread nD τ).loc cc0_scoped4) (q := fullShare) uset uset_dis uset_cov _ _ (fun _ => rfl) (fun _ => rfl)).trans
    (BI.sep_mono (owned_some (c := (c : Thread nD τ)) (M := uslotAt 0) _ (uset_eq 0)) (owned_some (c := (c : Thread nD τ)) (M := uslotAt 1) _ (uset_eq 1)))

theorem ujoin : (iprop((∃ v, owns (c : Thread nD τ) (uslotAt 0) fullShare v) ∗ (∃ v, owns (c : Thread nD τ) (uslotAt 1) fullShare v)) : sProp 𝕄)
    ⊢ iprop(∃ f, ((c : Thread nD τ).loc cc0_scoped4) ↦{fullShare} f) :=
  (BI.sep_mono (some_owned (c := (c : Thread nD τ)) (M := uslotAt 0) _ (uset_eq 0)) (some_owned (c := (c : Thread nD τ)) (M := uslotAt 1) _ (uset_eq 1))).trans
  (Ring.slots2_join (U := Pipeline.UD sig nD τ) (ℓ := (c : Thread nD τ).loc cc0_scoped4) (q := fullShare) uset uset_dis uset_cov _ _ (fun _ => rfl) (fun _ => rfl))

abbrev vset (j : Fin 2) : Finset S2x1x768x2048.Idx := (Rect.unit (s := S2x1x768x2048) ![j.val % 2, 0, 0, 0] S1x1x768x2048.size (inb_vslot j)).set

theorem vset_eq (j : Fin 2) : (vslotAt j).view.set = vset j := by
  simp only [vslotAt, vslot, Memref.view_squeeze, View.set_reshape]
  exact View.set_slice_whole _ _

theorem vset_dis (j j' : Fin 2) (h : j ≠ j') : Disjoint (vset j) (vset j') :=
  Ring.lead_disjoint (s := S2x1x768x2048) (0 : Fin 4) 1 (fun j : Fin 2 => (![j.val % 2, 0, 0, 0] : Fin 4 → ℕ)) S1x1x768x2048.size (fun j => inb_vslot j) lead_off rfl j j' h

theorem vset_cov : Finset.univ.biUnion vset = Finset.univ :=
  Ring.lead_cover (s := S2x1x768x2048) (0 : Fin 4) 1 (fun j : Fin 2 => (![j.val % 2, 0, 0, 0] : Fin 4 → ℕ)) S1x1x768x2048.size (fun j => inb_vslot j) lead_off
    lead_rest rfl (fun a ha => by fin_cases a <;> first | exact absurd rfl ha | rfl) rfl

theorem vsplit : iprop(∃ f, ((c : Thread nD τ).loc cc0_scoped6) ↦{fullShare} f)
    ⊢ (iprop((∃ v, owns (c : Thread nD τ) (vslotAt 0) fullShare v) ∗ (∃ v, owns (c : Thread nD τ) (vslotAt 1) fullShare v)) : sProp 𝕄) :=
  (Ring.slots2_split (U := Pipeline.UD sig nD τ) (ℓ := (c : Thread nD τ).loc cc0_scoped6) (q := fullShare) vset vset_dis vset_cov _ _ (fun _ => rfl) (fun _ => rfl)).trans
    (BI.sep_mono (owned_some (c := (c : Thread nD τ)) (M := vslotAt 0) _ (vset_eq 0)) (owned_some (c := (c : Thread nD τ)) (M := vslotAt 1) _ (vset_eq 1)))

theorem vjoin : (iprop((∃ v, owns (c : Thread nD τ) (vslotAt 0) fullShare v) ∗ (∃ v, owns (c : Thread nD τ) (vslotAt 1) fullShare v)) : sProp 𝕄)
    ⊢ iprop(∃ f, ((c : Thread nD τ).loc cc0_scoped6) ↦{fullShare} f) :=
  (BI.sep_mono (some_owned (c := (c : Thread nD τ)) (M := vslotAt 0) _ (vset_eq 0)) (some_owned (c := (c : Thread nD τ)) (M := vslotAt 1) _ (vset_eq 1))).trans
  (Ring.slots2_join (U := Pipeline.UD sig nD τ) (ℓ := (c : Thread nD τ).loc cc0_scoped6) (q := fullShare) vset vset_dis vset_cov _ _ (fun _ => rfl) (fun _ => rfl))

abbrev wset (j : Fin 2) : Finset S2x1x2048x768.Idx := (Rect.unit (s := S2x1x2048x768) ![j.val % 2, 0, 0, 0] S1x1x2048x768.size (inb_wslot j)).set

theorem wset_eq (j : Fin 2) : (wslotAt j).view.set = wset j := by
  simp only [wslotAt, wslot, Memref.view_squeeze, View.set_reshape]
  exact View.set_slice_whole _ _

theorem wset_dis (j j' : Fin 2) (h : j ≠ j') : Disjoint (wset j) (wset j') :=
  Ring.lead_disjoint (s := S2x1x2048x768) (0 : Fin 4) 1 (fun j : Fin 2 => (![j.val % 2, 0, 0, 0] : Fin 4 → ℕ)) S1x1x2048x768.size (fun j => inb_wslot j) lead_off rfl j j' h

theorem wset_cov : Finset.univ.biUnion wset = Finset.univ :=
  Ring.lead_cover (s := S2x1x2048x768) (0 : Fin 4) 1 (fun j : Fin 2 => (![j.val % 2, 0, 0, 0] : Fin 4 → ℕ)) S1x1x2048x768.size (fun j => inb_wslot j) lead_off
    lead_rest rfl (fun a ha => by fin_cases a <;> first | exact absurd rfl ha | rfl) rfl

theorem wsplit : iprop(∃ f, ((c : Thread nD τ).loc cc0_scoped8) ↦{fullShare} f)
    ⊢ (iprop((∃ v, owns (c : Thread nD τ) (wslotAt 0) fullShare v) ∗ (∃ v, owns (c : Thread nD τ) (wslotAt 1) fullShare v)) : sProp 𝕄) :=
  (Ring.slots2_split (U := Pipeline.UD sig nD τ) (ℓ := (c : Thread nD τ).loc cc0_scoped8) (q := fullShare) wset wset_dis wset_cov _ _ (fun _ => rfl) (fun _ => rfl)).trans
    (BI.sep_mono (owned_some (c := (c : Thread nD τ)) (M := wslotAt 0) _ (wset_eq 0)) (owned_some (c := (c : Thread nD τ)) (M := wslotAt 1) _ (wset_eq 1)))

theorem wjoin : (iprop((∃ v, owns (c : Thread nD τ) (wslotAt 0) fullShare v) ∗ (∃ v, owns (c : Thread nD τ) (wslotAt 1) fullShare v)) : sProp 𝕄)
    ⊢ iprop(∃ f, ((c : Thread nD τ).loc cc0_scoped8) ↦{fullShare} f) :=
  (BI.sep_mono (some_owned (c := (c : Thread nD τ)) (M := wslotAt 0) _ (wset_eq 0)) (some_owned (c := (c : Thread nD τ)) (M := wslotAt 1) _ (wset_eq 1))).trans
  (Ring.slots2_join (U := Pipeline.UD sig nD τ) (ℓ := (c : Thread nD τ).loc cc0_scoped8) (q := fullShare) wset wset_dis wset_cov _ _ (fun _ => rfl) (fun _ => rfl))

abbrev oset (j : Fin 2) : Finset S2x1x2048x768.Idx := (Rect.unit (s := S2x1x2048x768) ![j.val % 2, 0, 0, 0] S1x1x2048x768.size (inb_oslot j)).set

theorem oset_eq (j : Fin 2) : (oslotAt j).view.set = oset j := by
  simp only [oslotAt, oslot, Memref.view_squeeze, View.set_reshape]
  exact View.set_slice_whole _ _

theorem oset_dis (j j' : Fin 2) (h : j ≠ j') : Disjoint (oset j) (oset j') :=
  Ring.lead_disjoint (s := S2x1x2048x768) (0 : Fin 4) 1 (fun j : Fin 2 => (![j.val % 2, 0, 0, 0] : Fin 4 → ℕ)) S1x1x2048x768.size (fun j => inb_oslot j) lead_off rfl j j' h

theorem oset_cov : Finset.univ.biUnion oset = Finset.univ :=
  Ring.lead_cover (s := S2x1x2048x768) (0 : Fin 4) 1 (fun j : Fin 2 => (![j.val % 2, 0, 0, 0] : Fin 4 → ℕ)) S1x1x2048x768.size (fun j => inb_oslot j) lead_off
    lead_rest rfl (fun a ha => by fin_cases a <;> first | exact absurd rfl ha | rfl) rfl

theorem osplit : iprop(∃ f, ((c : Thread nD τ).loc cc0_scoped10) ↦{fullShare} f)
    ⊢ (iprop((∃ v, owns (c : Thread nD τ) (oslotAt 0) fullShare v) ∗ (∃ v, owns (c : Thread nD τ) (oslotAt 1) fullShare v)) : sProp 𝕄) :=
  (Ring.slots2_split (U := Pipeline.UD sig nD τ) (ℓ := (c : Thread nD τ).loc cc0_scoped10) (q := fullShare) oset oset_dis oset_cov _ _ (fun _ => rfl) (fun _ => rfl)).trans
    (BI.sep_mono (owned_some (c := (c : Thread nD τ)) (M := oslotAt 0) _ (oset_eq 0)) (owned_some (c := (c : Thread nD τ)) (M := oslotAt 1) _ (oset_eq 1)))

theorem ojoin : (iprop((∃ v, owns (c : Thread nD τ) (oslotAt 0) fullShare v) ∗ (∃ v, owns (c : Thread nD τ) (oslotAt 1) fullShare v)) : sProp 𝕄)
    ⊢ iprop(∃ f, ((c : Thread nD τ).loc cc0_scoped10) ↦{fullShare} f) :=
  (BI.sep_mono (some_owned (c := (c : Thread nD τ)) (M := oslotAt 0) _ (oset_eq 0)) (some_owned (c := (c : Thread nD τ)) (M := oslotAt 1) _ (oset_eq 1))).trans
  (Ring.slots2_join (U := Pipeline.UD sig nD τ) (ℓ := (c : Thread nD τ).loc cc0_scoped10) (q := fullShare) oset oset_dis oset_cov _ _ (fun _ => rfl) (fun _ => rfl))

end

/-! ### What the body is given -/

/-- The kernel's own transfer cells. -/
abbrev osem0 : Fin 12 → SemLoc sig := ![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13]

theorem ownSemFacts0 : Pipeline.OwnSemFacts spec0 osem0 := by decide

theorem cells_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (rcellAt 0)) 0 ∗ semVal ((c : Thread nD τ), SemLoc.dma (rcellAt 1)) 0 ∗ semVal ((c : Thread nD τ), SemLoc.dma (xcellAt 0)) 0 ∗ semVal ((c : Thread nD τ), SemLoc.dma (xcellAt 1)) 0 ∗ semVal ((c : Thread nD τ), SemLoc.dma (ucellAt 0)) 0 ∗ semVal ((c : Thread nD τ), SemLoc.dma (ucellAt 1)) 0 ∗ semVal ((c : Thread nD τ), SemLoc.dma (vcellAt 0)) 0 ∗ semVal ((c : Thread nD τ), SemLoc.dma (vcellAt 1)) 0 ∗ semVal ((c : Thread nD τ), SemLoc.dma (wcellAt 0)) 0 ∗ semVal ((c : Thread nD τ), SemLoc.dma (wcellAt 1)) 0 ∗ semVal ((c : Thread nD τ), SemLoc.dma (ocellAt 0)) 0 ∗ semVal ((c : Thread nD τ), SemLoc.dma (ocellAt 1)) 0) := by
  rw [Pipeline.ownSems0_eq_of_list c osem0 [0, 1, 2, 3, 4, 5, 6, 7, 8, 9, 10, 11] (by decide) (by decide)]
  rfl

/-- The arrays the kernel reads by its own transfers, and the one it writes. -/
def H0 : Finset (Ref sig .tc) := {main_arg0, main_arg2, main_arg3, main_arg4}
def R0 : Finset (Ref sig .tc) := {main_v0_1}
theorem H0_sub : H0 ⊆ Pipeline.restRefs sig spec0 := by decide
theorem R0_sub : R0 ⊆ Pipeline.restRefs sig spec0 \ H0 := by decide

theorem reads_eq (c : Dev nD) (W : (b : Ref sig .tc) → Buf (Elt F) ((c : Thread nD τ).loc b)) :
    (bigSep H0 (fun b => ((c : Thread nD τ).loc b) ↦{fullShare} W b) : sProp 𝕄)
      = iprop((((c : Thread nD τ).loc main_arg0) ↦{fullShare} W main_arg0) ∗ (((c : Thread nD τ).loc main_arg2) ↦{fullShare} W main_arg2)
        ∗ (((c : Thread nD τ).loc main_arg3) ↦{fullShare} W main_arg3) ∗ (((c : Thread nD τ).loc main_arg4) ↦{fullShare} W main_arg4)) := by
  rw [BI.bigSep_eq_bigSepL_of_eq [main_arg0, main_arg2, main_arg3, main_arg4] (by decide) (by decide)]
  rfl

theorem writes_eq (c : Dev nD) (W : (b : Ref sig .tc) → Buf (Elt F) ((c : Thread nD τ).loc b)) :
    (Pipeline.routed R0 c W : sProp 𝕄) = (((c : Thread nD τ).loc main_v0_1) ↦{fullShare} W main_v0_1) := by
  unfold Pipeline.routed
  rw [BI.bigSep_eq_bigSepL_of_eq [main_v0_1] (by decide) (by decide)]
  rfl

/-- The kernel's scoped buffers. -/
abbrev Scoped (c : Dev nD) : sProp 𝕄 := iprop((∃ f, ((c : Thread nD τ).loc cc0_scratch0) ↦{fullShare} f) ∗ (∃ f, ((c : Thread nD τ).loc cc0_scoped0) ↦{fullShare} f) ∗ (∃ f, ((c : Thread nD τ).loc cc0_scoped2) ↦{fullShare} f) ∗ (∃ f, ((c : Thread nD τ).loc cc0_scoped4) ↦{fullShare} f) ∗ (∃ f, ((c : Thread nD τ).loc cc0_scoped6) ↦{fullShare} f) ∗ (∃ f, ((c : Thread nD τ).loc cc0_scoped8) ↦{fullShare} f) ∗ (∃ f, ((c : Thread nD τ).loc cc0_scoped10) ↦{fullShare} f))
/-- Its cells at zero. -/
abbrev Cells (c : Dev nD) : sProp 𝕄 := iprop(semVal ((c : Thread nD τ), SemLoc.dma (rcellAt 0)) 0 ∗ semVal ((c : Thread nD τ), SemLoc.dma (rcellAt 1)) 0 ∗ semVal ((c : Thread nD τ), SemLoc.dma (xcellAt 0)) 0 ∗ semVal ((c : Thread nD τ), SemLoc.dma (xcellAt 1)) 0 ∗ semVal ((c : Thread nD τ), SemLoc.dma (ucellAt 0)) 0 ∗ semVal ((c : Thread nD τ), SemLoc.dma (ucellAt 1)) 0 ∗ semVal ((c : Thread nD τ), SemLoc.dma (vcellAt 0)) 0 ∗ semVal ((c : Thread nD τ), SemLoc.dma (vcellAt 1)) 0 ∗ semVal ((c : Thread nD τ), SemLoc.dma (wcellAt 0)) 0 ∗ semVal ((c : Thread nD τ), SemLoc.dma (wcellAt 1)) 0 ∗ semVal ((c : Thread nD τ), SemLoc.dma (ocellAt 0)) 0 ∗ semVal ((c : Thread nD τ), SemLoc.dma (ocellAt 1)) 0)

theorem Rings_of (c : Dev nD) : iprop(Scoped (F := F) c ∗ Cells c) ⊢ iprop(Rings c ∗ (∃ d, Sum c d)) := by
  unfold Rings RBare XBare UBare VBare WBare OSlot OCell
  iintro ⟨⟨Hs, Hr, Hx, Hu, Hv, Hw, Ho⟩, ⟨R0, R1, X0, X1, U0, U1, V0, V1, W0, W1, O0, O1⟩⟩
  icases rsplit (F := F) c $$ Hr with ⟨Hr, Hr'⟩
  icases xsplit (F := F) c $$ Hx with ⟨Hx, Hx'⟩
  icases usplit (F := F) c $$ Hu with ⟨Hu, Hu'⟩
  icases vsplit (F := F) c $$ Hv with ⟨Hv, Hv'⟩
  icases wsplit (F := F) c $$ Hw with ⟨Hw, Hw'⟩
  icases osplit (F := F) c $$ Ho with ⟨Ho, Ho'⟩
  isplitr [Hs]
  · isplitl [Hr Hr' R0 R1]
    · isplitl [Hr R0]
      · isplitl [Hr] <;> iassumption
      · isplitl [Hr'] <;> iassumption
    isplitl [Hx Hx' X0 X1]
    · isplitl [Hx X0]
      · isplitl [Hx] <;> iassumption
      · isplitl [Hx'] <;> iassumption
    isplitl [Hu Hu' U0 U1]
    · isplitl [Hu U0]
      · isplitl [Hu] <;> iassumption
      · isplitl [Hu'] <;> iassumption
    isplitl [Hv Hv' V0 V1]
    · isplitl [Hv V0]
      · isplitl [Hv] <;> iassumption
      · isplitl [Hv'] <;> iassumption
    isplitl [Hw Hw' W0 W1]
    · isplitl [Hw W0]
      · isplitl [Hw] <;> iassumption
      · isplitl [Hw'] <;> iassumption
    isplitl [Ho]; · iexact Ho
    isplitl [O0]; · iexact O0
    isplitl [Ho'] <;> iassumption
  · icases Hs with ⟨%f, Hs⟩
    iexists f
    iapply (show _ ⊢ Sum (F := F) c f from of_equal (owns_whole (c : Thread nD τ) cc0_scratch0 fullShare f).symm)
    iexact Hs

theorem Rings_to (c : Dev nD) (d) : iprop(Rings (F := F) c ∗ Sum c d) ⊢ iprop(Scoped c ∗ Cells c) := by
  unfold Rings RBare XBare UBare VBare WBare OSlot OCell
  iintro ⟨⟨⟨⟨Hr, R0⟩, ⟨Hr', R1⟩⟩, ⟨⟨Hx, X0⟩, ⟨Hx', X1⟩⟩, ⟨⟨Hu, U0⟩, ⟨Hu', U1⟩⟩, ⟨⟨Hv, V0⟩, ⟨Hv', V1⟩⟩, ⟨⟨Hw, W0⟩, ⟨Hw', W1⟩⟩, Ho, O0, Ho', O1⟩, Hs⟩
  isplitl [Hs Hr Hr' Hx Hx' Hu Hu' Hv Hv' Hw Hw' Ho Ho']
  · isplitl [Hs]
    · iexists d
      iapply (show Sum (F := F) c d ⊢ _ from of_equal (owns_whole (c : Thread nD τ) cc0_scratch0 fullShare d))
      iexact Hs
    isplitl [Hr Hr']
    · iapply (rjoin (F := F) c)
      isplitl [Hr] <;> iassumption
    isplitl [Hx Hx']
    · iapply (xjoin (F := F) c)
      isplitl [Hx] <;> iassumption
    isplitl [Hu Hu']
    · iapply (ujoin (F := F) c)
      isplitl [Hu] <;> iassumption
    isplitl [Hv Hv']
    · iapply (vjoin (F := F) c)
      isplitl [Hv] <;> iassumption
    isplitl [Hw Hw']
    · iapply (wjoin (F := F) c)
      isplitl [Hw] <;> iassumption
    iapply (ojoin (F := F) c)
    isplitl [Ho] <;> iassumption
  isplitl [R0]; · iexact R0
  isplitl [R1]; · iexact R1
  isplitl [X0]; · iexact X0
  isplitl [X1]; · iexact X1
  isplitl [U0]; · iexact U0
  isplitl [U1]; · iexact U1
  isplitl [V0]; · iexact V0
  isplitl [V1]; · iexact V1
  isplitl [W0]; · iexact W0
  isplitl [W1]; · iexact W1
  isplitl [O0] <;> iassumption

variable (m : (ℓ : Loc nD τ sig) → Buf (Elt F) ℓ) (ρ : Dev nD → PrngReg)

/-- The arrays as launched. -/
abbrev V₀ (c : Dev nD) (b : Ref sig .tc) : Buf (Elt F) ((c : Thread nD τ).loc b) := m ((c : Thread nD τ).loc b)

theorem hmain₀ (𝒱₀ : Variants) : Pipeline.HMain (Ix := Unit) (Name := ℕ) (U := Pipeline.UD sig nD τ) (Lvl := ℕ) cfgs 0 defs₀ 𝒱₀ m (main (F := F)) (V₀ m) :=
  Pipeline.hmain_region cfgs 0 defs₀ 𝒱₀ m main fun c => (main_chain c).trans rfl

/-- The logits. -/
def lg (c : Dev nD) : S2x8.Idx → Elt F .f32 := k0_pay70 (tot (V₀ m c main_arg0)) (iblk m c 0 t0_0)

/-- The exponentials the selection starts from. -/
def wt (c : Dev nD) : FVec F S2x8 .f32 := k0_pay71 (tot (V₀ m c main_arg0)) (iblk m c 0 t0_0)

/-- What the expert pass reads. -/
def srcs (c : Dev nD) : Src F :=
  src (V₀ m c main_arg0) (V₀ m c main_arg2) (V₀ m c main_arg3) (V₀ m c main_arg4) (V₀ m c main_v0_1) (wt m c)

/-- The arrays as the launch leaves them. -/
def V₁ (c : Dev nD) : (b : Ref sig .tc) → Buf (Elt F) ((c : Thread nD τ).loc b) :=
  Function.update (V₀ m c) main_v0_1 (outv (srcs m c))

theorem Phi_eq (c : Dev nD) (G : (c : Dev nD) → (b : Ref sig .tc) → Buf (Elt F) ((c : Thread nD τ).loc b)) :
    (Pipeline.ΦDRG osem0 spec0 H0 R0 (V₀ m) G c : sProp 𝕄)
      = iprop(Scoped c ∗ (∃ r, prngReg c r) ∗ Cells c
        ∗ ((((c : Thread nD τ).loc main_arg0) ↦{fullShare} V₀ m c main_arg0) ∗ (((c : Thread nD τ).loc main_arg2) ↦{fullShare} V₀ m c main_arg2)
          ∗ (((c : Thread nD τ).loc main_arg3) ↦{fullShare} V₀ m c main_arg3) ∗ (((c : Thread nD τ).loc main_arg4) ↦{fullShare} V₀ m c main_arg4))
        ∗ (((c : Thread nD τ).loc main_v0_1) ↦{fullShare} G c main_v0_1)) := by
  rw [Pipeline.ΦDRG_eq, scopedRest0_eq, cells_eq, reads_eq, writes_eq]

/-- The proof data of the one call. -/
def dats (_ : Fin 1) (c : Dev nD) : Dat τ (Elt F) Unit ℕ (Pipeline.UD sig nD τ) ℕ cfg0 c where
  A w := V₀ m c (Pipeline.arrRef spec0 w)
  after w t := match w with
    | ⟨0, _⟩ => iblk m c 0 t
    | ⟨1, _⟩ => lg m c
  Φ t := if t.val = 0 then Pipeline.ΦDRG osem0 spec0 H0 R0 (V₀ m) (V₀ m) c else Pipeline.ΦDRG osem0 spec0 H0 R0 (V₀ m) (V₁ m) c
  q _ := fullShare
  owed _ := 0

theorem A_eq (c : Dev nD) (w : Fin cfg0.W) : (dats m 0 c).A w = V₀ m c (Pipeline.arrRef spec0 w) := by
  dsimp only [dats]
theorem after_wr (c : Dev nD) (t : Fin cfg0.N) : (dats m 0 c).after 0 t = iblk m c 0 t := by dsimp only [dats]
theorem after_lg (c : Dev nD) (t : Fin cfg0.N) : (dats m 0 c).after 1 t = lg m c := by dsimp only [dats]
theorem before_wr (c : Dev nD) (t : Fin cfg0.N) (d) : (dats m 0 c).before 0 t d = iblk m c 0 t :=

  ((dats m 0 c).before_in_eq_fetched 0 rfl (fun _ => rfl) (fun _ _ _ => rfl) (fun t => by rw [after_wr]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem Arrs_of (c : Dev nD) (G : (c : Dev nD) → (b : Ref sig .tc) → Buf (Elt F) ((c : Thread nD τ).loc b)) (g) (hg : G c main_v0_1 = g) :
    (Pipeline.ΦDRG osem0 spec0 H0 R0 (V₀ m) G c : sProp 𝕄) ⊢ iprop((Rings c ∗ (∃ d, Sum c d)) ∗ (∃ r, prngReg c r) ∗ Arrs c (srcs m c) ∗ OArr c g) := by
  rw [Phi_eq, hg]
  unfold Arrs OArr
  iintro ⟨Hs, Hp, Hc, ⟨Hx, Hu, Hw, Hv⟩, Ho⟩
  isplitl [Hs Hc]
  · iapply (Rings_of (F := F) c)
    isplitl [Hs]; · iexact Hs
    iexact Hc
  isplitl [Hp]; · iexact Hp
  isplitr [Ho]
  · isplitl [Hx]; · iexact Hx
    isplitl [Hu]; · iexact Hu
    isplitl [Hv]; · iexact Hv
    iexact Hw
  · iexact Ho

theorem Arrs_to (c : Dev nD) (G : (c : Dev nD) → (b : Ref sig .tc) → Buf (Elt F) ((c : Thread nD τ).loc b)) (g) (hg : G c main_v0_1 = g) (d) :
    iprop((Rings c ∗ Sum c d) ∗ (∃ r, prngReg c r) ∗ Arrs c (srcs m c) ∗ OArr c g) ⊢ (Pipeline.ΦDRG osem0 spec0 H0 R0 (V₀ m) G c : sProp 𝕄) := by
  rw [Phi_eq, hg]
  unfold Arrs OArr
  iintro ⟨H, Hp, ⟨Hx, Hu, Hv, Hw⟩, Ho⟩
  icases (Rings_to (F := F) c d) $$ H with ⟨Hs, Hc⟩
  isplitl [Hs]; · iexact Hs
  isplitl [Hp]; · iexact Hp
  isplitl [Hc]; · iexact Hc
  isplitr [Ho]
  · isplitl [Hx]; · iexact Hx
    isplitl [Hu]; · iexact Hu
    isplitl [Hw]; · iexact Hw
    iexact Hv
  · iexact Ho

theorem V₁_out (c : Dev nD) : V₁ m c main_v0_1 = outv (srcs m c) := Function.update_self ..

theorem sound_body (c : Dev nD) (t : Fin cfg0.N) :
    bodyPre m c t ⊢ wp frame (wpE (defs₀ (F := F)) Variants.none c none) Set.univ (bodyAt0 t) (fun _ => bodyPost m c t) := by
  have ht : t = t0_0 := fin_N0 t
  subst ht
  unfold bodyPre bodyPost bodyAt0
  rw [after_wr, after_lg, show (dats m 0 c).Φ t0_0.castSucc = Pipeline.ΦDRG osem0 spec0 H0 R0 (V₀ m) (V₀ m) c from rfl,
    show (dats m 0 c).Φ t0_0.succ = Pipeline.ΦDRG osem0 spec0 H0 R0 (V₀ m) (V₁ m) c from rfl]
  unfold Dat.owesAt Pipeline.owesWithin
  rw [show (dats m 0 c).owed t0_0.castSucc = 0 from rfl, show (dats m 0 c).owed t0_0.succ = 0 from rfl]
  simp only [before_wr]
  iintro ⟨HΦ, ⟨%W, -, HW⟩, ⟨%d0, H0⟩, ⟨%d1, H1⟩⟩
  icases (Arrs_of (F := F) m c (V₀ m) _ rfl) $$ HΦ with ⟨⟨HR, ⟨%d, Hs⟩⟩, Hp, HA, HO⟩
  iapply (whole (F := F) _ _ _ _ c (V₀ m c main_arg0) (V₀ m c main_arg2) (V₀ m c main_arg3) (V₀ m c main_arg4) (V₀ m c main_v0_1)
    d (iblk m c 0 t0_0) _ (q := fullShare) (srcs m c) (by rw [rsum_eq]; rfl))
  isplitl [HR]; · iexact HR
  isplitl [HA]; · iexact HA
  isplitl [Hs]; · iexact Hs
  isplitl [H0]; · iexact H0
  isplitl [H1]; · iexact H1
  isplitl [HO]; · iexact HO
  isplitl [HW]
  · unfold Owe
    iexists W
    iexact HW
  rw [rsum_eq]
  iintro ⟨HR, HA, Hs, H0, H1, ⟨%e₀, %e₁, HO⟩, HW⟩
  isplitl [HR HA Hs HO Hp]
  · iapply (Arrs_to (F := F) m c (V₁ m) _ (V₁_out m c) (tot (V₀ m c main_arg0)))
    isplitl [HR Hs]
    · isplitl [HR]; · iexact HR
      iexact Hs
    isplitl [Hp]; · iexact Hp
    isplitl [HA]; · iexact HA
    iapply (of_equal (congrArg (OArr (F := F) c) (outv_eq (srcs m c) e₀ e₁)))
    iexact HO
  isplitl [HW]
  · unfold Owe
    icases HW with ⟨%W', HW⟩
    iexists W'
    isplitr
    · ipureintro; exact fun _ _ => Or.inl trivial
    · iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
theorem run_main : θ_run defs (onTc (τ := τ) (main (F := F))) (s₀ m ρ)
    (fun r => Pipeline.FramePostRG cfgs (dats m) 0 R0 (V₀ m) (V₁ m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V₀ m) (hmain := hmain₀ m Variants.none) (hA := A_eq m) (G := V₁ m)
    (hin := fun _ => .rfl) (hout := fun _ => .rfl)

/-- The run's post, array by array: the arguments as launched, the two results as computed. -/
theorem run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v0_0) = lg m c
      ∧ r.2.mem ((c.tc : Thread nD τ).loc main_v0_1) = outv (srcs m c)) ∧ r.2.sem = fun _ => 0) :=
  (θ_run defs _ _).mono (fun r h => ⟨fun c => ⟨
    (h.1.toR c).2 main_arg0 (Finset.mem_sdiff.mpr ⟨Pipeline.mem_restRefs_of main_arg0 (by decide) (by decide), by decide⟩),
    ((h.1.toR c).1 0).trans (((dats m 0 c).arrAt_in 0 rfl _).trans (A_eq m c 0)),
    (h.1.toR c).2 main_arg2 (Finset.mem_sdiff.mpr ⟨Pipeline.mem_restRefs_of main_arg2 (by decide) (by decide), by decide⟩),
    (h.1.toR c).2 main_arg3 (Finset.mem_sdiff.mpr ⟨Pipeline.mem_restRefs_of main_arg3 (by decide) (by decide), by decide⟩),
    (h.1.toR c).2 main_arg4 (Finset.mem_sdiff.mpr ⟨Pipeline.mem_restRefs_of main_arg4 (by decide) (by decide), by decide⟩),
    ((h.1.toR c).1 1).trans ((dats m 0 c).arrAt_eq_of_after_last 1 t0_0 (by decide +kernel) (lg m c) (fun j => by rw [after_lg]; rfl)),
    (h.1.written c (by decide)).trans (V₁_out m c)⟩, h.2⟩) (run_main m ρ)

end Cert.KernelIdeal.Hand
-- ==== Proof.Frames.lean ====
/-
  The three frames: the kernel's run read at each instance, and the reference's.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel's run at any values: it ends, the arguments as they were, every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Hand.run m ρ)

set_option smartUnfolding false in
/-- The kernel at its words. -/
theorem frame_kernel : Cert.quiescent_Kernel := fun m ρ _ => frame_any (F := Bits) m ρ

/-- The kernel at the ideal values. -/
theorem frame_ideal : Cert.quiescent_KernelIdeal := fun m ρ _ => frame_any (F := Ideal) m ρ

/-- The reference. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Reads.lean ====
/-
  What the kernel computes, read at an index at the ideal values.
-/
module

public import proofs.«01_k».proof.Proof.Launch
public import Idealize.ShloMosaic.Lib.Pointwise

@[expose] public section

noncomputable section

namespace Cert.KernelIdeal.Hand

open Cert.KernelIdeal Cert.KernelIdeal.Gen
open Idealize.ShloMosaic Idealize.ShloMosaic.TcCoe

/-- A choice made on two words being equal. -/
theorem choose_eq {α : Type} (x y : BitVec 32) (a b : α) : Scalar.select (IntOp.cmpi .eq x y) a b = if x = y then a else b := by
  unfold Scalar.select IntOp.cmpi
  by_cases h : x = y
  · subst h; simp
  · simp [beq_eq_false_iff_ne.mpr h]
    exact fun e => absurd e h

theorem choose_eq' {α : Type} (x y : BitVec 32) (a b : α) : Scalar.select (Scalar.cmpi .eq x y) a b = if x = y then a else b := choose_eq x y a b

theorem pay67_at (v : Vec Ideal S1x2x512x768 .f32) (b : Fin 2) (d : Fin 768) :
    k0_pay67 v (ix2 b d) = ∑ l : Fin 512, v (ix4 0 b l d) := by
  pointwise [k0_pay67]

theorem pay68_at (v : Vec Ideal S1x2x512x768 .f32) (b : Fin 2) (d : Fin 768) :
    k0_pay68 v (ix2 b d) = ∑ l : Fin 512, v (ix4 0 b l d) := by
  pointwise [k0_pay68, k0_pay67]

theorem pay69_at (v : Vec Ideal S1x2x512x768 .f32) (a : Vec Ideal S2x768 .f32) (b : Fin 2) (d : Fin 768) :
    k0_pay69 v a (ix2 b d) = a (ix2 b d) + ∑ l : Fin 512, v (ix4 0 b l d) := by
  pointwise [k0_pay69, k0_pay67]

theorem pay70_at (v : Vec Ideal S2x768 .f32) (R : Vec Ideal S768x8 .f32) (b : Fin 2) (e : Fin 8) :
    k0_pay70 v R (ix2 b e) = ∑ d : Fin 768, v (ix2 b d) * Ideal.ofBits .f32 0x3A000000#32 * R (ix2 d e) := by
  pointwise [k0_pay70]

theorem pay71_at (v : Vec Ideal S2x768 .f32) (R : Vec Ideal S768x8 .f32) (b : Fin 2) (e : Fin 8) :
    k0_pay71 v R (ix2 b e) = Ideal.exp (k0_pay70 v R (ix2 b e)
      - max (Ideal.ofBits .f32 0xFF800000#32) (Finset.univ.fold max (Ideal.ofBits .f32 0xFF800000#32) fun k => k0_pay70 v R (ix2 b k))) := by
  pointwise [k0_pay71]

theorem pay72_at (E : FVec Ideal S2x8 .f32) (b : Fin 2) (e : Fin 8) :
    k0_pay72 E (ix2 b e) = Ideal.div (E (ix2 b e)) (∑ k : Fin 8, E (ix2 b k)) := by
  pointwise [k0_pay72]

theorem pay73_at (E : FVec Ideal S2x8 .f32) (b : Fin 2) :
    k0_pay73 E (ix1 b) = Finset.univ.fold max (Ideal.ofBits .f32 0xFF800000#32) fun k => k0_pay72 E (ix2 b k) := by
  pointwise [k0_pay73]

theorem pay74_at (E : FVec Ideal S2x8 .f32) (b : Fin 2) :
    k0_pay74 E (ix1 b) = Finset.univ.fold IntOp.minsi 2147483647#32
      fun e : Fin 8 => if k0_pay72 E (ix2 b e) = k0_pay73 E (ix1 b) then BitVec.ofNat 32 e.val else 7#32 := by
  pointwise [k0_pay74]

theorem pay75_at (E : FVec Ideal S2x8 .f32) (b : Fin 2) (e : Fin 8) :
    k0_pay75 E (ix2 b e) = if BitVec.ofNat 32 e.val = k0_pay74 E (ix1 b) then Ideal.ofBits .f32 0xFF800000#32 else k0_pay72 E (ix2 b e) := by
  pointwise [k0_pay75]
  rw [choose_eq]

theorem pay76_at (E : FVec Ideal S2x8 .f32) (b : Fin 2) :
    k0_pay76 E (ix1 b) = Finset.univ.fold max (Ideal.ofBits .f32 0xFF800000#32) fun k => k0_pay75 E (ix2 b k) := by
  pointwise [k0_pay76]

theorem pay77_at (E : FVec Ideal S2x8 .f32) (b : Fin 2) :
    k0_pay77 E (ix1 b) = Finset.univ.fold IntOp.minsi 2147483647#32
      fun e : Fin 8 => if k0_pay75 E (ix2 b e) = k0_pay76 E (ix1 b) then BitVec.ofNat 32 e.val else 7#32 := by
  pointwise [k0_pay77]

theorem pay61_at (v : Vec Ideal S1x512x768 .f32) (l : Fin 512) (d : Fin 768) : k0_pay61 v (ix2 l d) = v (ix3 0 l d) := by
  pointwise [k0_pay61]

theorem pay62_at (v : Vec Ideal S1x512x768 .f32) (u : Vec Ideal S1x768x2048 .f32) (l : Fin 512) (f : Fin 2048) :
    k0_pay62 v u (ix2 l f) = ∑ d : Fin 768, v (ix3 0 l d) * u (ix3 0 d f) := by
  pointwise [k0_pay62, k0_pay61]

theorem pay63_at (x : FVec Ideal S512x768 .f32) (h : FVec Ideal S512x2048 .f32) (v : Vec Ideal S1x768x2048 .f32) (w : Vec Ideal S1x2048x768 .f32) (l : Fin 512) (d : Fin 768) :
    k0_pay63 x h v w (ix2 l d) = ∑ f : Fin 2048, h (ix2 l f) * Ideal.logistic (h (ix2 l f)) * (∑ d' : Fin 768, x (ix2 l d') * v (ix3 0 d' f)) * w (ix3 0 f d) := by
  pointwise [k0_pay63]

theorem pay64_at (p q : FVec Ideal S2 .f32) (b k : BitVec 32) :
    k0_pay64 p q b k = if k = 0#32 then (if b = 0#32 then p (ix1 0) else p (ix1 1)) else (if b = 0#32 then q (ix1 0) else q (ix1 1)) := by
  pointwise [k0_pay64]
  simp only [choose_eq']

theorem pay65_at (p q : FVec Ideal S2 .f32) (b k : BitVec 32) (x : FVec Ideal S512x768 .f32) (h : FVec Ideal S512x2048 .f32) (v : Vec Ideal S1x768x2048 .f32) (w : Vec Ideal S1x2048x768 .f32) (l : Fin 512) (d : Fin 768) :
    k0_pay65 p q b k x h v w (ix3 0 l d) = k0_pay64 p q b k * k0_pay63 x h v w (ix2 l d) := by
  pointwise [k0_pay65]

theorem pay66_at (p q : FVec Ideal S2 .f32) (b k : BitVec 32) (x : FVec Ideal S512x768 .f32) (h : FVec Ideal S512x2048 .f32) (v : Vec Ideal S1x768x2048 .f32) (w : Vec Ideal S1x2048x768 .f32) (o : Vec Ideal S1x512x768 .f32) (l : Fin 512) (d : Fin 768) :
    k0_pay66 p q b k x h v w o (ix3 0 l d) = o (ix3 0 l d) + k0_pay64 p q b k * k0_pay63 x h v w (ix2 l d) := by
  pointwise [k0_pay66]

end Cert.KernelIdeal.Hand

end
-- ==== Proof.Experts.lean ====
/-
  The kernel's output at an index: the two chosen experts, each by its weight.
-/
module

public import proofs.«01_k».proof.Proof.Reads

@[expose] public section

noncomputable section

namespace Cert.KernelIdeal.Hand

open Cert.KernelIdeal Cert.KernelIdeal.Gen
open Idealize.ShloMosaic Idealize.ShloMosaic.TcCoe

theorem rval_at (X : FVec Ideal S2x2048x768 .f32) (t : Fin 4) (b : Fin 2) (l : Fin 512) (d : Fin 768) :
    rval (F := Ideal) X t.val (ix3 b l d) = X (ix3 b ⟨t.val * 512 + l.val, by omega⟩ d) := by
  have h : (t.val % 4) = t.val := Nat.mod_eq_of_lt t.isLt
  refine congrArg X (funext fun a => Fin.ext ?_)
  fin_cases a
  · show 0 + 1 * b.val = b.val
    omega
  · show 512 * (t.val % 4) + 1 * l.val = t.val * 512 + l.val
    omega
  · show 0 + 1 * d.val = d.val
    omega

theorem xval_at (X : FVec Ideal S2x2048x768 .f32) (b : Fin 2) (t : ℕ) (t' : Fin 4) (ht : t % 4 = t'.val) (l : Fin 512) (d : Fin 768) :
    xval (F := Ideal) X b.val t (ix3 0 l d) = X (ix3 b ⟨t'.val * 512 + l.val, by omega⟩ d) := by
  refine congrArg X (funext fun a => Fin.ext ?_)
  fin_cases a
  · show b.val % 2 + 1 * 0 = b.val
    omega
  · show 512 * (t % 4) + 1 * l.val = t'.val * 512 + l.val
    omega
  · show 0 + 1 * d.val = d.val
    omega

theorem uval_at (U : FVec Ideal S8x768x2048 .f32) (e : Fin 8) (d : Fin 768) (f : Fin 2048) :
    uval (F := Ideal) U e.val (ix3 0 d f) = U (ix3 e d f) := by
  refine congrArg U (funext fun a => Fin.ext ?_)
  fin_cases a
  · show e.val % 8 + 1 * 0 = e.val
    omega
  · show 0 + 1 * d.val = d.val
    omega
  · show 0 + 1 * f.val = f.val
    omega

theorem vval_at (U : FVec Ideal S8x768x2048 .f32) (e : Fin 8) (d : Fin 768) (f : Fin 2048) :
    vval (F := Ideal) U e.val (ix3 0 d f) = U (ix3 e d f) := by
  refine congrArg U (funext fun a => Fin.ext ?_)
  fin_cases a
  · show e.val % 8 + 1 * 0 = e.val
    omega
  · show 0 + 1 * d.val = d.val
    omega
  · show 0 + 1 * f.val = f.val
    omega

theorem wval_at (W : FVec Ideal S8x2048x768 .f32) (e : Fin 8) (f : Fin 2048) (d : Fin 768) :
    wval (F := Ideal) W e.val (ix3 0 f d) = W (ix3 e f d) := by
  refine congrArg W (funext fun a => Fin.ext ?_)
  fin_cases a
  · show e.val % 8 + 1 * 0 = e.val
    omega
  · show 0 + 1 * f.val = f.val
    omega
  · show 0 + 1 * d.val = d.val
    omega

theorem rld_at (v : S2x512x768.Idx → Ideal .f32) (b : Fin 2) (l : Fin 512) (d : Fin 768) : rld (F := Ideal) v (ix4 0 b l d) = v (ix3 b l d) := by
  pointwise [rld]

/-- The router's sum is the sum over all the rows. -/
theorem tot_at (X : FVec Ideal S2x2048x768 .f32) (b : Fin 2) (d : Fin 768) :
    tot (F := Ideal) X (ix2 b d) = ∑ l : Fin 2048, X (ix3 b l d) := by
  have h := fun t : Fin 4 => show ∑ l : Fin 512, rld (F := Ideal) (rval (F := Ideal) X t.val) (ix4 0 b l d) = ∑ l : Fin 512, X (ix3 b ⟨t.val * 512 + l.val, by omega⟩ d) from
    Finset.sum_congr rfl fun l _ => by rw [rld_at, rval_at]
  rw [Fin.sum_univ_tiles 4 512 rfl, Fin.sum_univ_four, ← h 0, ← h 1, ← h 2, ← h 3]
  unfold tot
  rw [pay69_at, pay69_at, pay69_at, pay68_at]
  rfl

theorem x0_at (v : IVec S2 32) : x0 v = v (ix1 0) := by
  pointwise [x0, k0_pay1]
theorem x1_at (v : IVec S2 32) : x1 v = v (ix1 1) := by
  pointwise [x1, k0_pay2]

/-- What one expert gives for one row. -/
def term (X : FVec Ideal S2x2048x768 .f32) (U V : FVec Ideal S8x768x2048 .f32) (W : FVec Ideal S8x2048x768 .f32) (b : Fin 2) (l : Fin 2048) (d : Fin 768) (e : Fin 8) : EReal :=
  ∑ f : Fin 2048, (∑ k : Fin 768, X (ix3 b l k) * U (ix3 e k f)) * Ideal.logistic (∑ k : Fin 768, X (ix3 b l k) * U (ix3 e k f))
    * (∑ k : Fin 768, X (ix3 b l k) * V (ix3 e k f)) * W (ix3 e f d)

section
variable (s : Src Ideal)

theorem body_at (b : Fin 2) (t : ℕ) (ht : t / 8 = b.val) (t' : Fin 4) (ht' : t % 4 = t'.val) (e : Fin 8) (he : (s.e t).toNat = e.val) (l : Fin 512) (d : Fin 768) :
    k0_pay63 (k0_pay61 (xval s.X (t / 8) t)) (k0_pay62 (xval s.X (t / 8) t) (uval s.U (s.e t).toNat)) (vval s.V (s.e t).toNat) (wval s.W (s.e t).toNat) (ix2 l d)
      = term s.X s.U s.V s.W b ⟨t'.val * 512 + l.val, by omega⟩ d e := by
  rw [pay63_at, ht, he]
  unfold term
  refine Finset.sum_congr rfl fun f _ => ?_
  rw [pay62_at, wval_at]
  simp only [pay61_at, xval_at _ b t t' ht', uval_at, vval_at]

theorem e_zero (b : Fin 2) (l : Fin 4) : s.e (8 * b.val + l.val) = s.i₀ (ix1 b) := by
  unfold Src.e ee
  rw [x0_at, x1_at, x0_at, x1_at]
  fin_cases b <;> fin_cases l <;> rfl

theorem e_one (b : Fin 2) (l : Fin 4) : s.e (8 * b.val + 4 + l.val) = s.i₁ (ix1 b) := by
  unfold Src.e ee
  rw [x0_at, x1_at, x0_at, x1_at]
  fin_cases b <;> fin_cases l <;> rfl

theorem scale_zero (b : Fin 2) (l : Fin 4) : k0_pay64 s.s₀ s.s₁ (bw (8 * b.val + l.val)) (kw (8 * b.val + l.val)) = s.s₀ (ix1 b) := by
  rw [pay64_at]
  fin_cases b <;> fin_cases l <;> rfl

theorem scale_one (b : Fin 2) (l : Fin 4) : k0_pay64 s.s₀ s.s₁ (bw (8 * b.val + 4 + l.val)) (kw (8 * b.val + 4 + l.val)) = s.s₁ (ix1 b) := by
  rw [pay64_at]
  fin_cases b <;> fin_cases l <;> rfl

/-- The output at an index. -/
theorem outv_eq_terms (b : Fin 2) (l : Fin 2048) (d : Fin 768) (e₀ e₁ : Fin 8) (h₀ : (s.i₀ (ix1 b)).toNat = e₀.val) (h₁ : (s.i₁ (ix1 b)).toNat = e₁.val) :
    outv s (ix3 b l d) = s.s₀ (ix1 b) * term s.X s.U s.V s.W b l d e₀ + s.s₁ (ix1 b) * term s.X s.U s.V s.W b l d e₁ := by
  obtain ⟨t, i, rfl⟩ : ∃ (t : Fin 4) (i : Fin 512), l = ⟨t.val * 512 + i.val, by omega⟩ :=
    ⟨⟨l.val / 512, by omega⟩, ⟨l.val % 512, by omega⟩, Fin.ext (by show l.val = l.val / 512 * 512 + l.val % 512; omega)⟩
  have hy : row_ b.val (at_ t.val (ix3 0 i d)) = ix3 b ⟨t.val * 512 + i.val, by omega⟩ d := by
    funext a
    apply Fin.ext
    fin_cases a
    · show b.val % 2 + 1 * (0 + 1 * 0) = b.val
      omega
    · show 0 + 1 * (512 * (t.val % 4) + 1 * i.val) = t.val * 512 + i.val
      omega
    · show 0 + 1 * (0 + 1 * d.val) = d.val
      omega
  rw [← hy, outv_at s b.val b.isLt, res_at s b.val t.val t.isLt]
  unfold q₁ q₀
  rw [pay66_at, pay65_at, scale_zero, scale_one,
    body_at s b (8 * b.val + t.val) (by omega) t (by omega) e₀ (by rw [e_zero]; exact h₀),
    body_at s b (8 * b.val + 4 + t.val) (by omega) t (by omega) e₁ (by rw [e_one]; exact h₁)]

end

end Cert.KernelIdeal.Hand

end
-- ==== Proof.Terms.lean ====
/-
  The reference's results, its intermediate values named, and each of them read at an index.
-/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

section
variable {F : FTy → Type} [FloatOps F]

/-- The router's logits. -/
def logits (X : FVec F S2x2048x768 .f32) (R : FVec F S768x8 .f32) : FVec F S2x8 .f32 :=
  Host.divf (Host.reduceAdd (Host.dotGeneral dot_S2x2048x768_S768x8_S2x2048x8_2_0_01_1_n_n none X R) (constant S_ .f32 0x00000000#32) reducesTo_S2x2048x8_S2x8_d1 h_S_)
    (broadcastInDim S2x8 ![] bcast_S_S2x8 (constant S_ .f32 0x45000000#32))

/-- The exponentials of the logits off their greatest. -/
def exps (L : FVec F S2x8 .f32) : FVec F S2x8 .f32 :=
  Host.exp (subf L (broadcastInDim S2x8 ![0, 1] bcast_S2x1_S2x8_0_1 (broadcastInDim S2x1 ![0] bcast_S2_S2x1_0
    (maximumf (broadcastInDim S2 ![] bcast_S_S2 (constant S_ .f32 0xFF800000#32)) (Host.reduce FloatOps.maximumf L (constant S_ .f32 0xFF800000#32) reducesTo_S2x8_S2_d1 h_S_)))))

/-- The probabilities. -/
def probs (E : FVec F S2x8 .f32) : FVec F S2x8 .f32 :=
  Host.divf E (broadcastInDim S2x8 ![0, 1] bcast_S2x1_S2x8_0_1 (broadcastInDim S2x1 ![0] bcast_S2_S2x1_0 (Host.reduceAdd E (constant S_ .f32 0x00000000#32) reducesTo_S2x8_S2_d1 h_S_)))

/-- The two greatest of each row and where they stand. -/
def top (P : FVec F S2x8 .f32) : FVec F S2x2 .f32 × IVec S2x2 32 :=
  Host.topK S2x2 1 (FloatOps.cmpfTotal .gt) P sliceFits_S2x8_S2x2

/-- Every token through one of the two input matrices of every expert. -/
def into (U : FVec F S8x768x2048 .f32) (X : FVec F S2x2048x768 .f32) : FVec F S2x8x2048x2048 .f32 :=
  transpose S2x8x2048x2048 [2, 0, 3, 1] (Host.dotGeneral dot_S8x768x2048_S2x2048x768_S8x2048x2x2048_1_2_02_01_n_n none U X) transposes_S8x2048x2x2048_S2x8x2048x2048_2_0_3_1

/-- The gated product. -/
def gated (A B : FVec F S2x8x2048x2048 .f32) : FVec F S2x8x2048x2048 .f32 :=
  mulf (mulf A (Host.divf (broadcastInDim S2x8x2048x2048 ![] bcast_S_S2x8x2048x2048 (constant S_ .f32 0x3F800000#32))
    (addf (broadcastInDim S2x8x2048x2048 ![] bcast_S_S2x8x2048x2048 (constant S_ .f32 0x3F800000#32)) (Host.exp (Host.negf A))))) B

/-- Every expert's output. -/
def outs (W : FVec F S8x2048x768 .f32) (H : FVec F S2x8x2048x2048 .f32) : FVec F S2x8x2048x768 .f32 :=
  transpose S2x8x2048x768 [2, 0, 3, 1] (Host.dotGeneral dot_S8x2048x768_S2x8x2048x2048_S8x768x2x2048_1_3_2_02_0_1 none W H) transposes_S8x768x2x2048_S2x8x2048x768_2_0_3_1

/-- The batch rows' numbers, as the gather takes them. -/
def rows : IVec S2x2 32 :=
  broadcastInDim S2x2 ![0, 1] bcast_S2x1_S2x2_0_1 (select (cmpi .slt (broadcastInDim S2x1 ![0] bcast_S2_S2x1_0 (iotaInDim S2 32 0)) (broadcastInDim S2x1 ![] bcast_S_S2x1 (constantI S_ 32 0#32)))
    (addi (broadcastInDim S2x1 ![0] bcast_S2_S2x1_0 (iotaInDim S2 32 0)) (broadcastInDim S2x1 ![] bcast_S_S2x1 (constantI S_ 32 2#32))) (broadcastInDim S2x1 ![0] bcast_S2_S2x1_0 (iotaInDim S2 32 0)))

/-- The experts' numbers, as the gather takes them. -/
def picks (I : IVec S2x2 32) : IVec S2x2 32 :=
  select (cmpi .slt I (broadcastInDim S2x2 ![] bcast_S_S2x2 (constantI S_ 32 0#32))) (addi I (broadcastInDim S2x2 ![] bcast_S_S2x2 (constantI S_ 32 8#32))) I

/-- The pairs the gather reads at. -/
def pairs (I : IVec S2x2 32) : IVec S2x2x2 32 :=
  concatenate S2x2x2 2 [⟨S2x2x1, broadcastInDim S2x2x1 ![0, 1] bcast_S2x2_S2x2x1_0_1 rows⟩, ⟨S2x2x1, broadcastInDim S2x2x1 ![0, 1] bcast_S2x2_S2x2x1_0_1 (picks I)⟩] concatenates_S2x2x1_S2x2x1_S2x2x2_d2

/-- The chosen experts' outputs. -/
def chosen (O : FVec F S2x8x2048x768 .f32) (I : IVec S2x2 32) : FVec F S2x2x2048x768 .f32 :=
  Host.gather gather_S2x8x2048x768_S2x2x2_S2x2x2048x768_23_01_n_n_01_2_112048768 O (pairs I)

/-- The weighted sum. -/
def mixed (C : FVec F S2x2x2048x768 .f32) (w : FVec F S2x2 .f32) : FVec F S2x2048x768 .f32 :=
  Host.reduceAdd (mulf C (broadcastInDim S2x2x2048x768 ![0, 1, 2, 3] bcast_S2x2x1x1_S2x2x2048x768_0_1_2_3 (broadcastInDim S2x2x1x1 ![0, 1] bcast_S2x2_S2x2x1x1_0_1 w)))
    (constant S_ .f32 0x00000000#32) reducesTo_S2x2x2048x768_S2x2048x768_d1 h_S_

set_option maxRecDepth 8192 in
theorem res_eq (m : (ℓ : Loc nD τ sig) → Buf (Elt F) ℓ) (c : Dev nD) (X : FVec F S2x2048x768 .f32) (R : FVec F S768x8 .f32)
    (U : FVec F S8x768x2048 .f32) (W : FVec F S8x2048x768 .f32) (V : FVec F S8x768x2048 .f32)
    (h₀ : m ((c.tc : Thread nD τ).loc main_arg0) = X) (h₁ : m ((c.tc : Thread nD τ).loc main_arg1) = R) (h₂ : m ((c.tc : Thread nD τ).loc main_arg2) = U)
    (h₃ : m ((c.tc : Thread nD τ).loc main_arg3) = W) (h₄ : m ((c.tc : Thread nD τ).loc main_arg4) = V) :
    res_main_v43 m c = mixed (chosen (outs W (gated (into U X) (into V X))) (top (probs (exps (logits X R)))).2) (top (probs (exps (logits X R)))).1 := by
  subst h₀ h₁ h₂ h₃ h₄
  rfl

end

theorem logits_at (X : FVec Ideal S2x2048x768 .f32) (R : FVec Ideal S768x8 .f32) (b : Fin 2) (e : Fin 8) :
    logits X R (ix2 b e) = Ideal.div (∑ l : Fin 2048, ∑ d : Fin 768, X (ix3 b l d) * R (ix2 d e)) (Ideal.ofBits .f32 0x45000000#32) := by
  pointwise [logits]

theorem exps_at (L : FVec Ideal S2x8 .f32) (b : Fin 2) (e : Fin 8) :
    exps L (ix2 b e) = Ideal.exp (L (ix2 b e) - max (Ideal.ofBits .f32 0xFF800000#32) (Finset.univ.fold max (Ideal.ofBits .f32 0xFF800000#32) fun k => L (ix2 b k))) := by
  pointwise [exps]

theorem probs_at (E : FVec Ideal S2x8 .f32) (b : Fin 2) (e : Fin 8) :
    probs E (ix2 b e) = Ideal.div (E (ix2 b e)) (∑ k : Fin 8, E (ix2 b k)) := by
  pointwise [probs]

theorem into_at (U : FVec Ideal S8x768x2048 .f32) (X : FVec Ideal S2x2048x768 .f32) (b : Fin 2) (e : Fin 8) (l f : Fin 2048) :
    into U X (ix4 b e l f) = ∑ d : Fin 768, U (ix3 e d f) * X (ix3 b l d) := by
  pointwise [into]

theorem gated_at (A B : FVec Ideal S2x8x2048x2048 .f32) (j : S2x8x2048x2048.Idx) :
    gated A B j = A j * Ideal.logistic (A j) * B j := by
  pointwise [gated]
  rfl

theorem outs_at (W : FVec Ideal S8x2048x768 .f32) (H : FVec Ideal S2x8x2048x2048 .f32) (b : Fin 2) (e : Fin 8) (l : Fin 2048) (d : Fin 768) :
    outs W H (ix4 b e l d) = ∑ f : Fin 2048, W (ix3 e f d) * H (ix4 b e l f) := by
  pointwise [outs]

theorem mixed_at (C : FVec Ideal S2x2x2048x768 .f32) (w : FVec Ideal S2x2 .f32) (b : Fin 2) (l : Fin 2048) (d : Fin 768) :
    mixed C w (ix3 b l d) = ∑ k : Fin 2, C (ix4 b k l d) * w (ix2 b k) := by
  pointwise [mixed]

theorem pairs_at₀ (I : IVec S2x2 32) (b k : Fin 2) : pairs I (ix3 b k 0) = BitVec.ofNat 32 b := by
  pointwise [pairs, rows]
  revert b
  decide

theorem pairs_at₁ (I : IVec S2x2 32) (b k : Fin 2) (e : Fin 8) (h : I (ix2 b k) = BitVec.ofNat 32 e) : pairs I (ix3 b k 1) = BitVec.ofNat 32 e := by
  pointwise [pairs, picks]
  rw [h]
  clear h
  revert e
  decide

/-- The gather takes an expert's output whole. -/
theorem chosen_at (O : FVec Ideal S2x8x2048x768 .f32) (I : IVec S2x2 32) (b k : Fin 2) (l : Fin 2048) (d : Fin 768) (e : Fin 8)
    (h : I (ix2 b k) = BitVec.ofNat 32 e) : chosen O I (ix4 b k l d) = O (ix4 b e l d) := by
  unfold chosen Host.gather
  refine congrArg O (funext fun a => Fin.ext ?_)
  show GatherDims.start _ _ _ a + GatherDims.batchCoord _ _ a + GatherDims.offCoord _ _ a = _
  rw [GatherDims.batchCoord_eq_zero _ _ _ (List.not_mem_nil)]
  have h₀ : ∀ hc, pairs I (GatherDims.siIdx gather_S2x8x2048x768_S2x2x2_S2x2x2048x768_23_01_n_n_01_2_112048768 (ix4 b k l d) ⟨0, hc⟩) = BitVec.ofNat 32 b := fun hc => by
    rw [← pairs_at₀ I b k]
    refine congrArg (pairs I) (funext fun a => ?_)
    fin_cases a <;> rfl
  have h₁ : ∀ hc, pairs I (GatherDims.siIdx gather_S2x8x2048x768_S2x2x2_S2x2x2048x768_23_01_n_n_01_2_112048768 (ix4 b k l d) ⟨1, hc⟩) = BitVec.ofNat 32 e := fun hc => by
    rw [← pairs_at₁ I b k e h]
    refine congrArg (pairs I) (funext fun a => ?_)
    fin_cases a <;> rfl
  fin_cases a
  · refine (congrArg (fun v : BitVec 32 => min v.toInt.toNat (2 - 1) + 0 + 0) (h₀ (by decide))).trans ?_
    show min (BitVec.ofNat 32 b.val).toInt.toNat (2 - 1) + 0 + 0 = b.val
    clear h h₀ h₁
    revert b; decide
  · refine (congrArg (fun v : BitVec 32 => min v.toInt.toNat (8 - 1) + 0 + 0) (h₁ (by decide))).trans ?_
    show min (BitVec.ofNat 32 e.val).toInt.toNat (8 - 1) + 0 + 0 = e.val
    clear h h₀ h₁
    revert e; decide
  · show 0 + 0 + l.val = l.val
    omega
  · show 0 + 0 + d.val = d.val
    omega

/-- Where a stable descending sort of a row puts its places. -/
def place (p : Fin 8 → EReal) : Fin 8 → Fin 8 := sortedFrom fun i j => decide (p j < p i)

theorem top_at (P : FVec Ideal S2x8 .f32) (b k : Fin 2) :
    (top P).1 (ix2 b k) = P (ix2 b (place (fun e => P (ix2 b e)) (k.castLE (by decide))))
      ∧ (top P).2 (ix2 b k) = BitVec.ofNat 32 (place (fun e => P (ix2 b e)) (k.castLE (by decide))).val := by
  have hc : ∀ (x : S2x8.Idx) (i : Fin 8), x 0 = b → x.along 1 i = ix2 b i := fun x i h => by
    funext a
    fin_cases a
    · exact h
    · rfl
  have hp : ∀ x : S2x8.Idx, x 0 = b → sortedFrom (fun i j => FloatOps.cmpfTotal (F := Ideal) (φ := .f32) .gt (P (x.along 1 i)) (P (x.along 1 j)) == 1#1) = place fun e => P (ix2 b e) := fun x h => by
    unfold place
    refine congrArg sortedFrom (funext fun i => funext fun j => ?_)
    rw [hc x i h, hc x j h]
    show (BitVec.ofBool (decide (P (ix2 b j) < P (ix2 b i))) == 1#1) = decide (P (ix2 b j) < P (ix2 b i))
    cases decide (P (ix2 b j) < P (ix2 b i)) <;> rfl
  have hx : ∀ (x : S2x8.Idx) (i : Fin 8), x 0 = b → x 1 = i →
      x.along 1 (sortedFrom (fun i j => FloatOps.cmpfTotal (F := Ideal) (φ := .f32) .gt (P (x.along 1 i)) (P (x.along 1 j)) == 1#1) (x 1)) = ix2 b (place (fun e => P (ix2 b e)) i) :=
    fun x i h h' => by rw [hp x h, hc x _ h, h']
  have h₀ : ∀ q : 0 + b.val < 2, (⟨0 + b.val, q⟩ : Fin 2) = b := fun q => Fin.ext (Nat.zero_add _)
  have h₁ : ∀ q : 0 + k.val < 8, (⟨0 + k.val, q⟩ : Fin 8) = k.castLE (by decide) := fun q => Fin.ext (Nat.zero_add _)
  unfold top Host.topK Host.sort2
  simp only [dif_pos (show 1 < S2x8.rank by decide)]
  unfold extractStridedSlice
  constructor
  · exact congrArg P (hx _ _ (h₀ _) (h₁ _))
  · exact congrArg (fun x : S2x8.Idx => BitVec.ofNat 32 (x 1).val) (hx _ _ (h₀ _) (h₁ _))

end Cert.ReferenceIdeal.Hand

end
-- ==== Proof.Select.lean ====
/-
  The first two places of a stable descending sort of eight values, and the same two places found by a maximum, the
  least place that attains it, and the same again with that place struck out.
-/
module

public import proofs.«01_k».proof.Proof.Terms
public import Idealize.ShloMosaic.Lib.SortFacts

@[expose] public section

noncomputable section

namespace Cert.ReferenceIdeal.Hand

open Idealize.ShloMosaic

section
variable (p : Fin 8 → EReal)

/-- The order the sort puts the places in: greater values first, and equal ones by place. -/
def before (i j : Fin 8) : Bool := decide (p j < p i ∨ (p i = p j ∧ i < j))

theorem before_asymm (a b : Fin 8) (h : before p a b = true) : before p b a = false := by
  unfold before at h ⊢
  rw [decide_eq_true_eq] at h
  rw [decide_eq_false_iff_not]
  rintro (h' | ⟨h', h''⟩)
  · rcases h with h | ⟨h, -⟩
    · exact lt_asymm h h'
    · exact absurd h' (by rw [h]; exact lt_irrefl _)
  · rcases h with h | ⟨-, h⟩
    · exact absurd h (by rw [h']; exact lt_irrefl _)
    · exact lt_asymm h h''

theorem before_trans (a b c : Fin 8) (h : before p a b = false) (h' : before p b c = false) : before p a c = false := by
  unfold before at h h' ⊢
  rw [decide_eq_false_iff_not] at h h' ⊢
  push Not at h h' ⊢
  refine ⟨h.1.trans h'.1, fun e => ?_⟩
  have e' : p a = p b := le_antisymm h.1 (h'.1.trans_eq e.symm)
  exact (h'.2 (e'.symm.trans e)).trans (h.2 e')

theorem sort_eq : ∀ l : List (Fin 8), l.Pairwise (· < ·) →
    stableSort (fun i j => decide (p j < p i)) l = stableSort (before p) l
  | [], _ => rfl
  | a :: l, h => by
    obtain ⟨h, h'⟩ := List.pairwise_cons.mp h
    show insertBefore _ a (stableSort _ l) = insertBefore _ a (stableSort _ l)
    rw [sort_eq l h']
    refine insertBefore_congr _ _ _ _ fun b hb => ?_
    have hb := h b ((perm_stableSort _ l).mem_iff.mp hb)
    unfold before
    rw [decide_eq_decide]
    exact ⟨Or.inl, fun h => h.resolve_right fun h => lt_asymm hb h.2⟩

theorem place_eq : place p = sortedFrom (before p) := by
  funext k
  have h := sort_eq p (List.finRange 8) (List.pairwise_lt_finRange 8)
  unfold place sortedFrom sortPositions
  simp only [List.get_eq_getElem, h]
  rfl

/-- No later place sorts before an earlier one. -/
theorem place_order (i j : Fin 8) (h : i < j) : p (place p j) ≤ p (place p i) ∧ (p (place p j) = p (place p i) → place p i < place p j) := by
  rw [place_eq]
  have h' := sortedFrom_noInversion (before p) (before p) (before_asymm p) (fun _ _ h => h) (before_trans p) i j h
  have hn : sortedFrom (before p) i ≠ sortedFrom (before p) j := fun e => absurd (sortedFrom_injective _ e) (ne_of_lt h)
  unfold before at h'
  rw [decide_eq_false_iff_not] at h'
  push Not at h'
  exact ⟨h'.1, fun e => lt_of_le_of_ne (h'.2 e) hn⟩

/-- Every place is some rank's. -/
theorem place_surj (e : Fin 8) : ∃ j, place p j = e := by
  rw [place_eq]
  exact sortedFrom_surjective _ e

theorem first_le (e : Fin 8) : p e ≤ p (place p 0) := by
  obtain ⟨j, rfl⟩ := place_surj p e
  rcases eq_or_ne j 0 with rfl | h
  · exact le_rfl
  · exact (place_order p 0 j (Fin.pos_of_ne_zero h)).1

theorem first_least (e : Fin 8) (h : p e = p (place p 0)) : place p 0 ≤ e := by
  obtain ⟨j, rfl⟩ := place_surj p e
  rcases eq_or_ne j 0 with rfl | hj
  · exact le_rfl
  · exact ((place_order p 0 j (Fin.pos_of_ne_zero hj)).2 h).le

theorem second_ne : place p 1 ≠ place p 0 := by
  rw [place_eq]
  exact fun e => absurd (sortedFrom_injective _ e) (by decide)

theorem second_le (e : Fin 8) (he : e ≠ place p 0) : p e ≤ p (place p 1) := by
  obtain ⟨j, rfl⟩ := place_surj p e
  rcases eq_or_ne j 1 with rfl | h
  · exact le_rfl
  · refine (place_order p 1 j ?_).1
    have : j ≠ 0 := fun h => he (by rw [h])
    omega

theorem second_least (e : Fin 8) (he : e ≠ place p 0) (h : p e = p (place p 1)) : place p 1 ≤ e := by
  obtain ⟨j, rfl⟩ := place_surj p e
  rcases eq_or_ne j 1 with rfl | hj
  · exact le_rfl
  · refine ((place_order p 1 j ?_).2 h).le
    have : j ≠ 0 := fun h => he (by rw [h])
    omega

end

/-- A maximum that some place attains. -/
theorem fold_max_eq (f : Fin 8 → EReal) (b : EReal) (k : Fin 8) (hb : b ≤ f k) (h : ∀ e, f e ≤ f k) : Finset.univ.fold max b f = f k :=
  le_antisymm ((Finset.fold_max_le _).mpr ⟨hb, fun e _ => h e⟩) ((Finset.le_fold_max _).mpr (Or.inr ⟨k, Finset.mem_univ _, le_rfl⟩))

/-- The least place of those marked. -/
theorem fold_min_eq : ∀ (q : Fin 8 → Bool) (k : Fin 8), q k = true → (∀ e, q e = true → k ≤ e) →
    Finset.univ.fold IntOp.minsi 2147483647#32 (fun e : Fin 8 => if q e = true then BitVec.ofNat 32 e.val else 7#32) = BitVec.ofNat 32 k.val := by
  decide +kernel

end Cert.ReferenceIdeal.Hand

end
-- ==== Proof.Logits.lean ====
/-
  The router's logits: the kernel's mean first and product after, and the reference's product first and mean after,
  are the same real number when the inputs are real.
-/
module

public import proofs.«01_k».proof.Proof.Experts
public import proofs.«01_k».proof.Proof.Select

@[expose] public section

noncomputable section

namespace Cert.Proof

open Idealize.ShloMosaic Cert.ReferenceIdeal

theorem word_ninf : Ideal.ofBits .f32 0xFF800000#32 = ⊥ := by
  simp [Ideal.ofBits, Ideal.ieee]

theorem word_recip : Ideal.ofBits .f32 0x3A000000#32 = ((1 / 2048 : ℝ) : EReal) := by
  simp [Ideal.ofBits, Ideal.ieee, -EReal.coe_mul]; norm_num

theorem word_count : Ideal.ofBits .f32 0x45000000#32 = ((2048 : ℝ) : EReal) := by
  simp [Ideal.ofBits, Ideal.ieee, -EReal.coe_mul]; norm_num

/-- A finite sum of reals. -/
theorem sum_real {ι : Type} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

theorem logit_real (x : Fin 2048 → Fin 768 → ℝ) (r : Fin 768 → ℝ) :
    (∑ d : Fin 768, (∑ l : Fin 2048, ((x l d : ℝ) : EReal)) * ((1 / 2048 : ℝ) : EReal) * ((r d : ℝ) : EReal))
      = ((∑ d : Fin 768, (∑ l : Fin 2048, x l d) * (1 / 2048) * r d : ℝ) : EReal) := by
  simp only [sum_real, ← EReal.coe_mul]

theorem logit_mean (x : Fin 2048 → Fin 768 → ℝ) (r : Fin 768 → ℝ) :
    Ideal.div (∑ l : Fin 2048, ∑ d : Fin 768, ((x l d : ℝ) : EReal) * ((r d : ℝ) : EReal)) ((2048 : ℝ) : EReal)
      = ((∑ d : Fin 768, (∑ l : Fin 2048, x l d) * (1 / 2048) * r d : ℝ) : EReal) := by
  rw [Ideal.div_coe (by norm_num)]
  simp only [← EReal.coe_mul, sum_real]
  congr 1
  rw [Finset.sum_comm, Finset.sum_mul]
  refine Finset.sum_congr rfl fun d _ => ?_
  rw [← Finset.sum_mul]
  ring

section
variable (X : FVec Ideal S2x2048x768 .f32) (R : FVec Ideal S768x8 .f32) (hX : ∀ j, ∃ x : ℝ, X j = x) (hR : ∀ j, ∃ x : ℝ, R j = x)

include hX hR

/-- The two programs' logits are one real number. -/
theorem logits_agree (b : Fin 2) (e : Fin 8) : ∃ z : ℝ, Cert.KernelIdeal.Gen.k0_pay70 (F := Ideal) (Cert.KernelIdeal.Hand.tot (F := Ideal) X) R (ix2 b e) = z
    ∧ Cert.ReferenceIdeal.Hand.logits X R (ix2 b e) = z := by
  choose x hx using hX
  choose r hr using hR
  refine ⟨∑ d : Fin 768, (∑ l : Fin 2048, x (ix3 b l d)) * (1 / 2048) * r (ix2 d e), ?_, ?_⟩
  · rw [Cert.KernelIdeal.Hand.pay70_at, ← logit_real (fun l d => x (ix3 b l d)) (fun d => r (ix2 d e)), word_recip]
    refine Finset.sum_congr rfl fun d _ => ?_
    rw [Cert.KernelIdeal.Hand.tot_at, hr]
    simp only [hx]
  · rw [Cert.ReferenceIdeal.Hand.logits_at, ← logit_mean (fun l d => x (ix3 b l d)) (fun d => r (ix2 d e)), word_count]
    simp only [hx, hr]

theorem logits_eq : Cert.KernelIdeal.Gen.k0_pay70 (F := Ideal) (Cert.KernelIdeal.Hand.tot (F := Ideal) X) R = Cert.ReferenceIdeal.Hand.logits X R := by
  funext j
  rw [eq_ix2 j]
  obtain ⟨z, h, h'⟩ := logits_agree X R hX hR (j 0) (j 1)
  exact h.trans h'.symm

/-- The exponentials are the reference's, and positive reals. -/
theorem exps_agree (b : Fin 2) (e : Fin 8) : Cert.KernelIdeal.Gen.k0_pay71 (F := Ideal) (Cert.KernelIdeal.Hand.tot (F := Ideal) X) R (ix2 b e) = Cert.ReferenceIdeal.Hand.exps (Cert.ReferenceIdeal.Hand.logits X R) (ix2 b e) := by
  rw [Cert.KernelIdeal.Hand.pay71_at, Cert.ReferenceIdeal.Hand.exps_at, logits_eq X R hX hR]

theorem exps_real (b : Fin 2) : ∃ y : Fin 8 → ℝ, ∀ e, 0 < y e ∧ Cert.ReferenceIdeal.Hand.exps (Cert.ReferenceIdeal.Hand.logits X R) (ix2 b e) = y e := by
  choose z _ hz using fun e => logits_agree X R hX hR b e
  obtain ⟨k, -, hk⟩ := Finset.exists_max_image Finset.univ z ⟨0, Finset.mem_univ 0⟩
  refine ⟨fun e => Real.exp (z e - z k), fun e => ⟨Real.exp_pos _, ?_⟩⟩
  rw [Cert.ReferenceIdeal.Hand.exps_at, word_ninf, Cert.ReferenceIdeal.Hand.fold_max_eq _ _ k bot_le (fun e => by rw [hz, hz]; exact EReal.coe_le_coe_iff.mpr (hk e (Finset.mem_univ e))),
    max_eq_right bot_le, hz, hz, ← EReal.coe_sub, Ideal.exp_coe]

theorem probs_agree (b : Fin 2) (e : Fin 8) : Cert.KernelIdeal.Gen.k0_pay72 (F := Ideal) (Cert.KernelIdeal.Gen.k0_pay71 (F := Ideal) (Cert.KernelIdeal.Hand.tot (F := Ideal) X) R) (ix2 b e)
    = Cert.ReferenceIdeal.Hand.probs (Cert.ReferenceIdeal.Hand.exps (Cert.ReferenceIdeal.Hand.logits X R)) (ix2 b e) := by
  rw [Cert.KernelIdeal.Hand.pay72_at, Cert.ReferenceIdeal.Hand.probs_at]
  simp only [exps_agree X R hX hR]

theorem probs_ne (b : Fin 2) (e : Fin 8) : Cert.ReferenceIdeal.Hand.probs (Cert.ReferenceIdeal.Hand.exps (Cert.ReferenceIdeal.Hand.logits X R)) (ix2 b e) ≠ ⊥ := by
  obtain ⟨y, hy⟩ := exps_real X R hX hR b
  have hpos : 0 < ∑ k : Fin 8, y k := Finset.sum_pos (fun k _ => (hy k).1) ⟨0, Finset.mem_univ 0⟩
  rw [Cert.ReferenceIdeal.Hand.probs_at]
  simp only [fun e => (hy e).2]
  rw [sum_real, Ideal.div_coe hpos.ne', ← EReal.coe_mul]
  exact EReal.coe_ne_bot _

/-- The kernel's choice of two experts and their weights is the reference's. -/
theorem choice (b : Fin 2) :
    let E := Cert.KernelIdeal.Gen.k0_pay71 (F := Ideal) (Cert.KernelIdeal.Hand.tot (F := Ideal) X) R
    let p := fun e : Fin 8 => Cert.ReferenceIdeal.Hand.probs (Cert.ReferenceIdeal.Hand.exps (Cert.ReferenceIdeal.Hand.logits X R)) (ix2 b e)
    Cert.KernelIdeal.Gen.k0_pay73 (F := Ideal) E (ix1 b) = p (Cert.ReferenceIdeal.Hand.place p 0)
      ∧ Cert.KernelIdeal.Gen.k0_pay74 (F := Ideal) E (ix1 b) = BitVec.ofNat 32 (Cert.ReferenceIdeal.Hand.place p 0).val
      ∧ Cert.KernelIdeal.Gen.k0_pay76 (F := Ideal) E (ix1 b) = p (Cert.ReferenceIdeal.Hand.place p 1)
      ∧ Cert.KernelIdeal.Gen.k0_pay77 (F := Ideal) E (ix1 b) = BitVec.ofNat 32 (Cert.ReferenceIdeal.Hand.place p 1).val := by
  intro E p
  have hE : ∀ e, Cert.KernelIdeal.Gen.k0_pay72 (F := Ideal) E (ix2 b e) = p e := probs_agree X R hX hR b
  have hp : ∀ e, p e ≠ ⊥ := probs_ne X R hX hR b
  have h₀ : Cert.KernelIdeal.Gen.k0_pay73 (F := Ideal) E (ix1 b) = p (Cert.ReferenceIdeal.Hand.place p 0) := by
    rw [Cert.KernelIdeal.Hand.pay73_at, word_ninf]
    simp only [hE]
    exact Cert.ReferenceIdeal.Hand.fold_max_eq p _ _ bot_le (Cert.ReferenceIdeal.Hand.first_le p)
  have h₁ : Cert.KernelIdeal.Gen.k0_pay74 (F := Ideal) E (ix1 b) = BitVec.ofNat 32 (Cert.ReferenceIdeal.Hand.place p 0).val := by
    rw [Cert.KernelIdeal.Hand.pay74_at, h₀]
    simp only [hE]
    have h := Cert.ReferenceIdeal.Hand.fold_min_eq (fun e => decide (p e = p (Cert.ReferenceIdeal.Hand.place p 0))) (Cert.ReferenceIdeal.Hand.place p 0) (by simp)
      (fun e he => Cert.ReferenceIdeal.Hand.first_least p e (by simpa using he))
    simpa only [decide_eq_true_eq] using h
  have h₂ : ∀ e, Cert.KernelIdeal.Gen.k0_pay75 (F := Ideal) E (ix2 b e) = if e = Cert.ReferenceIdeal.Hand.place p 0 then ⊥ else p e := fun e => by
    rw [Cert.KernelIdeal.Hand.pay75_at, h₁, word_ninf, hE]
    have : (BitVec.ofNat 32 e.val = BitVec.ofNat 32 (Cert.ReferenceIdeal.Hand.place p 0).val) ↔ e = Cert.ReferenceIdeal.Hand.place p 0 := by
      generalize Cert.ReferenceIdeal.Hand.place p 0 = k
      clear h₀ h₁ hE hp E p
      revert e k
      decide
    simp only [this]
  have h₃ : Cert.KernelIdeal.Gen.k0_pay76 (F := Ideal) E (ix1 b) = p (Cert.ReferenceIdeal.Hand.place p 1) := by
    rw [Cert.KernelIdeal.Hand.pay76_at, word_ninf]
    simp only [h₂]
    have h := Cert.ReferenceIdeal.Hand.fold_max_eq (fun e => if e = Cert.ReferenceIdeal.Hand.place p 0 then ⊥ else p e) ⊥ (Cert.ReferenceIdeal.Hand.place p 1) bot_le (fun e => by
      simp only [if_neg (Cert.ReferenceIdeal.Hand.second_ne p)]
      split
      · exact bot_le
      · exact Cert.ReferenceIdeal.Hand.second_le p e (by assumption))
    rw [h, if_neg (Cert.ReferenceIdeal.Hand.second_ne p)]
  refine ⟨h₀, h₁, h₃, ?_⟩
  rw [Cert.KernelIdeal.Hand.pay77_at, h₃]
  simp only [h₂]
  have h := Cert.ReferenceIdeal.Hand.fold_min_eq (fun e => decide ((if e = Cert.ReferenceIdeal.Hand.place p 0 then ⊥ else p e) = p (Cert.ReferenceIdeal.Hand.place p 1))) (Cert.ReferenceIdeal.Hand.place p 1)
    (by simp [Cert.ReferenceIdeal.Hand.second_ne p])
    (fun e he => by
      rw [decide_eq_true_eq] at he
      by_cases h : e = Cert.ReferenceIdeal.Hand.place p 0
      · rw [if_pos h] at he
        exact absurd he.symm (hp _)
      · rw [if_neg h] at he
        exact Cert.ReferenceIdeal.Hand.second_least p e h he)
  simpa only [decide_eq_true_eq] using h

end

end Cert.Proof

end
-- ==== Proof.Equal.lean ====
/-
  The two programs' results are equal where the tokens and the router's matrix are real.
-/
module

public import proofs.«01_k».proof.Defs
public import proofs.«01_k».proof.Proof.Logits
public import proofs.«01_k».proof.Proof.Frames
public import Idealize.ShloMosaic.Lib.ReduceAll

@[expose] public section

noncomputable section

namespace Cert.Proof

open Idealize.ShloMosaic Idealize.ShloMosaic.TcCoe Idealize.SL.Sem

instance facts_finite : Cert.Pre_finite.Facts where
  bcast_S_S2x2048x768 := by decide
  reducesTo_S2x2048x768_S_d0_1_2 := by decide
  h_S_ := by decide
  bcast_S_S768x8 := by decide
  reducesTo_S768x8_S_d0_1 := by decide

/-- An extended real whose absolute value is below the infinity is real. -/
theorem real_of_lt (x : EReal) (h : FloatOps.cmpf (F := Ideal) (φ := .f32) .olt (FloatOps.hostAbsf (F := Ideal) (φ := .f32) x) (Ideal.ofBits .f32 0x7F800000#32) = 1#1) : ∃ r : ℝ, x = r := by
  have hw : Ideal.ofBits .f32 0x7F800000#32 = ⊤ := by simp [Ideal.ofBits, Ideal.ieee]
  rw [hw] at h
  induction x with
  | bot => exact absurd h (by simp [FloatOps.cmpf, FloatOps.hostAbsf, Ideal.cmp])
  | top => exact absurd h (by simp [FloatOps.cmpf, FloatOps.hostAbsf, Ideal.cmp])
  | coe r => exact ⟨r, rfl⟩

/-- What the precondition says of the tokens and the router's matrix. -/
theorem real_inputs (X : FVec Ideal Cert.Pre_finite.S2x2048x768 .f32) (R : FVec Ideal Cert.Pre_finite.S768x8 .f32) (U W V)
    (h : Cert.Pre_finite.fn (F := Ideal) X R U W V = fun _ => 1#1) : (∀ j, ∃ x : ℝ, X j = x) ∧ (∀ j, ∃ x : ℝ, R j = x) := by
  have h := congrFun h (Shape.Idx.first (by decide))
  unfold Cert.Pre_finite.fn at h
  obtain ⟨h₁, h₂⟩ := IntOp.andi_eq_one.mp h
  exact ⟨fun j => real_of_lt _ (Host.reduce_andi_all _ _ _ _ _ h₁ j), fun j => real_of_lt _ (Host.reduce_andi_all _ _ _ _ _ h₂ j)⟩

section
variable (X : FVec Ideal Cert.ReferenceIdeal.S2x2048x768 .f32) (R : FVec Ideal Cert.ReferenceIdeal.S768x8 .f32)
  (U V : FVec Ideal Cert.ReferenceIdeal.S8x768x2048 .f32) (W : FVec Ideal Cert.ReferenceIdeal.S8x2048x768 .f32)

/-- An expert's output in the reference. -/
theorem outs_term (b : Fin 2) (e : Fin 8) (l : Fin 2048) (d : Fin 768) :
    Cert.ReferenceIdeal.Hand.outs W (Cert.ReferenceIdeal.Hand.gated (Cert.ReferenceIdeal.Hand.into U X) (Cert.ReferenceIdeal.Hand.into V X)) (ix4 b e l d)
      = Cert.KernelIdeal.Hand.term X U V W b l d e := by
  rw [Cert.ReferenceIdeal.Hand.outs_at]
  unfold Cert.KernelIdeal.Hand.term
  refine Finset.sum_congr rfl fun f _ => ?_
  have h : ∀ A : FVec Ideal Cert.ReferenceIdeal.S8x768x2048 .f32, Cert.ReferenceIdeal.Hand.into A X (ix4 b e l f) = ∑ k : Fin 768, X (ix3 b l k) * A (ix3 e k f) := fun A => by
    rw [Cert.ReferenceIdeal.Hand.into_at]
    exact Finset.sum_congr rfl fun k _ => mul_comm _ _
  rw [Cert.ReferenceIdeal.Hand.gated_at, h, h]
  exact mul_comm _ _

/-- The reference's output at an index. -/
theorem mixed_terms (P : FVec Ideal Cert.ReferenceIdeal.S2x8 .f32) (b : Fin 2) (l : Fin 2048) (d : Fin 768) :
    Cert.ReferenceIdeal.Hand.mixed (Cert.ReferenceIdeal.Hand.chosen (Cert.ReferenceIdeal.Hand.outs W (Cert.ReferenceIdeal.Hand.gated (Cert.ReferenceIdeal.Hand.into U X) (Cert.ReferenceIdeal.Hand.into V X)))
        (Cert.ReferenceIdeal.Hand.top P).2) (Cert.ReferenceIdeal.Hand.top P).1 (ix3 b l d)
      = P (ix2 b (Cert.ReferenceIdeal.Hand.place (fun e => P (ix2 b e)) 0)) * Cert.KernelIdeal.Hand.term X U V W b l d (Cert.ReferenceIdeal.Hand.place (fun e => P (ix2 b e)) 0)
        + P (ix2 b (Cert.ReferenceIdeal.Hand.place (fun e => P (ix2 b e)) 1)) * Cert.KernelIdeal.Hand.term X U V W b l d (Cert.ReferenceIdeal.Hand.place (fun e => P (ix2 b e)) 1) := by
  obtain ⟨v₀, i₀⟩ := Cert.ReferenceIdeal.Hand.top_at P b 0
  obtain ⟨v₁, i₁⟩ := Cert.ReferenceIdeal.Hand.top_at P b 1
  rw [Cert.ReferenceIdeal.Hand.mixed_at, Fin.sum_univ_two, Cert.ReferenceIdeal.Hand.chosen_at _ _ b 0 l d _ i₀, Cert.ReferenceIdeal.Hand.chosen_at _ _ b 1 l d _ i₁,
    outs_term, outs_term, v₀, v₁]
  exact congrArg₂ (· + ·) (mul_comm _ _) (mul_comm _ _)

variable (hX : ∀ j, ∃ x : ℝ, X j = x) (hR : ∀ j, ∃ x : ℝ, R j = x)

include hX hR

/-- The outputs are equal. -/
theorem outputs_eq (G) :
    Cert.KernelIdeal.Hand.outv (Cert.KernelIdeal.Hand.src (F := Ideal) X U W V G (Cert.KernelIdeal.Gen.k0_pay71 (F := Ideal) (Cert.KernelIdeal.Hand.tot (F := Ideal) X) R))
      = Cert.ReferenceIdeal.Hand.mixed (Cert.ReferenceIdeal.Hand.chosen (Cert.ReferenceIdeal.Hand.outs W (Cert.ReferenceIdeal.Hand.gated (Cert.ReferenceIdeal.Hand.into U X) (Cert.ReferenceIdeal.Hand.into V X)))
          (Cert.ReferenceIdeal.Hand.top (Cert.ReferenceIdeal.Hand.probs (Cert.ReferenceIdeal.Hand.exps (Cert.ReferenceIdeal.Hand.logits X R)))).2)
        (Cert.ReferenceIdeal.Hand.top (Cert.ReferenceIdeal.Hand.probs (Cert.ReferenceIdeal.Hand.exps (Cert.ReferenceIdeal.Hand.logits X R)))).1 := by
  funext j
  rw [eq_ix3 j]
  obtain ⟨h₀, h₁, h₂, h₃⟩ := choice X R hX hR (j 0)
  have hn : ∀ e : Fin 8, (BitVec.ofNat 32 e.val).toNat = e.val := by decide
  refine ((Cert.KernelIdeal.Hand.outv_eq_terms _ (j 0) (j 1) (j 2) _ _ ((congrArg BitVec.toNat h₁).trans (hn _)) ((congrArg BitVec.toNat h₃).trans (hn _))).trans ?_).trans
    (mixed_terms X U V W _ (j 0) (j 1) (j 2)).symm
  exact congrArg₂ (· + ·) (congrArg (· * _) h₀) (congrArg (· * _) h₂)

end

/-- The router's matrix is staged whole. -/
theorem staged (m : (ℓ : Loc Cert.KernelIdeal.nD Cert.KernelIdeal.τ Cert.KernelIdeal.sig) → Buf (Elt Ideal) ℓ) (c : Dev Cert.KernelIdeal.nD) :
    Cert.KernelIdeal.Gen.iblk (F := Ideal) m c 0 Cert.KernelIdeal.Gen.t0_0 = (m ((c.tc : Thread Cert.KernelIdeal.nD Cert.KernelIdeal.τ).loc Cert.KernelIdeal.main_arg1) : FVec Ideal Cert.KernelIdeal.S768x8 .f32) := by
  funext i
  refine congrArg (m ((c.tc : Thread Cert.KernelIdeal.nD Cert.KernelIdeal.τ).loc Cert.KernelIdeal.main_arg1)) (funext fun a => Fin.ext ?_)
  fin_cases a
  · exact (Nat.zero_add _).trans (Nat.one_mul _)
  · exact (Nat.zero_add _).trans (Nat.one_mul _)

/-- The two programs agree at the ideal values. -/
theorem algebraic : Cert.algebraic_KernelIdeal_ReferenceIdeal_pre_finite := by
  intro m g m' g' hpre hargs
  refine ⟨fun c => Cert.KernelIdeal.Hand.outv (Cert.KernelIdeal.Hand.srcs m c), fun c => Cert.KernelIdeal.Hand.lg m c, ?_, ?_⟩
  · exact (θ_run Cert.KernelIdeal.defs _ _).mono (fun r h c => ⟨(h.1 c).2.2.2.2.2.2, (h.1 c).2.2.2.2.2.1, (h.1 c).1, (h.1 c).2.1, (h.1 c).2.2.1, (h.1 c).2.2.2.1, (h.1 c).2.2.2.2.1⟩)
      (Cert.KernelIdeal.Hand.run (F := Ideal) m g)
  · refine (θ_run Cert.ReferenceIdeal.defs _ _).mono (fun r h c => ?_) (Cert.ReferenceIdeal.Value.run (F := Ideal) m' g')
    obtain ⟨ho, hl, ha⟩ := h c
    obtain ⟨e₀, e₁, e₂, e₃, e₄⟩ := hargs c
    obtain ⟨hX, hR⟩ := real_inputs _ _ _ _ _ (hpre c)
    refine ⟨ho.trans ?_, hl.trans ?_, ha⟩
    · rw [Cert.ReferenceIdeal.Hand.res_eq m' c _ _ _ _ _ e₀ e₁ e₂ e₃ e₄]
      refine (outputs_eq _ _ _ _ _ hX hR (Cert.KernelIdeal.Hand.V₀ m c Cert.KernelIdeal.main_v0_1)).symm.trans ?_
      exact congrArg (fun R => Cert.KernelIdeal.Hand.outv (Cert.KernelIdeal.Hand.src (F := Ideal) _ _ _ _ _ (Cert.KernelIdeal.Gen.k0_pay71 (F := Ideal) _ R))) (staged m c).symm
    · rw [e₀, e₁]
      refine (logits_eq _ _ hX hR).symm.trans ?_
      exact congrArg (Cert.KernelIdeal.Gen.k0_pay70 (F := Ideal) _) (staged m c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, facts_finite, frame_kernel, frame_ideal,
    fun m g _ => frame_ideal m g trivial, frame_reference, fun m g _ => frame_reference m g trivial, trivial, algebraic⟩

end Cert.Proof

end
